-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_below_inf [hPre_below_inf : Cert.Pre_below_inf.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_below_inf.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_below_inf [hPre_below_inf : Cert.Pre_below_inf.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_below_inf.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_below_inf [hKernel4Ideal : Cert.Kernel4Ideal.Facts] [hPre_below_inf : Cert.Pre_below_inf.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_below_inf m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_below_inf [hReference4Ideal : Cert.Reference4Ideal.Facts] [hPre_below_inf : Cert.Pre_below_inf.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_below_inf m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v74)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v74) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_below_inf [hKernel4Ideal : Cert.Kernel4Ideal.Facts] [hReference4Ideal : Cert.Reference4Ideal.Facts] [hPre_below_inf : Cert.Pre_below_inf.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_below_inf m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v51_0)) (v1 : (c : Dev Cert.Kernel4Ideal.nD) → Buf (Elt Ideal) ((c.tc : Thread Cert.Kernel4Ideal.nD Cert.Kernel4Ideal.τ).loc Cert.Kernel4Ideal.main_v51_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51_0) = v0 c
          ∧ r.2.mem ((c.tc : Thread Cert.Kernel4Ideal.nD Cert.Kernel4Ideal.τ).loc Cert.Kernel4Ideal.main_v51_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_below_inf : Cert.Pre_below_inf.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_below_inf (hKernel4Ideal := hKernel4Ideal) (hPre_below_inf := hPre_below_inf)
    ∧ quiescent_Reference4Ideal (hReference4Ideal := hReference4Ideal)
    ∧ quiescent_Reference4Ideal_pre_below_inf (hReference4Ideal := hReference4Ideal) (hPre_below_inf := hPre_below_inf)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_below_inf (hKernel4Ideal := hKernel4Ideal) (hReference4Ideal := hReference4Ideal) (hPre_below_inf := hPre_below_inf)
-- ==== Pre_below_inf.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩

class Facts : Prop where
  bcast_S_S64x2048 : S_.BroadcastsInDim S64x2048 (![] : Fin 0 → Fin S64x2048.rank)

variable [Facts]

def fn {F : FTy → Type} [FloatOps F] (main_arg0 : FVec F S33x64 .f32) (main_arg1 : FVec F S64 .f32) (main_arg2 : FVec F S64 .f32) (main_arg3 : FVec F S64x64 .f32) (main_arg4 : FVec F S64 .f32) (main_arg5 : FVec F S64 .f32) (main_arg6 : FVec F S64x64 .f32) (main_arg7 : FVec F S64 .f32) (main_arg8 : FVec F S64 .f32) (main_arg9 : FVec F S64x2048 .f32) : IVec S64x2048 1 :=
  let main_cst : FVec F S_ .f32 := constant S_ .f32 0x7F800000#32
  let main_v0 : FVec F S64x2048 .f32 := broadcastInDim S64x2048 ![] bcast_S_S64x2048 main_cst
  let main_v1 : IVec S64x2048 1 := cmpf .olt main_arg9 main_v0
  main_v1
-- ==== Pre_finite.lean ====
abbrev S4x4x8192x256 : Shape := ⟨4, ![4, 4, 8192, 256]⟩
abbrev S4x65x256x256 : Shape := ⟨4, ![4, 65, 256, 256]⟩
abbrev S1024 : Shape := ⟨1, ![1024]⟩
abbrev S_ : Shape := ⟨0, ![]⟩

class Facts : Prop where
  bitsLt_bf16_f32 : FTy.bits .bf16 < FTy.bits .f32
  bcast_S_S4x4x8192x256 : S_.BroadcastsInDim S4x4x8192x256 (![] : Fin 0 → Fin S4x4x8192x256.rank)
  bcast_S_S4x65x256x256 : S_.BroadcastsInDim S4x65x256x256 (![] : Fin 0 → Fin S4x65x256x256.rank)

variable [Facts]

def fn {F : FTy → Type} [FloatOps F] (main_arg0 : FVec F S4x4x8192x256 .bf16) (main_arg1 : FVec F S4x65x256x256 .bf16) (main_arg2 : FVec F S1024 .f32) : IVec S4x4x8192x256 1 × IVec S4x65x256x256 1 :=
  let main_v0 : FVec F S4x4x8192x256 .f32 := (extf .f32 · bitsLt_bf16_f32) main_arg0
  let main_v1 : FVec F S4x4x8192x256 .f32 := Host.absf main_v0
  let main_cst : FVec F S_ .f32 := constant S_ .f32 0x7F800000#32
  let main_v2 : FVec F S4x4x8192x256 .f32 := broadcastInDim S4x4x8192x256 ![] bcast_S_S4x4x8192x256 main_cst
  let main_v3 : IVec S4x4x8192x256 1 := cmpf .olt main_v1 main_v2
  let main_v4 : FVec F S4x65x256x256 .f32 := (extf .f32 · bitsLt_bf16_f32) main_arg1
  let main_v5 : FVec F S4x65x256x256 .f32 := Host.absf main_v4
  let main_cst_0 : FVec F S_ .f32 := constant S_ .f32 0x7F800000#32
  let main_v6 : FVec F S4x65x256x256 .f32 := broadcastInDim S4x65x256x256 ![] bcast_S_S4x65x256x256 main_cst_0
  let main_v7 : IVec S4x65x256x256 1 := cmpf .olt main_v5 main_v6
  (main_v3, main_v7)
-- ==== Kernel.lean ====
abbrev S4x8192x1024 : Shape := ⟨3, ![4, 8192, 1024]⟩
abbrev S1024 : Shape := ⟨1, ![1024]⟩
abbrev S1024x7168 : Shape := ⟨2, ![1024, 7168]⟩
abbrev S3x3072 : Shape := ⟨2, ![3, 3072]⟩
abbrev S3072 : Shape := ⟨1, ![3072]⟩
abbrev S8x128x128 : Shape := ⟨3, ![8, 128, 128]⟩
abbrev S8x128 : Shape := ⟨2, ![8, 128]⟩
abbrev S1024x4096 : Shape := ⟨2, ![1024, 4096]⟩
abbrev S1024x4x4x256 : Shape := ⟨4, ![1024, 4, 4, 256]⟩
abbrev S1024x3072 : Shape := ⟨2, ![1024, 3072]⟩
abbrev S1024x3x4x256 : Shape := ⟨4, ![1024, 3, 4, 256]⟩
abbrev S1024x4x3x256 : Shape := ⟨4, ![1024, 4, 3, 256]⟩
abbrev S3x3x1024 : Shape := ⟨3, ![3, 3, 1024]⟩
abbrev S9x1024 : Shape := ⟨2, ![9, 1024]⟩
abbrev S3x1024 : Shape := ⟨2, ![3, 1024]⟩
abbrev S8x128x1 : Shape := ⟨3, ![8, 128, 1]⟩
abbrev S1x1024 : Shape := ⟨2, ![1, 1024]⟩
abbrev S4x4x8192x256 : Shape := ⟨4, ![4, 4, 8192, 256]⟩
abbrev S1x512x1024 : Shape := ⟨3, ![1, 512, 1024]⟩
abbrev S1x8x1024 : Shape := ⟨3, ![1, 8, 1024]⟩
abbrev S1x4x512x256 : Shape := ⟨4, ![1, 4, 512, 256]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S528x1024 : Shape := ⟨2, ![528, 1024]⟩
abbrev S1024x1024 : Shape := ⟨2, ![1024, 1024]⟩
abbrev S3x256 : Shape := ⟨2, ![3, 256]⟩
abbrev S1x256 : Shape := ⟨2, ![1, 256]⟩
abbrev S512x256 : Shape := ⟨2, ![512, 256]⟩
abbrev S1x1x512x256 : Shape := ⟨4, ![1, 1, 512, 256]⟩
abbrev S1024x768 : Shape := ⟨2, ![1024, 768]⟩
abbrev S512x768 : Shape := ⟨2, ![512, 768]⟩
abbrev S512x128 : Shape := ⟨2, ![512, 128]⟩
abbrev S1x128 : Shape := ⟨2, ![1, 128]⟩
abbrev S128x128 : Shape := ⟨2, ![128, 128]⟩
abbrev S128x512 : Shape := ⟨2, ![128, 512]⟩
abbrev S1x128x128 : Shape := ⟨3, ![1, 128, 128]⟩
abbrev S1x128x1 : Shape := ⟨3, ![1, 128, 1]⟩
abbrev S128x1 : Shape := ⟨2, ![128, 1]⟩
abbrev S1x512x128 : Shape := ⟨3, ![1, 512, 128]⟩

abbrev nBuf : Space → Nat
  | .hbm => 30
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7168, .f32⟩
  | .hbm, ⟨3, _⟩ => ⟨S3x3072, .f32⟩
  | .hbm, ⟨4, _⟩ => ⟨S3072, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x7168, .bf16⟩
  | .hbm, ⟨10, _⟩ => ⟨S1024x4096, .bf16⟩
  | .hbm, ⟨11, _⟩ => ⟨S1024x4x4x256, .bf16⟩
  | .hbm, ⟨12, _⟩ => ⟨S1024x4x4x256, .bf16⟩
  | .hbm, ⟨13, _⟩ => ⟨S1024x4096, .bf16⟩
  | .hbm, ⟨14, _⟩ => ⟨S1024x3072, .bf16⟩
  | .hbm, ⟨15, _⟩ => ⟨S1024x3x4x256, .bf16⟩
  | .hbm, ⟨16, _⟩ => ⟨S1024x4x3x256, .bf16⟩
  | .hbm, ⟨17, _⟩ => ⟨S1024x3072, .bf16⟩
  | .hbm, ⟨18, _⟩ => ⟨S3x3x1024, .f32⟩
  | .hbm, ⟨19, _⟩ => ⟨S3x3x1024, .f32⟩
  | .hbm, ⟨20, _⟩ => ⟨S9x1024, .f32⟩
  | .hbm, ⟨21, _⟩ => ⟨S3x1024, .f32⟩
  | .hbm, ⟨22, _⟩ => ⟨S8x128x1, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S8x128x128, .bf16⟩
  | .hbm, ⟨27, _⟩ => ⟨S4x4x8192x256, .bf16⟩
  | .hbm, ⟨28, _⟩ => ⟨S4x4x8192x256, .bf16⟩
  | .hbm, ⟨29, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x4096, .bf16⟩
  | .local _ .vmem, ⟨8, _⟩ => ⟨S1024x3072, .bf16⟩
  | .local _ .vmem, ⟨9, _⟩ => ⟨S9x1024, .f32⟩
  | .local _ .vmem, ⟨10, _⟩ => ⟨S3x1024, .f32⟩
  | .local _ .vmem, ⟨11, _⟩ => ⟨S1x1024, .f32⟩
  | .local _ .vmem, ⟨12, _⟩ => ⟨S1x1024, .f32⟩
  | .local _ .vmem, ⟨13, _⟩ => ⟨S8x128x128, .bf16⟩
  | .local _ .vmem, ⟨14, _⟩ => ⟨S8x128x1, .f32⟩
  | .local _ .vmem, ⟨15, _⟩ => ⟨S1x4x512x256, .bf16⟩
  | .local _ .vmem, ⟨16, _⟩ => ⟨S1x4x512x256, .bf16⟩
  | .local _ .vmem, ⟨17, _⟩ => ⟨S1x4x512x256, .bf16⟩
  | .local _ .vmem, ⟨18, _⟩ => ⟨S1x4x512x256, .bf16⟩
  | .local _ .vmem, ⟨19, _⟩ => ⟨S1x512x1024, .bf16⟩
  | .local _ .vmem, ⟨20, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S9x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x8192x1024 : Shape := ⟨3, ![4, 8192, 1024]⟩
abbrev S1024 : Shape := ⟨1, ![1024]⟩
abbrev S1024x7168 : Shape := ⟨2, ![1024, 7168]⟩
abbrev S3x3072 : Shape := ⟨2, ![3, 3072]⟩
abbrev S3072 : Shape := ⟨1, ![3072]⟩
abbrev S8x128x128 : Shape := ⟨3, ![8, 128, 128]⟩
abbrev S8x128 : Shape := ⟨2, ![8, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7168 : Shape := ⟨3, ![4, 8192, 7168]⟩
abbrev S4x8192x3072 : Shape := ⟨3, ![4, 8192, 3072]⟩
abbrev S4x8194x3072 : Shape := ⟨3, ![4, 8194, 3072]⟩
abbrev S1x3072 : Shape := ⟨2, ![1, 3072]⟩
abbrev S1x1x3072 : Shape := ⟨3, ![1, 1, 3072]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x8x128 : Shape := ⟨4, ![1, 1, 8, 128]⟩
abbrev S4x64x128x8x128 : Shape := ⟨5, ![4, 64, 128, 8, 128]⟩
abbrev S8x4x64x128x128 : Shape := ⟨5, ![8, 4, 64, 128, 128]⟩
abbrev S128x8 : Shape := ⟨2, ![128, 8]⟩
abbrev S1x1x128x8x1 : Shape := ⟨5, ![1, 1, 128, 8, 1]⟩
abbrev S4x8192x4x256 : Shape := ⟨4, ![4, 8192, 4, 256]⟩
abbrev S4x4x8192x256 : Shape := ⟨4, ![4, 4, 8192, 256]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S1024, .f32⟩
  | 2 => ⟨S1024x7168, .f32⟩
  | 3 => ⟨S3x3072, .f32⟩
  | 4 => ⟨S3072, .f32⟩
  | 5 => ⟨S1024, .f32⟩
  | 6 => ⟨S1024, .f32⟩
  | 7 => ⟨S8x128x128, .f32⟩
  | 8 => ⟨S8x128, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S4x8192x7168, .f32⟩
  | 26 => ⟨S4x8192x3072, .f32⟩
  | 27 => ⟨S4x8192x1024, .f32⟩
  | 28 => ⟨S4x8192x1024, .f32⟩
  | 29 => ⟨S4x8192x1024, .f32⟩
  | 30 => ⟨S4x8192x1024, .f32⟩
  | 31 => ⟨S_, .i32⟩
  | 32 => ⟨S_, .f32⟩
  | 33 => ⟨S4x8194x3072, .f32⟩
  | 34 => ⟨S4x8192x3072, .f32⟩
  | 35 => ⟨S1x3072, .f32⟩
  | 36 => ⟨S3072, .f32⟩
  | 37 => ⟨S1x1x3072, .f32⟩
  | 38 => ⟨S4x8192x3072, .f32⟩
  | 39 => ⟨S4x8192x3072, .f32⟩
  | 40 => ⟨S4x8192x3072, .f32⟩
  | 41 => ⟨S1x3072, .f32⟩
  | 42 => ⟨S3072, .f32⟩
  | 43 => ⟨S1x1x3072, .f32⟩
  | 44 => ⟨S4x8192x3072, .f32⟩
  | 45 => ⟨S4x8192x3072, .f32⟩
  | 46 => ⟨S4x8192x3072, .f32⟩
  | 47 => ⟨S4x8192x3072, .f32⟩
  | 48 => ⟨S1x3072, .f32⟩
  | 49 => ⟨S3072, .f32⟩
  | 50 => ⟨S1x1x3072, .f32⟩
  | 51 => ⟨S4x8192x3072, .f32⟩
  | 52 => ⟨S4x8192x3072, .f32⟩
  | 53 => ⟨S4x8192x3072, .f32⟩
  | 54 => ⟨S1x1x3072, .f32⟩
  | 55 => ⟨S4x8192x3072, .f32⟩
  | 56 => ⟨S4x8192x3072, .f32⟩
  | 57 => ⟨S4x8192x1024, .f32⟩
  | 58 => ⟨S4x8192x1024, .f32⟩
  | 59 => ⟨S4x8192x1024, .f32⟩
  | 60 => ⟨S4x8192x1024, .f32⟩
  | 61 => ⟨S4x8192x1024, .f32⟩
  | 62 => ⟨S4x8192x1024, .f32⟩
  | 63 => ⟨S_, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S4x8192x1024, .f32⟩
  | 70 => ⟨S4x8192x1024, .f32⟩
  | 71 => ⟨S4x8192x8x128, .f32⟩
  | 72 => ⟨S_, .f32⟩
  | 73 => ⟨S4x8192x8, .f32⟩
  | 74 => ⟨S4x8192x8x1, .f32⟩
  | 75 => ⟨S_, .f32⟩
  | 76 => ⟨S4x8192x8x1, .f32⟩
  | 77 => ⟨S4x8192x8x1, .f32⟩
  | 78 => ⟨S4x8192x8x128, .f32⟩
  | 79 => ⟨S4x8192x8x128, .f32⟩
  | 80 => ⟨S4x8192x8x128, .f32⟩
  | 81 => ⟨S_, .f32⟩
  | 82 => ⟨S4x8192x8, .f32⟩
  | 83 => ⟨S4x8192x8x1, .f32⟩
  | 84 => ⟨S_, .f32⟩
  | 85 => ⟨S4x8192x8x1, .f32⟩
  | 86 => ⟨S4x8192x8x1, .f32⟩
  | 87 => ⟨S4x8192x8x128, .f32⟩
  | 88 => ⟨S4x8192x8x128, .f32⟩
  | 89 => ⟨S_, .f32⟩
  | 90 => ⟨S4x8192x8x1, .f32⟩
  | 91 => ⟨S4x8192x8x1, .f32⟩
  | 92 => ⟨S4x8192x8x1, .f32⟩
  | 93 => ⟨S4x8192x8x128, .f32⟩
  | 94 => ⟨S4x8192x8x128, .f32⟩
  | 95 => ⟨S8x128, .f32⟩
  | 96 => ⟨S1x1x8x128, .f32⟩
  | 97 => ⟨S4x8192x8x128, .f32⟩
  | 98 => ⟨S4x8192x8x128, .f32⟩
  | 99 => ⟨S8x128, .f32⟩
  | 100 => ⟨S1x1x8x128, .f32⟩
  | 101 => ⟨S4x8192x8x128, .f32⟩
  | 102 => ⟨S4x8192x8x128, .f32⟩
  | 103 => ⟨S4x64x128x8x128, .f32⟩
  | 104 => ⟨S8x4x64x128x128, .f32⟩
  | 105 => ⟨S4x64x128x8x128, .f32⟩
  | 106 => ⟨S128x8, .f32⟩
  | 107 => ⟨S1x1x128x8x1, .f32⟩
  | 108 => ⟨S4x64x128x8x128, .f32⟩
  | 109 => ⟨S4x64x128x8x128, .f32⟩
  | 110 => ⟨S4x8192x1024, .f32⟩
  | 111 => ⟨S4x8192x1024, .f32⟩
  | 112 => ⟨S4x8192x1024, .f32⟩
  | 113 => ⟨S4x8192x1024, .f32⟩
  | 114 => ⟨S_, .f32⟩
  | 115 => ⟨S4x8192x1024, .f32⟩
  | 116 => ⟨S4x8192x1024, .f32⟩
  | 117 => ⟨S_, .f32⟩
  | 118 => ⟨S4x8192x1024, .f32⟩
  | 119 => ⟨S4x8192x1024, .f32⟩
  | 120 => ⟨S4x8192x1024, .f32⟩
  | 121 => ⟨S4x8192x1024, .f32⟩
  | 122 => ⟨S4x8192x4x256, .f32⟩
  | 123 => ⟨S4x4x8192x256, .f32⟩
  | 124 => ⟨S4x4x8192x256, .bf16⟩
  | 125 => ⟨S4x8192x4x256, .f32⟩
  | 126 => ⟨S4x4x8192x256, .f32⟩
  | 127 => ⟨S4x4x8192x256, .bf16⟩
  | _ => ⟨S4x8192x1024, .f32⟩

abbrev hbmTy0_1 (i : Nat) : BufTy := match i % 128 with
  | 0 => ⟨S4x8192x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_2 : Ref sig .tc := ⟨.hbm, 72, rfl⟩
abbrev main_v50 : Ref sig .tc := ⟨.hbm, 73, rfl⟩
abbrev main_v51 : Ref sig .tc := ⟨.hbm, 74, rfl⟩
abbrev main_cst_3 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_4 : Ref sig .tc := ⟨.hbm, 81, rfl⟩
abbrev main_v57 : Ref sig .tc := ⟨.hbm, 82, rfl⟩
abbrev main_v58 : Ref sig .tc := ⟨.hbm, 83, rfl⟩
abbrev main_cst_5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel2.lean ====
abbrev S4x4x8192x256 : Shape := ⟨4, ![4, 4, 8192, 256]⟩
abbrev S4x8192x1024 : Shape := ⟨3, ![4, 8192, 1024]⟩
abbrev S2048x1024 : Shape := ⟨2, ![2048, 1024]⟩
abbrev S1024 : Shape := ⟨1, ![1024]⟩
abbrev S1x1024 : Shape := ⟨2, ![1, 1024]⟩
abbrev S1x4x512x256 : Shape := ⟨4, ![1, 4, 512, 256]⟩
abbrev S1x512x1024 : Shape := ⟨3, ![1, 512, 1024]⟩
abbrev S1x1x512x256 : Shape := ⟨4, ![1, 1, 512, 256]⟩
abbrev S512x256 : Shape := ⟨2, ![512, 256]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x4x8192x256, .bf16⟩
  | .hbm, ⟨1, _⟩ => ⟨S4x4x8192x256, .bf16⟩
  | .hbm, ⟨2, _⟩ => ⟨S4x8192x1024, .bf16⟩
  | .hbm, ⟨3, _⟩ => ⟨S4x8192x1024, .f32⟩
  | .hbm, ⟨4, _⟩ => ⟨S2048x1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S4x8192x1024, .f32⟩
  | .local _ .vmem, ⟨0, _⟩ => ⟨S1x4x512x256, .bf16⟩
  | .local _ .vmem, ⟨1, _⟩ => ⟨S1x4x512x256, .bf16⟩
  | .local _ .vmem, ⟨2, _⟩ => ⟨S1x4x512x256, .bf16⟩
  | .local _ .vmem, ⟨3, _⟩ => ⟨S1x4x512x256, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x4x8192x256 : Shape := ⟨4, ![4, 4, 8192, 256]⟩
abbrev S4x8192x1024 : Shape := ⟨3, ![4, 8192, 1024]⟩
abbrev S2048x1024 : Shape := ⟨2, ![2048, 1024]⟩
abbrev S1024 : Shape := ⟨1, ![1024]⟩
abbrev S4x8192x4x256 : Shape := ⟨4, ![4, 8192, 4, 256]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x4x8192x256, .bf16⟩
  | .hbm, ⟨1, _⟩ => ⟨S4x4x8192x256, .bf16⟩
  | .hbm, ⟨2, _⟩ => ⟨S4x8192x1024, .bf16⟩
  | .hbm, ⟨3, _⟩ => ⟨S4x8192x1024, .f32⟩
  | .hbm, ⟨4, _⟩ => ⟨S2048x1024, .f32⟩
  | .hbm, ⟨5, _⟩ => ⟨S1024, .f32⟩
  | .hbm, ⟨6, _⟩ => ⟨S4x4x8192x256, .f32⟩
  | .hbm, ⟨7, _⟩ => ⟨S4x4x8192x256, .f32⟩
  | .hbm, ⟨8, _⟩ => ⟨S4x4x8192x256, .f32⟩
  | .hbm, ⟨9, _⟩ => ⟨S4x8192x4x256, .f32⟩
  | .hbm, ⟨10, _⟩ => ⟨S4x8192x1024, .f32⟩
  | .hbm, ⟨11, _⟩ => ⟨S4x8192x1024, .f32⟩
  | .hbm, ⟨12, _⟩ => ⟨S4x8192x2048, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | _, _ => ⟨S4x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S4x4x8192x256 : Shape := ⟨4, ![4, 4, 8192, 256]⟩
abbrev S4x65x256x256 : Shape := ⟨4, ![4, 65, 256, 256]⟩
abbrev S1024 : Shape := ⟨1, ![1024]⟩
abbrev S128 : Shape := ⟨1, ![128]⟩
abbrev S128x1x1 : Shape := ⟨3, ![128, 1, 1]⟩
abbrev S65 : Shape := ⟨1, ![65]⟩
abbrev S1x65x1 : Shape := ⟨3, ![1, 65, 1]⟩
abbrev S1x1x128 : Shape := ⟨3, ![1, 1, 128]⟩
abbrev S_ : Shape := ⟨0, ![]⟩
abbrev S128x1x128 : Shape := ⟨3, ![128, 1, 128]⟩
abbrev S128x65x128 : Shape := ⟨3, ![128, 65, 128]⟩
abbrev S128x7x128 : Shape := ⟨3, ![128, 7, 128]⟩
abbrev S128x144x128 : Shape := ⟨3, ![128, 144, 128]⟩
abbrev S1x7x1 : Shape := ⟨3, ![1, 7, 1]⟩
abbrev S1x144x1 : Shape := ⟨3, ![1, 144, 1]⟩
abbrev S128x144x64 : Shape := ⟨3, ![128, 144, 64]⟩
abbrev S128x64x144 : Shape := ⟨3, ![128, 64, 144]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S1x1024 : Shape := ⟨2, ![1, 1024]⟩
abbrev S4x4x64x32768 : Shape := ⟨4, ![4, 4, 64, 32768]⟩
abbrev S1x1x64x32768 : Shape := ⟨4, ![1, 1, 64, 32768]⟩
abbrev S1x65x256x256 : Shape := ⟨4, ![1, 65, 256, 256]⟩
abbrev S1x256 : Shape := ⟨2, ![1, 256]⟩
abbrev S2x19456x128 : Shape := ⟨3, ![2, 19456, 128]⟩
abbrev S1x144x64 : Shape := ⟨3, ![1, 144, 64]⟩
abbrev S144x64 : Shape := ⟨2, ![144, 64]⟩
abbrev S1x1x64x256 : Shape := ⟨4, ![1, 1, 64, 256]⟩
abbrev S64x256 : Shape := ⟨2, ![64, 256]⟩
abbrev S144x256 : Shape := ⟨2, ![144, 256]⟩
abbrev S144x128 : Shape := ⟨2, ![144, 128]⟩
abbrev S1x144x128 : Shape := ⟨3, ![1, 144, 128]⟩
abbrev S1x19456x128 : Shape := ⟨3, ![1, 19456, 128]⟩
abbrev S19456x128 : Shape := ⟨2, ![19456, 128]⟩
abbrev S1x1x256x256 : Shape := ⟨4, ![1, 1, 256, 256]⟩
abbrev S1x64x144 : Shape := ⟨3, ![1, 64, 144]⟩
abbrev S64x144 : Shape := ⟨2, ![64, 144]⟩

abbrev nBuf : Space → Nat
  | .hbm => 94
  | .vmem => 12
  | .smem => 0
  | _ => 0

abbrev bufTy : (tb : Table) → Fin (tcTables nBuf tb) → BufTy
  | .hbm, ⟨0, _⟩ => ⟨S4x4x8192x256, .bf16⟩
  | .hbm, ⟨1, _⟩ => ⟨S4x65x256x256, .bf16⟩
  | .hbm, ⟨2, _⟩ => ⟨S1024, .f32⟩
  | .hbm, ⟨3, _⟩ => ⟨S128, .i32⟩
  | .hbm, ⟨4, _⟩ => ⟨S128x1x1, .i32⟩
  | .hbm, ⟨5, _⟩ => ⟨S65, .i32⟩
  | .hbm, ⟨6, _⟩ => ⟨S1x65x1, .i32⟩
  | .hbm, ⟨7, _⟩ => ⟨S128, .i32⟩
  | .hbm, ⟨8, _⟩ => ⟨S1x1x128, .i32⟩
  | .hbm, ⟨9, _⟩ => ⟨S_, .i32⟩
  | .hbm, ⟨10, _⟩ => ⟨S1x1x128, .i32⟩
  | .hbm, ⟨11, _⟩ => ⟨S1x1x128, .i32⟩
  | .hbm, ⟨12, _⟩ => ⟨S128x1x128, .i32⟩
  | .hbm, ⟨13, _⟩ => ⟨S128x1x128, .i32⟩
  | .hbm, ⟨14, _⟩ => ⟨S128x1x128, .i32⟩
  | .hbm, ⟨15, _⟩ => ⟨S128x65x128, .i32⟩
  | .hbm, ⟨16, _⟩ => ⟨S128x65x128, .i32⟩
  | .hbm, ⟨17, _⟩ => ⟨S128x65x128, .i32⟩
  | .hbm, ⟨18, _⟩ => ⟨S_, .i32⟩
  | .hbm, ⟨19, _⟩ => ⟨S128x65x128, .i32⟩
  | .hbm, ⟨20, _⟩ => ⟨S128x65x128, .i32⟩
  | .hbm, ⟨21, _⟩ => ⟨S128x65x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x65x128, .f32⟩
  | .hbm, ⟨29, _⟩ => ⟨S128x65x128, .f32⟩
  | .hbm, ⟨30, _⟩ => ⟨S_, .f32⟩
  | .hbm, ⟨31, _⟩ => ⟨S128x7x128, .f32⟩
  | .hbm, ⟨32, _⟩ => ⟨S128x65x128, .f32⟩
  | .hbm, ⟨33, _⟩ => ⟨S128x65x128, .f32⟩
  | .hbm, ⟨34, _⟩ => ⟨S128x65x128, .f32⟩
  | .hbm, ⟨35, _⟩ => ⟨S128x144x128, .f32⟩
  | .hbm, ⟨36, _⟩ => ⟨S_, .i32⟩
  | .hbm, ⟨37, _⟩ => ⟨S1x65x1, .i32⟩
  | .hbm, ⟨38, _⟩ => ⟨S1x65x1, .i1⟩
  | .hbm, ⟨39, _⟩ => ⟨S_, .i32⟩
  | .hbm, ⟨40, _⟩ => ⟨S1x65x1, .i32⟩
  | .hbm, ⟨41, _⟩ => ⟨S1x65x1, .i1⟩
  | .hbm, ⟨42, _⟩ => ⟨S1x65x1, .i1⟩
  | .hbm, ⟨43, _⟩ => ⟨S_, .f32⟩
  | .hbm, ⟨44, _⟩ => ⟨S_, .f32⟩
  | .hbm, ⟨45, _⟩ => ⟨S1x65x1, .f32⟩
  | .hbm, ⟨46, _⟩ => ⟨S1x65x1, .f32⟩
  | .hbm, ⟨47, _⟩ => ⟨S1x65x1, .f32⟩
  | .hbm, ⟨48, _⟩ => ⟨S1x7x1, .f32⟩
  | .hbm, ⟨49, _⟩ => ⟨S1x7x1, .f32⟩
  | .hbm, ⟨50, _⟩ => ⟨S1x65x1, .f32⟩
  | .hbm, ⟨51, _⟩ => ⟨S1x65x1, .f32⟩
  | .hbm, ⟨52, _⟩ => ⟨S1x144x1, .f32⟩
  | .hbm, ⟨53, _⟩ => ⟨S128x144x64, .f32⟩
  | .hbm, ⟨54, _⟩ => ⟨S128x144x64, .f32⟩
  | .hbm, ⟨55, _⟩ => ⟨S128x144x64, .f32⟩
  | .hbm, ⟨56, _⟩ => ⟨S128x64x144, .f32⟩
  | .hbm, ⟨57, _⟩ => ⟨S128, .i32⟩
  | .hbm, ⟨58, _⟩ => ⟨S128x1, .i32⟩
  | .hbm, ⟨59, _⟩ => ⟨S128, .i32⟩
  | .hbm, ⟨60, _⟩ => ⟨S1x128, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x256, .f32⟩
  | .hbm, ⟨79, _⟩ => ⟨S128x128, .f32⟩
  | .hbm, ⟨80, _⟩ => ⟨S128x256, .f32⟩
  | .hbm, ⟨81, _⟩ => ⟨S256x256, .f32⟩
  | .hbm, ⟨82, _⟩ => ⟨S128x128, .f32⟩
  | .hbm, ⟨83, _⟩ => ⟨S128x256, .f32⟩
  | .hbm, ⟨84, _⟩ => ⟨S128x256, .f32⟩
  | .hbm, ⟨85, _⟩ => ⟨S256x256, .f32⟩
  | .hbm, ⟨86, _⟩ => ⟨S128x144x128, .bf16⟩
  | .hbm, ⟨87, _⟩ => ⟨S128x64x144, .bf16⟩
  | .hbm, ⟨88, _⟩ => ⟨S256x256, .bf16⟩
  | .hbm, ⟨89, _⟩ => ⟨S256x256, .bf16⟩
  | .hbm, ⟨90, _⟩ => ⟨S128x144x64, .bf16⟩
  | .hbm, ⟨91, _⟩ => ⟨S1x1024, .f32⟩
  | .hbm, ⟨92, _⟩ => ⟨S4x4x64x32768, .bf16⟩
  | .hbm, ⟨93, _⟩ => ⟨S4x4x64x32768, .bf16⟩
  | .local _ .vmem, ⟨0, _⟩ => ⟨S1x1x64x32768, .bf16⟩
  | .local _ .vmem, ⟨1, _⟩ => ⟨S1x1x64x32768, .bf16⟩
  | .local _ .vmem, ⟨2, _⟩ => ⟨S1x65x256x256, .bf16⟩
  | .local _ .vmem, ⟨3, _⟩ => ⟨S128x144x64, .bf16⟩
  | .local _ .vmem, ⟨4, _⟩ => ⟨S128x64x144, .bf16⟩
  | .local _ .vmem, ⟨5, _⟩ => ⟨S256x256, .bf16⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x1x64x32768, .bf16⟩
  | .local _ .vmem, ⟨10, _⟩ => ⟨S1x1x64x32768, .bf16⟩
  | .local _ .vmem, ⟨11, _⟩ => ⟨S2x19456x128, .f32⟩
  | _, _ => ⟨S4x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v5 : BitVec 32 := Scalar.muli arg11 c256_i32
  v5
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c152_i32 : BitVec 32 := 152#32
  let v7 : BitVec 32 := Scalar.muli arg11 c152_i32
  v7
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v9 : Index := Scalar.indexCast arg11
  let c0_9 : Index := 0#32
  let c0_10 : Index := 0#32
  ![v9.toNat, 0, 0]
def k0_off2 (k0_t1 : Fin k0_t1_loop.trips) : Fin 4 → Nat :=
  let c0_11 : Index := 0#32
  let c0_12 : Index := 0#32
  let c0_13 : Index := 0#32
  let c0_i32 : BitVec 32 := 0#32
  let c1_i32 : BitVec 32 := 1#32
  let arg11 : BitVec 32 := Scf.iv c0_i32 c1_i32 k0_t1
  let c256_i32 : BitVec 32 := 256#32
  let v5 : BitVec 32 := Scalar.muli arg11 c256_i32
  let v6 : BitVec 32 := v5
  let v12 : Index := Scalar.indexCast v6
  ![0, 0, 0, v12.toNat]
def k0_off3 (k0_t1 : Fin k0_t1_loop.trips) : Fin 3 → Nat :=
  let c0_14 : Index := 0#32
  let c0_i32 : BitVec 32 := 0#32
  let c1_i32 : BitVec 32 := 1#32
  let arg11 : BitVec 32 := Scf.iv c0_i32 c1_i32 k0_t1
  let c152_i32 : BitVec 32 := 152#32
  let v7 : BitVec 32 := Scalar.muli arg11 c152_i32
  let v8 : BitVec 32 := v7
  let v17 : Index := Scalar.indexCast v8
  let c0_15 : Index := 0#32
  ![0, v17.toNat, 0]
def k0_off4 (k0_t1 : Fin k0_t1_loop.trips) : Fin 3 → Nat :=
  let c1 : Index := 1#32
  let c0_i32 : BitVec 32 := 0#32
  let c1_i32 : BitVec 32 := 1#32
  let arg11 : BitVec 32 := Scf.iv c0_i32 c1_i32 k0_t1
  let c152_i32 : BitVec 32 := 152#32
  let v7 : BitVec 32 := Scalar.muli arg11 c152_i32
  let v8 : BitVec 32 := v7
  let v22 : Index := Scalar.indexCast v8
  let c0_16 : Index := 0#32
  ![1, v22.toNat, 0]
@[reducible] def k0_t2_loop : Scf.Loop 32 :=
  let c0_i32_1 : BitVec 32 := 0#32
  let c65_i32 : BitVec 32 := 65#32
  let v1 : BitVec 32 := Scalar.addi c0_i32_1 c65_i32
  let c1_i32_2 : BitVec 32 := 1#32
  ⟨c0_i32_1, v1, c1_i32_2⟩
def k0_off5 (k0_t2 : Fin k0_t2_loop.trips) (c0_i32_11 : BitVec 32) : Fin 2 → Nat :=
  let c0_i32_1 : BitVec 32 := 0#32
  let c1_i32_2 : BitVec 32 := 1#32
  let arg11 : BitVec 32 := Scf.iv c0_i32_1 c1_i32_2 k0_t2
  let v7 : BitVec 32 := Scalar.addi arg11 c0_i32_11
  let v10 : Index := Scalar.indexCast v7
  let c0_15 : Index := 0#32
  ![v10.toNat, 0]
def k0_off6 (k0_t2 : Fin k0_t2_loop.trips) : Fin 4 → Nat :=
  let c0_30 : Index := 0#32
  let c0_i32_1 : BitVec 32 := 0#32
  let c1_i32_2 : BitVec 32 := 1#32
  let arg11 : BitVec 32 := Scf.iv c0_i32_1 c1_i32_2 k0_t2
  let v32 : Index := Scalar.indexCast arg11
  let c0_31 : Index := 0#32
  let c0_32 : Index := 0#32
  ![0, v32.toNat, 0, 0]
@[reducible] def k0_t3_loop : Scf.Loop 32 :=
  let c0_i32_5 : BitVec 32 := 0#32
  let c128_i32_6 : BitVec 32 := 128#32
  let v4 : BitVec 32 := Scalar.addi c0_i32_5 c128_i32_6
  let c1_i32_7 : BitVec 32 := 1#32
  ⟨c0_i32_5, v4, c1_i32_7⟩
def k0_mult3 (k0_t3 : Fin k0_t3_loop.trips) : BitVec 32 :=
  let c0_i32_5 : BitVec 32 := 0#32
  let c1_i32_7 : BitVec 32 := 1#32
  let arg11 : BitVec 32 := Scf.iv c0_i32_5 c1_i32_7 k0_t3
  let c256_i32 : BitVec 32 := 256#32
  let v5 : BitVec 32 := Scalar.muli arg11 c256_i32
  v5
def k0_mult4 (k0_t3 : Fin k0_t3_loop.trips) : BitVec 32 :=
  let c0_i32_5 : BitVec 32 := 0#32
  let c1_i32_7 : BitVec 32 := 1#32
  let arg11 : BitVec 32 := Scf.iv c0_i32_5 c1_i32_7 k0_t3
  let c152_i32 : BitVec 32 := 152#32
  let v7 : BitVec 32 := Scalar.muli arg11 c152_i32
  v7
def k0_off7 (k0_t3 : Fin k0_t3_loop.trips) : Fin 3 → Nat :=
  let c0_9 : Index := 0#32
  let c0_i32_5 : BitVec 32 := 0#32
  let c1_i32_7 : BitVec 32 := 1#32
  let arg11 : BitVec 32 := Scf.iv c0_i32_5 c1_i32_7 k0_t3
  let c152_i32 : BitVec 32 := 152#32
  let v7 : BitVec 32 := Scalar.muli arg11 c152_i32
  let v8 : BitVec 32 := v7
  let v9 : Index := Scalar.indexCast v8
  let c0_10 : Index := 0#32
  ![0, v9.toNat, 0]
def k0_off8 (k0_t3 : Fin k0_t3_loop.trips) : Fin 3 → Nat :=
  let c1 : Index := 1#32
  let c0_i32_5 : BitVec 32 := 0#32
  let c1_i32_7 : BitVec 32 := 1#32
  let arg11 : BitVec 32 := Scf.iv c0_i32_5 c1_i32_7 k0_t3
  let c152_i32 : BitVec 32 := 152#32
  let v7 : BitVec 32 := Scalar.muli arg11 c152_i32
  let v8 : BitVec 32 := v7
  let v12 : Index := Scalar.indexCast v8
  let c0_11 : Index := 0#32
  ![1, v12.toNat, 0]
def k0_off9 (k0_t3 : Fin k0_t3_loop.trips) : Fin 3 → Nat :=
  let c0_i32_5 : BitVec 32 := 0#32
  let c1_i32_7 : BitVec 32 := 1#32
  let arg11 : BitVec 32 := Scf.iv c0_i32_5 c1_i32_7 k0_t3
  let v16 : Index := Scalar.indexCast arg11
  let c0_12 : Index := 0#32
  let c0_13 : Index := 0#32
  ![v16.toNat, 0, 0]
def k0_off10 (k0_t3 : Fin k0_t3_loop.trips) : Fin 4 → Nat :=
  let c0_14 : Index := 0#32
  let c0_15 : Index := 0#32
  let c0_16 : Index := 0#32
  let c0_i32_5 : BitVec 32 := 0#32
  let c1_i32_7 : BitVec 32 := 1#32
  let arg11 : BitVec 32 := Scf.iv c0_i32_5 c1_i32_7 k0_t3
  let c256_i32 : BitVec 32 := 256#32
  let v5 : BitVec 32 := Scalar.muli arg11 c256_i32
  let v6 : BitVec 32 := v5
  let v21 : Index := Scalar.indexCast v6
  ![0, 0, 0, v21.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x64x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x65x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x144x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64x144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64x32768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x4x8192x256 : Shape := ⟨4, ![4, 4, 8192, 256]⟩
abbrev S4x65x256x256 : Shape := ⟨4, ![4, 65, 256, 256]⟩
abbrev S1024 : Shape := ⟨1, ![1024]⟩
abbrev S4x65x128x256 : Shape := ⟨4, ![4, 65, 128, 256]⟩
abbrev S65 : Shape := ⟨1, ![65]⟩
abbrev S128 : Shape := ⟨1, ![128]⟩
abbrev S8192 : Shape := ⟨1, ![8192]⟩
abbrev S65x1 : Shape := ⟨2, ![65, 1]⟩
abbrev S1x128 : Shape := ⟨2, ![1, 128]⟩
abbrev S_ : Shape := ⟨0, ![]⟩
abbrev S65x128 : Shape := ⟨2, ![65, 128]⟩
abbrev S65x128x1 : Shape := ⟨3, ![65, 128, 1]⟩
abbrev S1x1x8192 : Shape := ⟨3, ![1, 1, 8192]⟩
abbrev S65x128x8192 : Shape := ⟨3, ![65, 128, 8192]⟩
abbrev S4x4x256x65x128 : Shape := ⟨5, ![4, 4, 256, 65, 128]⟩
abbrev S4x4x65x128x256 : Shape := ⟨5, ![4, 4, 65, 128, 256]⟩
abbrev S1x4x65x128x256 : Shape := ⟨5, ![1, 4, 65, 128, 256]⟩
abbrev S65x1x1 : Shape := ⟨3, ![65, 1, 1]⟩
abbrev S1x1x65x1x1 : Shape := ⟨5, ![1, 1, 65, 1, 1]⟩
abbrev S4x4x256x8192 : Shape := ⟨4, ![4, 4, 256, 8192]⟩
abbrev S4x1x256 : Shape := ⟨3, ![4, 1, 256]⟩
abbrev S1x4x1x256 : Shape := ⟨4, ![1, 4, 1, 256]⟩
abbrev S4x4x64x32768 : Shape := ⟨4, ![4, 4, 64, 32768]⟩

abbrev nBuf : Space → Nat
  | .hbm => 92
  | .vmem => 0
  | .smem => 0
  | _ => 0

abbrev bufTy : (tb : Table) → Fin (tcTables nBuf tb) → BufTy
  | .hbm, ⟨0, _⟩ => ⟨S4x4x8192x256, .bf16⟩
  | .hbm, ⟨1, _⟩ => ⟨S4x65x256x256, .bf16⟩
  | .hbm, ⟨2, _⟩ => ⟨S1024, .f32⟩
  | .hbm, ⟨3, _⟩ => ⟨S4x4x8192x256, .f32⟩
  | .hbm, ⟨4, _⟩ => ⟨S4x65x256x256, .f32⟩
  | .hbm, ⟨5, _⟩ => ⟨S4x65x128x256, .f32⟩
  | .hbm, ⟨6, _⟩ => ⟨S4x65x128x256, .f32⟩
  | .hbm, ⟨7, _⟩ => ⟨S65, .i32⟩
  | .hbm, ⟨8, _⟩ => ⟨S128, .i32⟩
  | .hbm, ⟨9, _⟩ => ⟨S8192, .i32⟩
  | .hbm, ⟨10, _⟩ => ⟨S65x1, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i32⟩
  | .hbm, ⟨15, _⟩ => ⟨S65x128, .i32⟩
  | .hbm, ⟨16, _⟩ => ⟨S65x128, .i32⟩
  | .hbm, ⟨17, _⟩ => ⟨S65x128, .i32⟩
  | .hbm, ⟨18, _⟩ => ⟨S65x128x1, .i32⟩
  | .hbm, ⟨19, _⟩ => ⟨S1x1x8192, .i32⟩
  | .hbm, ⟨20, _⟩ => ⟨S65x128x8192, .i32⟩
  | .hbm, ⟨21, _⟩ => ⟨S65x128x8192, .i32⟩
  | .hbm, ⟨22, _⟩ => ⟨S65x128x8192, .i32⟩
  | .hbm, ⟨23, _⟩ => ⟨S_, .i32⟩
  | .hbm, ⟨24, _⟩ => ⟨S65x128x8192, .i32⟩
  | .hbm, ⟨25, _⟩ => ⟨S65x128x8192, .i32⟩
  | .hbm, ⟨26, _⟩ => ⟨S65x128x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S65x128x8192, .f32⟩
  | .hbm, ⟨34, _⟩ => ⟨S65x128x8192, .f32⟩
  | .hbm, ⟨35, _⟩ => ⟨S65x128x8192, .f32⟩
  | .hbm, ⟨36, _⟩ => ⟨S65x128x8192, .f32⟩
  | .hbm, ⟨37, _⟩ => ⟨S4x4x256x65x128, .f32⟩
  | .hbm, ⟨38, _⟩ => ⟨S4x4x65x128x256, .f32⟩
  | .hbm, ⟨39, _⟩ => ⟨S4x4x256x65x128, .f32⟩
  | .hbm, ⟨40, _⟩ => ⟨S4x4x65x128x256, .f32⟩
  | .hbm, ⟨41, _⟩ => ⟨S4x4x65x128x256, .f32⟩
  | .hbm, ⟨42, _⟩ => ⟨S1x4x65x128x256, .f32⟩
  | .hbm, ⟨43, _⟩ => ⟨S4x4x65x128x256, .f32⟩
  | .hbm, ⟨44, _⟩ => ⟨S4x4x65x128x256, .f32⟩
  | .hbm, ⟨45, _⟩ => ⟨S1x4x65x128x256, .f32⟩
  | .hbm, ⟨46, _⟩ => ⟨S4x4x65x128x256, .f32⟩
  | .hbm, ⟨47, _⟩ => ⟨S4x4x65x128x256, .f32⟩
  | .hbm, ⟨48, _⟩ => ⟨S4x4x65x128x256, .f32⟩
  | .hbm, ⟨49, _⟩ => ⟨S1x4x65x128x256, .f32⟩
  | .hbm, ⟨50, _⟩ => ⟨S4x4x65x128x256, .f32⟩
  | .hbm, ⟨51, _⟩ => ⟨S4x4x65x128x256, .f32⟩
  | .hbm, ⟨52, _⟩ => ⟨S1x4x65x128x256, .f32⟩
  | .hbm, ⟨53, _⟩ => ⟨S4x4x65x128x256, .f32⟩
  | .hbm, ⟨54, _⟩ => ⟨S4x4x65x128x256, .f32⟩
  | .hbm, ⟨55, _⟩ => ⟨S4x4x65x128x256, .f32⟩
  | .hbm, ⟨56, _⟩ => ⟨S_, .i32⟩
  | .hbm, ⟨57, _⟩ => ⟨S65, .i32⟩
  | .hbm, ⟨58, _⟩ => ⟨S65, .i1⟩
  | .hbm, ⟨59, _⟩ => ⟨S_, .i32⟩
  | .hbm, ⟨60, _⟩ => ⟨S65, .i32⟩
  | .hbm, ⟨61, _⟩ => ⟨S65, .i1⟩
  | .hbm, ⟨62, _⟩ => ⟨S65, .i1⟩
  | .hbm, ⟨63, _⟩ => ⟨S_, .f32⟩
  | .hbm, ⟨64, _⟩ => ⟨S_, .f32⟩
  | .hbm, ⟨65, _⟩ => ⟨S65, .f32⟩
  | .hbm, ⟨66, _⟩ => ⟨S65, .f32⟩
  | .hbm, ⟨67, _⟩ => ⟨S65, .f32⟩
  | .hbm, ⟨68, _⟩ => ⟨S65x1x1, .f32⟩
  | .hbm, ⟨69, _⟩ => ⟨S65x1x1, .f32⟩
  | .hbm, ⟨70, _⟩ => ⟨S1x1x65x1x1, .f32⟩
  | .hbm, ⟨71, _⟩ => ⟨S4x4x65x128x256, .f32⟩
  | .hbm, ⟨72, _⟩ => ⟨S4x4x65x128x256, .f32⟩
  | .hbm, ⟨73, _⟩ => ⟨S4x4x256x8192, .f32⟩
  | .hbm, ⟨74, _⟩ => ⟨S4x4x8192x256, .f32⟩
  | .hbm, ⟨75, _⟩ => ⟨S65x1x1, .f32⟩
  | .hbm, ⟨76, _⟩ => ⟨S1x1x65x1x1, .f32⟩
  | .hbm, ⟨77, _⟩ => ⟨S4x4x65x128x256, .f32⟩
  | .hbm, ⟨78, _⟩ => ⟨S4x4x65x128x256, .f32⟩
  | .hbm, ⟨79, _⟩ => ⟨S4x4x256x8192, .f32⟩
  | .hbm, ⟨80, _⟩ => ⟨S4x4x8192x256, .f32⟩
  | .hbm, ⟨81, _⟩ => ⟨S4x4x8192x256, .f32⟩
  | .hbm, ⟨82, _⟩ => ⟨S_, .f32⟩
  | .hbm, ⟨83, _⟩ => ⟨S4x4x8192x256, .f32⟩
  | .hbm, ⟨84, _⟩ => ⟨S4x4x8192x256, .f32⟩
  | .hbm, ⟨85, _⟩ => ⟨S4x1x256, .f32⟩
  | .hbm, ⟨86, _⟩ => ⟨S1x4x1x256, .f32⟩
  | .hbm, ⟨87, _⟩ => ⟨S4x4x8192x256, .f32⟩
  | .hbm, ⟨88, _⟩ => ⟨S4x4x8192x256, .f32⟩
  | .hbm, ⟨89, _⟩ => ⟨S4x4x8192x256, .f32⟩
  | .hbm, ⟨90, _⟩ => ⟨S4x4x8192x256, .bf16⟩
  | .hbm, ⟨91, _⟩ => ⟨S4x4x64x32768, .bf16⟩
  | _, _ => ⟨S4x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_3 : Ref sig .tc := ⟨.hbm, 56, rfl⟩
abbrev main_v48 : Ref sig .tc := ⟨.hbm, 57, rfl⟩
abbrev main_v49 : Ref sig .tc := ⟨.hbm, 58, rfl⟩
abbrev main_c_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩

abbrev nD : Nat := 1
abbrev τ : Topo := Topo.v7x

variable {F : FTy → Type} [FloatOps F]
-- ==== Kernel4.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S16384 : Shape := ⟨1, ![16384]⟩
abbrev S8192x64 : Shape := ⟨2, ![8192, 64]⟩
abbrev S16384x1 : Shape := ⟨2, ![16384, 1]⟩
abbrev S16384x64 : Shape := ⟨2, ![16384, 64]⟩
abbrev S1023 : Shape := ⟨1, ![1023]⟩
abbrev S1024 : Shape := ⟨1, ![1024]⟩
abbrev S1x1024 : Shape := ⟨2, ![1, 1024]⟩
abbrev S1x64 : Shape := ⟨2, ![1, 64]⟩
abbrev S4x16384x256 : Shape := ⟨3, ![4, 16384, 256]⟩
abbrev S1024x64 : Shape := ⟨2, ![1024, 64]⟩
abbrev S1024x1 : Shape := ⟨2, ![1024, 1]⟩
abbrev S64x1024 : Shape := ⟨2, ![64, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 161
  | .vmem => 19
  | .smem => 0
  | _ => 0

abbrev hbmTy0_0 (i : Nat) : BufTy := match i % 128 with
  | 0 => ⟨S33x64, .f32⟩
  | 1 => ⟨S64, .f32⟩
  | 2 => ⟨S64, .f32⟩
  | 3 => ⟨S64x64, .f32⟩
  | 4 => ⟨S64, .f32⟩
  | 5 => ⟨S64, .f32⟩
  | 6 => ⟨S64x64, .f32⟩
  | 7 => ⟨S64, .f32⟩
  | 8 => ⟨S64, .f32⟩
  | 9 => ⟨S64x2048, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S8191, .f32⟩
  | 18 => ⟨S_, .f32⟩
  | 19 => ⟨S8191, .f32⟩
  | 20 => ⟨S8191, .f32⟩
  | 21 => ⟨S1, .f32⟩
  | 22 => ⟨S_, .f32⟩
  | 23 => ⟨S8191, .f32⟩
  | 24 => ⟨S8191, .f32⟩
  | 25 => ⟨S8191, .f32⟩
  | 26 => ⟨S8191, .f32⟩
  | 27 => ⟨S1, .f32⟩
  | 28 => ⟨S8191, .f32⟩
  | 29 => ⟨S8191, .f32⟩
  | 30 => ⟨S8191, .f32⟩
  | 31 => ⟨S1, .f32⟩
  | 32 => ⟨S8192, .f32⟩
  | 33 => ⟨S8192x1, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S_, .i32⟩
  | 44 => ⟨S_, .f32⟩
  | 45 => ⟨S_, .f32⟩
  | 46 => ⟨S_, .f32⟩
  | 47 => ⟨S_, .f32⟩
  | 48 => ⟨S_, .f32⟩
  | 49 => ⟨S15, .f32⟩
  | 50 => ⟨S_, .f32⟩
  | 51 => ⟨S15, .f32⟩
  | 52 => ⟨S15, .f32⟩
  | 53 => ⟨S1, .f32⟩
  | 54 => ⟨S_, .f32⟩
  | 55 => ⟨S15, .f32⟩
  | 56 => ⟨S15, .f32⟩
  | 57 => ⟨S15, .f32⟩
  | 58 => ⟨S15, .f32⟩
  | 59 => ⟨S1, .f32⟩
  | 60 => ⟨S15, .f32⟩
  | 61 => ⟨S15, .f32⟩
  | 62 => ⟨S15, .f32⟩
  | 63 => ⟨S1, .f32⟩
  | 64 => ⟨S16, .f32⟩
  | 65 => ⟨S1x16, .f32⟩
  | 66 => ⟨S8192x16, .f32⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S8192x16, .f32⟩
  | 73 => ⟨S8192x16, .f32⟩
  | 74 => ⟨S8192x16, .f32⟩
  | 75 => ⟨S8192x33, .f32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i1⟩
  | 95 => ⟨S_, .i32⟩
  | 96 => ⟨S_, .i1⟩
  | 97 => ⟨S8192, .i1⟩
  | 98 => ⟨S8192, .i1⟩
  | 99 => ⟨S8192, .i1⟩
  | 100 => ⟨S8192, .i32⟩
  | 101 => ⟨S8192, .i32⟩
  | 102 => ⟨S8192, .i32⟩
  | 103 => ⟨S16384, .i32⟩
  | 104 => ⟨S_, .i32⟩
  | 105 => ⟨S_, .f32⟩
  | 106 => ⟨S8192x64, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16384x64, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S16384x1, .f32⟩
  | 125 => ⟨S_, .f32⟩
  | 126 => ⟨S_, .f32⟩
  | 127 => ⟨S_, .f32⟩
  | _ => ⟨S33x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1023, .f32⟩
  | 5 => ⟨S_, .f32⟩
  | 6 => ⟨S1023, .f32⟩
  | 7 => ⟨S1023, .f32⟩
  | 8 => ⟨S1, .f32⟩
  | 9 => ⟨S_, .f32⟩
  | 10 => ⟨S1023, .f32⟩
  | 11 => ⟨S1023, .f32⟩
  | 12 => ⟨S1023, .f32⟩
  | 13 => ⟨S1023, .f32⟩
  | 14 => ⟨S1, .f32⟩
  | 15 => ⟨S1023, .f32⟩
  | 16 => ⟨S1023, .f32⟩
  | 17 => ⟨S1023, .f32⟩
  | 18 => ⟨S1, .f32⟩
  | 19 => ⟨S1024, .f32⟩
  | 20 => ⟨S1024, .f32⟩
  | 21 => ⟨S_, .i32⟩
  | 22 => ⟨S_, .f32⟩
  | 23 => ⟨S64x64, .f32⟩
  | 24 => ⟨S1x1024, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S4x16384x256, .bf16⟩
  | 32 => ⟨S1x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x64, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S64x1024, .f32⟩
  | .local _ .vmem, ⟨15, _⟩ => ⟨S64x1024, .f32⟩
  | .local _ .vmem, ⟨16, _⟩ => ⟨S4x1024x256, .bf16⟩
  | .local _ .vmem, ⟨17, _⟩ => ⟨S4x1024x256, .bf16⟩
  | .local _ .vmem, ⟨18, _⟩ => ⟨S1x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_1 : Ref sig .tc := ⟨.hbm, 36, rfl⟩
abbrev main_v4 : Ref sig .tc := ⟨.hbm, 37, rfl⟩
abbrev main_v5 : Ref sig .tc := ⟨.hbm, 38, rfl⟩
abbrev main_cst_2 : Ref sig .tc := ⟨.hbm, 39, rfl⟩
abbrev main_v6 : Ref sig .tc := ⟨.hbm, 40, rfl⟩
abbrev main_v7 : Ref sig .tc := ⟨.hbm, 41, rfl⟩
abbrev main_cst_3 : Ref sig .tc := ⟨.hbm, 42, rfl⟩
abbrev main_c : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_cst : Ref sig .tc := ⟨.hbm, 47, rfl⟩
abbrev main_call1_v3 : Ref sig .tc := ⟨.hbm, 48, rfl⟩
abbrev main_call1_v4 : Ref sig .tc := ⟨.hbm, 49, rfl⟩
abbrev main_call1_cst_0 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_v16 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_c_4 : Ref sig .tc := ⟨.hbm, 78, rfl⟩
abbrev main_v22 : Ref sig .tc := ⟨.hbm, 79, rfl⟩
abbrev main_v23 : Ref sig .tc := ⟨.hbm, 80, rfl⟩
abbrev main_c_5 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_1 : Ref sig .tc := ⟨.hbm, 89, rfl⟩
abbrev main_call2_v5 : Ref sig .tc := ⟨.hbm, 90, rfl⟩
abbrev main_call2_v6 : Ref sig .tc := ⟨.hbm, 91, rfl⟩
abbrev main_call2_c_2 : Ref sig .tc := ⟨.hbm, 92, rfl⟩
abbrev main_call2_v7 : Ref sig .tc := ⟨.hbm, 93, rfl⟩
abbrev main_call2_v8 : Ref sig .tc := ⟨.hbm, 94, rfl⟩
abbrev main_call2_c_3 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_v24 : Ref sig .tc := ⟨.hbm, 102, rfl⟩
abbrev main_v25 : Ref sig .tc := ⟨.hbm, 103, rfl⟩
abbrev main_c_6 : Ref sig .tc := ⟨.hbm, 104, rfl⟩
abbrev main_call3_v0 : Ref sig .tc := ⟨.hbm, 105, rfl⟩
abbrev main_v26 : Ref sig .tc := ⟨.hbm, 106, rfl⟩
abbrev main_c_7 : Ref sig .tc := ⟨.hbm, 107, rfl⟩
abbrev main_v27 : Ref sig .tc := ⟨.hbm, 108, rfl⟩
abbrev main_v28 : Ref sig .tc := ⟨.hbm, 109, rfl⟩
abbrev main_c_8 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_c_9 : Ref sig .tc := ⟨.hbm, 116, rfl⟩
abbrev main_v34 : Ref sig .tc := ⟨.hbm, 117, rfl⟩
abbrev main_v35 : Ref sig .tc := ⟨.hbm, 118, rfl⟩
abbrev main_c_10 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_cst_11 : Ref sig .tc := ⟨.hbm, 125, rfl⟩
abbrev main_cst_12 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_cst : Ref sig .tc := ⟨.hbm, 130, rfl⟩
abbrev main_call4_v3 : Ref sig .tc := ⟨.hbm, 131, rfl⟩
abbrev main_call4_v4 : Ref sig .tc := ⟨.hbm, 132, rfl⟩
abbrev main_call4_cst_0 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_cst_1 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_v15 : Ref sig .tc := ⟨.hbm, 145, rfl⟩
abbrev main_call4_v16 : Ref sig .tc := ⟨.hbm, 146, rfl⟩
abbrev main_v41 : Ref sig .tc := ⟨.hbm, 147, rfl⟩
abbrev main_v42 : Ref sig .tc := ⟨.hbm, 148, rfl⟩
abbrev main_c_13 : Ref sig .tc := ⟨.hbm, 149, rfl⟩
abbrev main_call5_v0 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51_0 : Ref sig .tc := ⟨.hbm, 159, rfl⟩
abbrev main_v51_1 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference4Ideal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S1x64 : Shape := ⟨2, ![1, 64]⟩
abbrev S8192x2048 : Shape := ⟨2, ![8192, 2048]⟩
abbrev S1023 : Shape := ⟨1, ![1023]⟩
abbrev S1024 : Shape := ⟨1, ![1024]⟩
abbrev S1x1024 : Shape := ⟨2, ![1, 1024]⟩
abbrev S8192x1024 : Shape := ⟨2, ![8192, 1024]⟩
abbrev S8191x1024 : Shape := ⟨2, ![8191, 1024]⟩
abbrev S16384x1024 : Shape := ⟨2, ![16384, 1024]⟩
abbrev S1x16384x1024 : Shape := ⟨3, ![1, 16384, 1024]⟩
abbrev S1x16384x4x256 : Shape := ⟨4, ![1, 16384, 4, 256]⟩
abbrev S1x4x16384x256 : Shape := ⟨4, ![1, 4, 16384, 256]⟩
abbrev S4x16384x256 : Shape := ⟨3, ![4, 16384, 256]⟩

abbrev nBuf : Space → Nat
  | .hbm => 154
  | .vmem => 0
  | .smem => 0
  | _ => 0

abbrev hbmTy0_0 (i : Nat) : BufTy := match i % 128 with
  | 0 => ⟨S33x64, .f32⟩
  | 1 => ⟨S64, .f32⟩
  | 2 => ⟨S64, .f32⟩
  | 3 => ⟨S64x64, .f32⟩
  | 4 => ⟨S64, .f32⟩
  | 5 => ⟨S64, .f32⟩
  | 6 => ⟨S64x64, .f32⟩
  | 7 => ⟨S64, .f32⟩
  | 8 => ⟨S64, .f32⟩
  | 9 => ⟨S64x2048, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S8191, .f32⟩
  | 18 => ⟨S_, .f32⟩
  | 19 => ⟨S8191, .f32⟩
  | 20 => ⟨S8191, .f32⟩
  | 21 => ⟨S1, .f32⟩
  | 22 => ⟨S_, .f32⟩
  | 23 => ⟨S8191, .f32⟩
  | 24 => ⟨S8191, .f32⟩
  | 25 => ⟨S8191, .f32⟩
  | 26 => ⟨S8191, .f32⟩
  | 27 => ⟨S1, .f32⟩
  | 28 => ⟨S8191, .f32⟩
  | 29 => ⟨S8191, .f32⟩
  | 30 => ⟨S8191, .f32⟩
  | 31 => ⟨S1, .f32⟩
  | 32 => ⟨S8192, .f32⟩
  | 33 => ⟨S8192x1, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S_, .i32⟩
  | 44 => ⟨S_, .f32⟩
  | 45 => ⟨S_, .f32⟩
  | 46 => ⟨S_, .f32⟩
  | 47 => ⟨S_, .f32⟩
  | 48 => ⟨S_, .f32⟩
  | 49 => ⟨S15, .f32⟩
  | 50 => ⟨S_, .f32⟩
  | 51 => ⟨S15, .f32⟩
  | 52 => ⟨S15, .f32⟩
  | 53 => ⟨S1, .f32⟩
  | 54 => ⟨S_, .f32⟩
  | 55 => ⟨S15, .f32⟩
  | 56 => ⟨S15, .f32⟩
  | 57 => ⟨S15, .f32⟩
  | 58 => ⟨S15, .f32⟩
  | 59 => ⟨S1, .f32⟩
  | 60 => ⟨S15, .f32⟩
  | 61 => ⟨S15, .f32⟩
  | 62 => ⟨S15, .f32⟩
  | 63 => ⟨S1, .f32⟩
  | 64 => ⟨S16, .f32⟩
  | 65 => ⟨S1x16, .f32⟩
  | 66 => ⟨S8192x16, .f32⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S8192x16, .f32⟩
  | 73 => ⟨S8192x16, .f32⟩
  | 74 => ⟨S8192x16, .f32⟩
  | 75 => ⟨S8192x33, .f32⟩
  | 76 => ⟨S8192x64, .f32⟩
  | 77 => ⟨S1x64, .f32⟩
  | 78 => ⟨S8192x64, .f32⟩
  | 79 => ⟨S8192x64, .f32⟩
  | 80 => ⟨S1x64, .f32⟩
  | 81 => ⟨S8192x64, .f32⟩
  | 82 => ⟨S8192x64, .f32⟩
  | 83 => ⟨S8192x64, .f32⟩
  | 84 => ⟨S8192x64, .f32⟩
  | 85 => ⟨S1x64, .f32⟩
  | 86 => ⟨S8192x64, .f32⟩
  | 87 => ⟨S8192x64, .f32⟩
  | 88 => ⟨S1x64, .f32⟩
  | 89 => ⟨S8192x64, .f32⟩
  | 90 => ⟨S8192x64, .f32⟩
  | 91 => ⟨S8192x64, .f32⟩
  | 92 => ⟨S8192x64, .f32⟩
  | 93 => ⟨S1x64, .f32⟩
  | 94 => ⟨S8192x64, .f32⟩
  | 95 => ⟨S8192x64, .f32⟩
  | 96 => ⟨S1x64, .f32⟩
  | 97 => ⟨S8192x64, .f32⟩
  | 98 => ⟨S8192x64, .f32⟩
  | 99 => ⟨S8192x64, .f32⟩
  | 100 => ⟨S8192x2048, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1023, .f32⟩
  | 109 => ⟨S_, .f32⟩
  | 110 => ⟨S1023, .f32⟩
  | 111 => ⟨S1023, .f32⟩
  | 112 => ⟨S1, .f32⟩
  | 113 => ⟨S_, .f32⟩
  | 114 => ⟨S1023, .f32⟩
  | 115 => ⟨S1023, .f32⟩
  | 116 => ⟨S1023, .f32⟩
  | 117 => ⟨S1023, .f32⟩
  | 118 => ⟨S1, .f32⟩
  | 119 => ⟨S1023, .f32⟩
  | 120 => ⟨S1023, .f32⟩
  | 121 => ⟨S1023, .f32⟩
  | 122 => ⟨S1, .f32⟩
  | 123 => ⟨S1024, .f32⟩
  | 124 => ⟨S1024, .f32⟩
  | 125 => ⟨S8192x1, .f32⟩
  | 126 => ⟨S1x1024, .f32⟩
  | 127 => ⟨S8192x1024, .f32⟩
  | _ => ⟨S33x64, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S8191x1024, .f32⟩
  | 11 => ⟨S8191x1024, .f32⟩
  | 12 => ⟨S_, .f32⟩
  | 13 => ⟨S1024, .f32⟩
  | 14 => ⟨S1024, .f32⟩
  | 15 => ⟨S_, .f32⟩
  | 16 => ⟨S1x1024, .f32⟩
  | 17 => ⟨S8191x1024, .f32⟩
  | 18 => ⟨S8191x1024, .f32⟩
  | 19 => ⟨S16384x1024, .f32⟩
  | 20 => ⟨S1x16384x1024, .f32⟩
  | 21 => ⟨S1x16384x4x256, .f32⟩
  | 22 => ⟨S1x4x16384x256, .f32⟩
  | 23 => ⟨S4x16384x256, .f32⟩
  | 24 => ⟨S4x16384x256, .bf16⟩
  | 25 => ⟨S1x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_1 : Ref sig .tc := ⟨.hbm, 36, rfl⟩
abbrev main_v4 : Ref sig .tc := ⟨.hbm, 37, rfl⟩
abbrev main_v5 : Ref sig .tc := ⟨.hbm, 38, rfl⟩
abbrev main_cst_2 : Ref sig .tc := ⟨.hbm, 39, rfl⟩
abbrev main_v6 : Ref sig .tc := ⟨.hbm, 40, rfl⟩
abbrev main_v7 : Ref sig .tc := ⟨.hbm, 41, rfl⟩
abbrev main_cst_3 : Ref sig .tc := ⟨.hbm, 42, rfl⟩
abbrev main_c : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_cst : Ref sig .tc := ⟨.hbm, 47, rfl⟩
abbrev main_call1_v3 : Ref sig .tc := ⟨.hbm, 48, rfl⟩
abbrev main_call1_v4 : Ref sig .tc := ⟨.hbm, 49, rfl⟩
abbrev main_call1_cst_0 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_v16 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_4 : Ref sig .tc := ⟨.hbm, 101, rfl⟩
abbrev main_cst_5 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_cst : Ref sig .tc := ⟨.hbm, 106, rfl⟩
abbrev main_call2_v3 : Ref sig .tc := ⟨.hbm, 107, rfl⟩
abbrev main_call2_v4 : Ref sig .tc := ⟨.hbm, 108, rfl⟩
abbrev main_call2_cst_0 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_v15 : Ref sig .tc := ⟨.hbm, 121, rfl⟩
abbrev main_call2_v16 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_cst_6 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_7 : Ref sig .tc := ⟨.hbm, 140, rfl⟩
abbrev main_v61 : Ref sig .tc := ⟨.hbm, 141, rfl⟩
abbrev main_v62 : Ref sig .tc := ⟨.hbm, 142, rfl⟩
abbrev main_cst_8 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩

abbrev nD : Nat := 1
abbrev τ : Topo := Topo.v7x

variable {F : FTy → Type} [FloatOps F]
-- ==== Proof.ClaimRef.lean ====
/- The first reference runs and leaves its arguments as they were. -/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 16384

noncomputable section

open Idealize.ShloMosaic Idealize.SL.Sem

namespace Cert.Proof

/-- The first reference's frame. -/
theorem frame_ref : @Cert.quiescent_ReferenceIdeal Cert.ReferenceIdeal.Gen.facts := by
  intro m g _
  refine θ_run_mono (Cert.ReferenceIdeal.Value.run m g) fun r h => ⟨fun c => (h c).2.2.2, ?_⟩
  exact sem_eq_zero_of_no_sems (by decide) _

end Cert.Proof

end
-- ==== Proof.ClaimRef2.lean ====
/- The second reference runs and leaves its arguments as they were. -/
module

public import proofs.«01_k».proof.Defs
public import proofs.«01_k».proof.Proof.Gen.Reference2Ideal
public import proofs.«01_k».proof.Proof.Gen.Reference2Ideal.Run
public import Idealize.ShloMosaic.Lib.Claim
public import Idealize.ShloMosaic.Lib.Quiescent

@[expose] public section

set_option maxRecDepth 16384

noncomputable section

open Idealize.ShloMosaic Idealize.SL.Sem

namespace Cert.Proof

/-- The second reference's frame. -/
theorem frame_ref2 : @Cert.quiescent_Reference2Ideal Cert.Reference2Ideal.Gen.facts := by
  intro m g _
  refine θ_run_mono (Cert.Reference2Ideal.Value.run m g) fun r h => ⟨fun c => (h c).2, ?_⟩
  exact sem_eq_zero_of_no_sems (by decide) _

end Cert.Proof

end
-- ==== Proof.Layer.lean ====
/- The layer's mathematics, entry by entry over the extended reals: the normalised tokens, their projection,
   the short convolution of the first three channel groups with the two gated products, and the gated mixing
   of positions inside chunks of 128.  Both programs are read against these definitions.
   Notation: `b` batch, `l` position, `k` model channel, `o` projected channel, `d` channel of a branch. -/
module

public import proofs.«01_k».proof.Proof.Gen.ReferenceIdeal.Read
public import Idealize.ShloMosaic.Lib.Pointwise

@[expose] public section

set_option maxRecDepth 16384

noncomputable section

open Idealize.ShloMosaic

namespace Cert.Layer
open Cert.ReferenceIdeal

/-- `x · sigmoid x`. -/
def silu (x : EReal) : EReal := x * Ideal.div 1 (1 + Ideal.exp (-x))

/-- The quotient form `x / (1 + exp (0 - x))` is the same function at every extended real, since the
    denominator is never zero. -/
theorem silu_eq (x : EReal) : Ideal.div x (1 + Ideal.exp (0 - x)) = silu x := by
  have hpos : ∀ y : EReal, 0 ≤ Ideal.exp y := by
    intro y
    induction y with
    | bot => exact le_refl _
    | top => exact le_top
    | coe r => exact EReal.coe_nonneg.mpr (Real.exp_pos r).le
  have hne : (1 + Ideal.exp (-x) : EReal) ≠ 0 := by
    intro h
    have h1 : (1 : EReal) ≤ 1 + Ideal.exp (-x) := le_add_of_nonneg_right (hpos _)
    rw [h] at h1
    exact absurd h1 (not_le.mpr zero_lt_one)
  unfold silu
  rw [zero_sub]
  unfold Ideal.div
  rw [if_neg hne, if_neg hne, one_mul]

/-! ## Normalisation and projection -/

variable (X : FVec Ideal S4x8192x1024 .f32) (W : FVec Ideal S1024 .f32) (Win : FVec Ideal S1024x7168 .f32)
  (CW : FVec Ideal S3x3072 .f32) (CB : FVec Ideal S3072 .f32)
  (LW LB : FVec Ideal S1024 .f32) (SW : FVec Ideal S8x128x128 .f32) (SB : FVec Ideal S8x128 .f32)

/-- The token at `(b, l)` divided by its root mean square, times the norm's weights. -/
def hn (b : Fin 4) (l : Fin 8192) (k : Fin 1024) : EReal :=
  X (ix3 b l k) * Ideal.rsqrt (Ideal.div (∑ j : Fin 1024, X (ix3 b l j) * X (ix3 b l j))
    (Ideal.ofBits .f32 0x44800000#32) + Ideal.ofBits .f32 0x358637BD#32) * W (ix1 k)

/-- Equal positions have equal normalised tokens. -/
theorem hn_congr {b : Fin 4} {l l' : Fin 8192} {k : Fin 1024} (h : (l : ℕ) = l') :
    hn X W b l k = hn X W b l' k := by rw [Fin.ext h]

/-- The projected token. -/
def pj (b : Fin 4) (l : Fin 8192) (o : Fin 7168) : EReal := ∑ k : Fin 1024, hn X W b l k * Win (ix2 k o)

/-- The projection at row `n` of the sequence with one row of zeros put before it and one after it. -/
def pjPad (b : Fin 4) (n : ℕ) (o : Fin 7168) : EReal :=
  if h : 1 ≤ n ∧ n - 1 < 8192 then pj X W Win b ⟨n - 1, h.2⟩ o else 0

theorem pj_congr {b : Fin 4} {l l' : Fin 8192} {o o' : Fin 7168} (h : (l : ℕ) = l') (h' : (o : ℕ) = o') :
    pj X W Win b l o = pj X W Win b l' o' := by rw [Fin.ext h, Fin.ext h']

theorem pjPad_congr {b : Fin 4} {n n' : ℕ} {o o' : Fin 7168} (h : n = n') (h' : (o : ℕ) = o') :
    pjPad X W Win b n o = pjPad X W Win b n' o' := by rw [h, Fin.ext h']

/-- Inside the sequence the padded projection is the projection. -/
theorem pjPad_mid {b : Fin 4} {n : ℕ} {l : Fin 8192} {o : Fin 7168} (h : n = 1 + l) :
    pjPad X W Win b n o = pj X W Win b l o := by
  subst h
  rw [pjPad, dif_pos (by omega)]
  exact pj_congr X W Win (show 1 + l.val - 1 = l.val by omega) rfl

/-! ## The short convolution and its products -/

/-- Three taps along the positions, centred, zero outside the sequence. -/
def cv (b : Fin 4) (l : Fin 8192) (ch : Fin 3072) : EReal :=
  pjPad X W Win b l ⟨ch, by omega⟩ * CW (ix2 0 ch) + pjPad X W Win b (1 + l) ⟨ch, by omega⟩ * CW (ix2 1 ch)
    + pjPad X W Win b (2 + l) ⟨ch, by omega⟩ * CW (ix2 2 ch) + CB (ix1 ch)

/-- What the long convolution takes in: third group times second group. -/
def uu (b : Fin 4) (l : Fin 8192) (d : Fin 1024) : EReal :=
  cv X W Win CW CB b l ⟨2048 + d, by omega⟩ * cv X W Win CW CB b l ⟨1024 + d, by omega⟩

/-- The gate of the convolution branch: first group times the silu of the fourth. -/
def gg (b : Fin 4) (l : Fin 8192) (d : Fin 1024) : EReal :=
  cv X W Win CW CB b l ⟨d, by omega⟩ * silu (pj X W Win b l ⟨3072 + d, by omega⟩)

/-! ## The mixer of positions -/

/-- The values of head `hd` at a position. -/
def sv (b : Fin 4) (l : Fin 8192) (hd : Fin 8) (e : Fin 128) : EReal :=
  pj X W Win b l ⟨5120 + (hd * 128 + e), by omega⟩

/-- Their mean over the head's channels. -/
def mu (b : Fin 4) (l : Fin 8192) (hd : Fin 8) : EReal :=
  Ideal.div (∑ e : Fin 128, sv X W Win b l hd e) (Ideal.ofBits .f32 0x43000000#32)

/-- The centred values. -/
def dv (b : Fin 4) (l : Fin 8192) (hd : Fin 8) (e : Fin 128) : EReal := sv X W Win b l hd e - mu X W Win b l hd

/-- The values normalised per head, scaled and shifted. -/
def vn (b : Fin 4) (l : Fin 8192) (hd : Fin 8) (e : Fin 128) : EReal :=
  dv X W Win b l hd e * Ideal.rsqrt (Ideal.div (∑ f : Fin 128, dv X W Win b l hd f * dv X W Win b l hd f)
    (Ideal.ofBits .f32 0x43000000#32) + Ideal.ofBits .f32 0x358637BD#32)
    * LW (ix1 ⟨hd * 128 + e, by omega⟩) + LB (ix1 ⟨hd * 128 + e, by omega⟩)

/-- Position `p` of chunk `n` after mixing the chunk's 128 positions with the head's matrix. -/
def mix (b : Fin 4) (n : Fin 64) (p : Fin 128) (hd : Fin 8) (e : Fin 128) : EReal :=
  (∑ q : Fin 128, SW (ix3 hd p q) * vn X W Win LW LB b ⟨n * 128 + q, by omega⟩ hd e) + SB (ix2 hd p)

/-- The mixer's result: multiplied with its first projection and the silu of its third. -/
def yy (b : Fin 4) (l : Fin 8192) (hd : Fin 8) (e : Fin 128) : EReal :=
  pj X W Win b l ⟨4096 + (hd * 128 + e), by omega⟩
    * mix X W Win LW LB SW SB b ⟨l / 128, by omega⟩ ⟨l % 128, by omega⟩ hd e
    * silu (pj X W Win b l ⟨6144 + (hd * 128 + e), by omega⟩)

end Cert.Layer

end
-- ==== Proof.InBlocks.lean ====
/- The projection kernel's blocks at a grid point.  Grid point `t` works on batch `t / 16` and the 512
   positions from `512 · (t % 16)`; its two halo windows hold the 8 positions before and after them.  Here:
   which array element every block element is, through the host's rearrangement of the weights, and the
   normalised rows the kernel lays together from the three token windows. -/
module

public import proofs.«01_k».proof.Proof.Gen.KernelIdeal.Frame
public import proofs.«01_k».proof.Proof.Layer
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer
variable (m : (ℓ : Loc nD τ sig) → Buf (Elt Ideal) ℓ)

/-- The block every window holds at grid point `t`. -/
theorem idx : ∀ t : Fin cfg0.N,
    win0_0.index t = ![t.val / 16, t.val % 16, 0]
    ∧ win0_1.index t = ![t.val / 16, t.val % 16 * 64 - 1, 0]
    ∧ win0_2.index t = ![t.val / 16, min (t.val % 16 * 64 + 64) 1023, 0]
    ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![0, 0] ∧ win0_10.index t = ![0, 0, 0] ∧ win0_11.index t = ![0, 0, 0]
    ∧ win0_12.index t = ![t.val / 16, 0, t.val % 16, 0] ∧ win0_13.index t = ![t.val / 16, 0, t.val % 16, 0]
    ∧ win0_14.index t = ![t.val / 16, t.val % 16, 0] :=
  (by decide +kernel : ∀ t : Fin grid0.N, _)

/-- The kernel's tests for the first and the last block of a sequence. -/
theorem ends : ∀ t : Fin cfg0.N,
    Scalar.cmpi .eq (BitVec.ofNat 32 (grid0.coords t 1).val) 0#32 = (if t.val % 16 = 0 then 1#1 else 0#1)
    ∧ Scalar.cmpi .eq (BitVec.ofNat 32 (grid0.coords t 1).val) 15#32 = (if t.val % 16 = 15 then 1#1 else 0#1) :=
  (by decide +kernel : ∀ t : Fin grid0.N, _)

/-- What the kernel keeps of two values by the test for the first block. -/
theorem sel_first (t : Fin cfg0.N) (a b : EReal) :
    Scalar.select (Scalar.cmpi .eq (BitVec.ofNat 32 (grid0.coords t 1).val) 0#32) a b
      = if t.val % 16 = 0 then a else b := by
  rw [(ends t).1]
  by_cases h : t.val % 16 = 0
  · rw [if_pos h, if_pos h]; rfl
  · rw [if_neg h, if_neg h]; rfl

/-- What the kernel keeps of two values by the test for the last block. -/
theorem sel_last (t : Fin cfg0.N) (a b : EReal) :
    Scalar.select (Scalar.cmpi .eq (BitVec.ofNat 32 (grid0.coords t 1).val) 15#32) a b
      = if t.val % 16 = 15 then a else b := by
  rw [(ends t).2]
  by_cases h : t.val % 16 = 15
  · rw [if_pos h, if_pos h]; rfl
  · rw [if_neg h, if_neg h]; rfl

/-! ## The operands the host prepares -/

/-- The convolution branch's weights: per group of 256 channels, the four projections side by side. -/
theorem wa_at (c : Dev nD) (t : Fin cfg0.N) (k : Fin 1024) (n : Fin 4096) :
    iblk m c 4 t (ix2 k n) = m ((c : Thread nD τ).loc main_arg2)
      (ix2 k (⟨n % 1024 / 256 * 1024 + (n / 1024 * 256 + n % 256), by omega⟩ : Fin 7168)) := by
  blk_simp [iblk, idx t]
  entry_read
  pointwise
  blk_ext [idx t]

/-- The mixer's weights: per pair of heads, the three projections side by side. -/
theorem wb_at (c : Dev nD) (t : Fin cfg0.N) (k : Fin 1024) (n : Fin 3072) :
    iblk m c 5 t (ix2 k n) = m ((c : Thread nD τ).loc main_arg2)
      (ix2 k (⟨4096 + (n % 768 / 256 * 1024 + (n / 768 * 256 + n % 256)), by omega⟩ : Fin 7168)) := by
  blk_simp [iblk, idx t]
  entry_read
  pointwise
  blk_ext [idx t]

/-- The taps: row `3 · group + tap`. -/
theorem cw_at (c : Dev nD) (t : Fin cfg0.N) (n : Fin 9) (d : Fin 1024) :
    iblk m c 6 t (ix2 n d) = m ((c : Thread nD τ).loc main_arg3)
      (ix2 (⟨n % 3, by omega⟩ : Fin 3) (⟨n / 3 * 1024 + d, by omega⟩ : Fin 3072)) := by
  blk_simp [iblk, idx t]
  entry_read
  pointwise
  blk_ext [idx t]

/-- The convolution's bias, one row per group. -/
theorem cb_at (c : Dev nD) (t : Fin cfg0.N) (n : Fin 3) (d : Fin 1024) :
    iblk m c 7 t (ix2 n d) = m ((c : Thread nD τ).loc main_arg4)
      (ix1 (⟨n * 1024 + d, by omega⟩ : Fin 3072)) := by
  blk_simp [iblk, idx t]
  entry_read
  pointwise
  blk_ext [idx t]

/-- The normalisation's weights. -/
theorem pn_at (c : Dev nD) (t : Fin cfg0.N) (z : Fin 1) (d : Fin 1024) :
    iblk m c 3 t (ix2 z d) = m ((c : Thread nD τ).loc main_arg1) (ix1 d) := by
  blk_simp [iblk, idx t]
  entry_read
  pointwise
  blk_ext [idx t]

/-- The scale of the mixer's per-head norm. -/
theorem lw_at (c : Dev nD) (t : Fin cfg0.N) (z : Fin 1) (d : Fin 1024) :
    iblk m c 8 t (ix2 z d) = m ((c : Thread nD τ).loc main_arg5) (ix1 d) := by
  blk_simp [iblk, idx t]
  entry_read
  pointwise
  blk_ext [idx t]

/-- The shift of the mixer's per-head norm. -/
theorem lb_at (c : Dev nD) (t : Fin cfg0.N) (z : Fin 1) (d : Fin 1024) :
    iblk m c 9 t (ix2 z d) = m ((c : Thread nD τ).loc main_arg6) (ix1 d) := by
  blk_simp [iblk, idx t]
  entry_read
  pointwise
  blk_ext [idx t]

/-- The mixing matrices. -/
theorem sw_at (c : Dev nD) (t : Fin cfg0.N) (hd : Fin 8) (p q : Fin 128) :
    iblk m c 10 t (ix3 hd p q) = m ((c : Thread nD τ).loc main_arg7) (ix3 hd p q) := by
  blk_simp [iblk, idx t]
  entry_read
  pointwise
  blk_ext [idx t]

/-- The mixing biases. -/
theorem sb_at (c : Dev nD) (t : Fin cfg0.N) (hd : Fin 8) (p : Fin 128) (z : Fin 1) :
    iblk m c 11 t (ix3 hd p z) = m ((c : Thread nD τ).loc main_arg8) (ix2 hd p) := by
  blk_simp [iblk, idx t]
  entry_read
  pointwise
  blk_ext [idx t]

/-! ## The token windows and the normalised rows -/

/-- The tokens of the block. -/
theorem x0_at (c : Dev nD) (t : Fin cfg0.N) (z : Fin 1) (r : Fin 512) (k : Fin 1024) :
    iblk m c 0 t (ix3 z r k) = m ((c : Thread nD τ).loc main_arg0)
      (ix3 (⟨t.val / 16, by have := lt_of_lt_of_eq t.isLt N_0; omega⟩ : Fin 4)
        (⟨t.val % 16 * 512 + r, by omega⟩ : Fin 8192) k) := by
  blk_point [iblk, V, idx t]

/-- The tokens before the block (the first block's window holds tokens it does not use). -/
theorem x1_at (c : Dev nD) (t : Fin cfg0.N) (h : t.val % 16 ≠ 0) (z : Fin 1) (r : Fin 8) (k : Fin 1024) :
    iblk m c 1 t (ix3 z r k) = m ((c : Thread nD τ).loc main_arg0)
      (ix3 (⟨t.val / 16, by have := lt_of_lt_of_eq t.isLt N_0; omega⟩ : Fin 4)
        (⟨t.val % 16 * 512 + r - 8, by omega⟩ : Fin 8192) k) := by
  blk_point [iblk, V, idx t]

/-- The tokens after the block (the last block's window holds tokens it does not use). -/
theorem x2_at (c : Dev nD) (t : Fin cfg0.N) (h : t.val % 16 ≠ 15) (z : Fin 1) (r : Fin 8) (k : Fin 1024) :
    iblk m c 2 t (ix3 z r k) = m ((c : Thread nD τ).loc main_arg0)
      (ix3 (⟨t.val / 16, by have := lt_of_lt_of_eq t.isLt N_0; omega⟩ : Fin 4)
        (⟨t.val % 16 * 512 + 512 + r, by omega⟩ : Fin 8192) k) := by
  blk_point [iblk, V, idx t]

/-- The batch grid point `t` works on. -/
abbrev bat (t : Fin cfg0.N) : Fin 4 := ⟨t.val / 16, by have := lt_of_lt_of_eq t.isLt N_0; omega⟩

/-- The tokens, the norm's weights, the projection's weights, as the kernel's arguments. -/
abbrev aX (c : Dev nD) : FVec Ideal Cert.ReferenceIdeal.S4x8192x1024 .f32 := m ((c : Thread nD τ).loc main_arg0)
abbrev aW (c : Dev nD) : FVec Ideal Cert.ReferenceIdeal.S1024 .f32 := m ((c : Thread nD τ).loc main_arg1)
abbrev aP (c : Dev nD) : FVec Ideal Cert.ReferenceIdeal.S1024x7168 .f32 := m ((c : Thread nD τ).loc main_arg2)

/-- The normalised rows of the block itself. -/
theorem main_at (c : Dev nD) (t : Fin cfg0.N) (r : Fin 512) (k : Fin 1024) :
    k0_pay3 (F := Ideal) (View.ld (iblk m c 3 t) r0_0) (View.ld (iblk m c 0 t) r0_1) (ix2 r k)
      = hn (aX m c) (aW m c) (bat t) ⟨t.val % 16 * 512 + r, by omega⟩ k := by
  pointwise [k0_pay3, k0_pay2, x0_at, pn_at, hn]

set_option maxHeartbeats 1600000 in
/-- Row `e` of the rows laid together (8 before, the block's 512, 8 after) is the normalised token that many
    rows into the sequence, and zero before its start and after its end. -/
theorem rows_at (c : Dev nD) (t : Fin cfg0.N) (e : Fin 528) (k : Fin 1024) :
    k0_pay106 (F := Ideal) (grid0.coords t) (iblk m c 0 t) (iblk m c 1 t) (iblk m c 2 t) (iblk m c 3 t)
      (iblk m c 4 t) (iblk m c 5 t) (iblk m c 6 t) (iblk m c 7 t) (iblk m c 8 t) (iblk m c 9 t)
      (iblk m c 10 t) (iblk m c 11 t) (ix2 e k)
      = if h : 1 ≤ t.val % 16 * 512 + e - 7 ∧ t.val % 16 * 512 + e - 7 - 1 < 8192 then
          hn (aX m c) (aW m c) (bat t) ⟨t.val % 16 * 512 + e - 7 - 1, h.2⟩ k
        else 0 := by
  pointwise [k0_pay106, k0_pay7, k0_pay105, k0_pay104, k0_pay103, k0_pay102, k0_pay101, k0_pay6, k0_pay5,
    k0_pay4, sel_first, sel_last, main_at, k0_pay2, pn_at]
  by_cases a : (e : ℕ) < 8
  · rw [dif_pos a]
    by_cases z : t.val % 16 = 0
    · rw [dif_neg (by omega), if_pos z]
    · rw [dif_pos (by omega), if_neg z]
      simp only [x1_at m c t z, hn]
      blk_point []
  · rw [dif_neg a]
    by_cases a' : (e : ℕ) - 8 < 512
    · rw [dif_pos a', dif_pos (by omega)]
      refine (main_at m c t ⟨e.val - 8, a'⟩ k).trans ?_
      exact hn_congr _ _ (show t.val % 16 * 512 + (e.val - 8) = t.val % 16 * 512 + e.val - 7 - 1 by omega)
    · rw [dif_neg a']
      by_cases z : t.val % 16 = 15
      · rw [dif_neg (by omega), if_pos z]
      · rw [dif_pos (by omega), if_neg z]
        simp only [x2_at m c t z, hn]
        blk_point []

end Cert.KernelIdeal.Value

end
-- ==== Proof.InTiles.lean ====
/- The convolution branch of the projection kernel, over any rows and weights: what each of the kernel's stores
   holds at an index.  The kernel treats the channels in four groups of 256; a store's value is the product of
   two convolved channels, or of one and a gate. -/
module

public import proofs.«01_k».proof.Proof.InBlocks

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

/-- Row `e` of the rows times column `n` of the weights. -/
def prj (R : FVec Ideal S528x1024 .bf16) (A : FVec Ideal S1024x4096 .bf16) (e : Fin 528) (n : Fin 4096) : EReal :=
  ∑ k : Fin 1024, R (ix2 e k) * A (ix2 k n)

/-- The convolved channel `q` of group `g` in channel tile `ct`, at row `r` of the block: three neighbouring
    rows of the projection times their taps, plus the bias. -/
def cvB (R : FVec Ideal S528x1024 .bf16) (A : FVec Ideal S1024x4096 .bf16) (Cw : FVec Ideal S9x1024 .f32)
    (Cb : FVec Ideal S3x1024 .f32) (ct : Fin 4) (g : Fin 3) (r : Fin 512) (q : Fin 256) : EReal :=
  prj R A ⟨7 + r, by omega⟩ ⟨ct * 1024 + (g * 256 + q), by omega⟩
      * Cw (ix2 (⟨g * 3, by omega⟩ : Fin 9) (⟨ct * 256 + q, by omega⟩ : Fin 1024))
    + prj R A ⟨8 + r, by omega⟩ ⟨ct * 1024 + (g * 256 + q), by omega⟩
      * Cw (ix2 (⟨g * 3 + 1, by omega⟩ : Fin 9) (⟨ct * 256 + q, by omega⟩ : Fin 1024))
    + prj R A ⟨9 + r, by omega⟩ ⟨ct * 1024 + (g * 256 + q), by omega⟩
      * Cw (ix2 (⟨g * 3 + 2, by omega⟩ : Fin 9) (⟨ct * 256 + q, by omega⟩ : Fin 1024))
    + Cb (ix2 g (⟨ct * 256 + q, by omega⟩ : Fin 1024))

/-- The gate channel `q` of channel tile `ct` at row `r` of the block. -/
def gtB (R : FVec Ideal S528x1024 .bf16) (A : FVec Ideal S1024x4096 .bf16) (ct : Fin 4) (r : Fin 512)
    (q : Fin 256) : EReal := prj R A ⟨8 + r, by omega⟩ ⟨ct * 1024 + (768 + q), by omega⟩

variable (R : FVec Ideal S528x1024 .bf16) (A : FVec Ideal S1024x4096 .bf16) (Cw : FVec Ideal S9x1024 .f32)
  (Cb : FVec Ideal S3x1024 .f32)
  (v1 : FVec Ideal S1x1024 .f32) (v15 : FVec Ideal S512x1024 .f32) (v32 : FVec Ideal S8x1024 .f32) (v33 : BitVec 1)
  (v35 v36 : FVec Ideal S8x1024 .f32)

/-- Channel tile 0: the product of the second and the third convolved group. -/
theorem u0 (r : Fin 512) (q : Fin 256) :
    k0_pay15 (F := Ideal) (k0_pay9 v1 v15 v32 v33 v35 v36 (View.ld A r0_3)) (k0_pay10 v1 v15 v32 v33 v35 v36
      (View.ld A r0_3)) (k0_pay11 v1 v15 v32 v33 v35 v36 (View.ld A r0_3)) (k0_pay13 (View.ld Cw r0_6)) (View.ld
      Cb r0_7) (View.ld Cw r0_8) (View.ld Cb r0_9) (ix4 0 0 r q)
      = cvB (k0_pay7 v1 v15 v32 v33 v35 v36) A Cw Cb 0 2 r q * cvB (k0_pay7 v1 v15 v32 v33 v35 v36) A Cw Cb 0 1 r q := by
  pointwise [k0_pay8, k0_pay9, k0_pay10, k0_pay11, k0_pay12, k0_pay13, k0_pay14, k0_pay15, k0_pay16, k0_pay17, k0_pay18, cvB, prj]
  generalize k0_pay7 v1 v15 v32 v33 v35 v36 = H
  blk_point []

/-- Channel tile 0: the first convolved group times the silu of the gate. -/
theorem g0 (r : Fin 512) (q : Fin 256) :
    k0_pay18 (F := Ideal) (k0_pay12 v1 v15 v32 v33 v35 v36 (View.ld A r0_3) (View.ld Cw r0_4) (View.ld Cb r0_5))
      (k0_pay14 (k0_pay11 v1 v15 v32 v33 v35 v36 (View.ld A r0_3))) (k0_pay16 (k0_pay11 v1 v15 v32 v33 v35 v36
      (View.ld A r0_3))) (k0_pay17 (F := Ideal)) (ix4 0 0 r q)
      = cvB (k0_pay7 v1 v15 v32 v33 v35 v36) A Cw Cb 0 0 r q * silu (gtB (k0_pay7 v1 v15 v32 v33 v35 v36) A 0 r q) := by
  pointwise [k0_pay8, k0_pay9, k0_pay10, k0_pay11, k0_pay12, k0_pay13, k0_pay14, k0_pay15, k0_pay16, k0_pay17, k0_pay18, cvB, gtB, prj, silu_eq]
  generalize k0_pay7 v1 v15 v32 v33 v35 v36 = H
  blk_point []

/-- Channel tile 1: the product of the second and the third convolved group. -/
theorem u1 (r : Fin 512) (q : Fin 256) :
    k0_pay28 (F := Ideal) (k0_pay20 R (View.ld A r0_11)) (k0_pay21 R (View.ld A r0_11)) (k0_pay22 R (View.ld A
      r0_11)) (k0_pay24 (View.ld Cw r0_14)) (k0_pay25 (View.ld Cb r0_15)) (k0_pay26 R (View.ld A r0_11))
      (k0_pay27 (View.ld Cw r0_14)) (View.ld Cw r0_16) (View.ld Cb r0_17) (ix4 0 0 r q)
      = cvB R A Cw Cb 1 2 r q * cvB R A Cw Cb 1 1 r q := by
  pointwise [k0_pay19, k0_pay20, k0_pay21, k0_pay22, k0_pay23, k0_pay24, k0_pay25, k0_pay26, k0_pay27, k0_pay28, k0_pay29, k0_pay30, cvB, prj]
  blk_point []

/-- Channel tile 1: the first convolved group times the silu of the gate. -/
theorem g1 (r : Fin 512) (q : Fin 256) :
    k0_pay30 (F := Ideal) (k0_pay29 (k0_pay22 R (View.ld A r0_11)) (k0_pay23 R (View.ld A r0_11) (View.ld Cw
      r0_12) (View.ld Cb r0_13))) (ix4 0 0 r q)
      = cvB R A Cw Cb 1 0 r q * silu (gtB R A 1 r q) := by
  pointwise [k0_pay19, k0_pay20, k0_pay21, k0_pay22, k0_pay23, k0_pay24, k0_pay25, k0_pay26, k0_pay27, k0_pay28, k0_pay29, k0_pay30, cvB, gtB, prj, silu_eq]
  blk_point []

/-- Channel tile 2: the product of the second and the third convolved group. -/
theorem u2 (r : Fin 512) (q : Fin 256) :
    k0_pay39 (F := Ideal) (k0_pay32 R (View.ld A r0_19)) (k0_pay33 R (View.ld A r0_19)) (k0_pay34 R (View.ld A
      r0_19)) (k0_pay36 (View.ld Cw r0_22)) (k0_pay37 (View.ld Cb r0_23)) (k0_pay38 R (View.ld A r0_19) (View.ld
      Cw r0_22)) (View.ld Cw r0_24) (View.ld Cb r0_25) (ix4 0 0 r q)
      = cvB R A Cw Cb 2 2 r q * cvB R A Cw Cb 2 1 r q := by
  pointwise [k0_pay31, k0_pay32, k0_pay33, k0_pay34, k0_pay35, k0_pay36, k0_pay37, k0_pay38, k0_pay39, k0_pay40, cvB, prj]
  blk_point []

/-- Channel tile 2: the first convolved group times the silu of the gate. -/
theorem g2 (r : Fin 512) (q : Fin 256) :
    k0_pay40 (F := Ideal) (k0_pay34 R (View.ld A r0_19)) (k0_pay35 R (View.ld A r0_19) (View.ld Cw r0_20)
      (View.ld Cb r0_21)) (ix4 0 0 r q)
      = cvB R A Cw Cb 2 0 r q * silu (gtB R A 2 r q) := by
  pointwise [k0_pay31, k0_pay32, k0_pay33, k0_pay34, k0_pay35, k0_pay36, k0_pay37, k0_pay38, k0_pay39, k0_pay40, cvB, gtB, prj, silu_eq]
  blk_point []

/-- Channel tile 3: the product of the second and the third convolved group. -/
theorem u3 (r : Fin 512) (q : Fin 256) :
    k0_pay48 (F := Ideal) (k0_pay42 R (View.ld A r0_27)) (k0_pay43 R (View.ld A r0_27)) (k0_pay44 R (View.ld A
      r0_27)) (k0_pay46 R (View.ld A r0_27) (View.ld Cw r0_30)) (k0_pay47 (View.ld Cb r0_31)) (View.ld Cw r0_32)
      (View.ld Cb r0_33) (ix4 0 0 r q)
      = cvB R A Cw Cb 3 2 r q * cvB R A Cw Cb 3 1 r q := by
  pointwise [k0_pay41, k0_pay42, k0_pay43, k0_pay44, k0_pay45, k0_pay46, k0_pay47, k0_pay48, k0_pay49, cvB, prj]
  blk_point []

/-- Channel tile 3: the first convolved group times the silu of the gate. -/
theorem g3 (r : Fin 512) (q : Fin 256) :
    k0_pay49 (F := Ideal) (k0_pay44 R (View.ld A r0_27)) (k0_pay45 R (View.ld A r0_27) (View.ld Cw r0_28)
      (View.ld Cb r0_29)) (ix4 0 0 r q)
      = cvB R A Cw Cb 3 0 r q * silu (gtB R A 3 r q) := by
  pointwise [k0_pay41, k0_pay42, k0_pay43, k0_pay44, k0_pay45, k0_pay46, k0_pay47, k0_pay48, k0_pay49, cvB, gtB, prj, silu_eq]
  blk_point []

end Cert.KernelIdeal.Value

end
-- ==== Proof.RefConv.lean ====
/- The reference read at an index, first part: normalisation, projection, short convolution and its two
   products are the definitions of `Layer.lean`. -/
module

public import proofs.«01_k».proof.Proof.Layer

@[expose] public section

set_option maxRecDepth 16384

noncomputable section

open Idealize.ShloMosaic

namespace Cert.ReferenceIdeal.At
open Cert.ReferenceIdeal Cert.ReferenceIdeal.Read Cert.Layer

variable (X : FVec Ideal S4x8192x1024 .f32) (W : FVec Ideal S1024 .f32) (Win : FVec Ideal S1024x7168 .f32)
  (CW : FVec Ideal S3x3072 .f32) (CB : FVec Ideal S3072 .f32)

/-- The normalised token. -/
theorem hn_at (b : Fin 4) (l : Fin 8192) (k : Fin 1024) :
    val_main_v12 (F := Ideal) X W (ix3 b l k) = hn X W b l k := by
  pointwise [val_main_v12, val_main_v11, val_main_v10, val_main_v9, val_main_v8, val_main_v7, val_main_v6,
    val_main_v5, val_main_cst_1, val_main_v4, val_main_v3, val_main_cst_0, val_main_v2, val_main_v1,
    val_main_cst, val_main_v0, hn]

/-- The projected token. -/
theorem pj_at (b : Fin 4) (l : Fin 8192) (o : Fin 7168) :
    val_main_v13 (F := Ideal) X W Win (ix3 b l o) = pj X W Win b l o := by
  pointwise [val_main_v13, pj, hn_at]

/-- The padding value: the integer 0 as a float. -/
theorem zero_int : (FloatOps.sitofp (F := Ideal) .f32 (0#32) : EReal) = 0 := by
  show (((0#32 : BitVec 32).toInt : ℝ) : EReal) = 0
  simp

/-- The projection of the convolved channels with a row of zeros at each end. -/
theorem pad_at (b : Fin 4) (n : Fin 8194) (ch : Fin 3072) :
    val_main_v19 (F := Ideal) X W Win (ix3 b n ch) = pjPad X W Win b n ⟨ch, by omega⟩ := by
  pointwise [val_main_v19, val_main_v14, val_main_call0_v0, val_main_c, pjPad, pj_at]
  rw [zero_int]

/-- The short convolution. -/
theorem cv_at (b : Fin 4) (l : Fin 8192) (ch : Fin 3072) :
    val_main_v42 (F := Ideal) X W Win CW CB (ix3 b l ch) = cv X W Win CW CB b l ch := by
  pointwise [val_main_v42, val_main_v41, val_main_v40, val_main_v39, val_main_v38, val_main_v37, val_main_v36,
    val_main_v35, val_main_v34, val_main_v33, val_main_v32, val_main_v31, val_main_v30, val_main_v29,
    val_main_v28, val_main_v27, val_main_v26, val_main_v25, val_main_v24, val_main_v23, val_main_v22,
    val_main_v21, val_main_v20, cv, pad_at]

/-- The input of the long convolution, in its layout by groups of 256 channels. -/
theorem uu_at (b : Fin 4) (ct : Fin 4) (l : Fin 8192) (q : Fin 256) :
    val_main_v89 (F := Ideal) X W Win CW CB (ix4 b ct l q) = uu X W Win CW CB b l ⟨ct * 256 + q, by omega⟩ := by
  pointwise [val_main_v89, val_main_v88, val_main_v87, val_main_v46, val_main_v45, val_main_v44, uu, cv_at]

/-- The gate of the convolution branch, in the same layout. -/
theorem gg_at (b : Fin 4) (ct : Fin 4) (l : Fin 8192) (q : Fin 256) :
    val_main_v92 (F := Ideal) X W Win CW CB (ix4 b ct l q) = gg X W Win CW CB b l ⟨ct * 256 + q, by omega⟩ := by
  pointwise [val_main_v92, val_main_v91, val_main_v90, val_main_v48, val_main_v43, val_main_v47,
    val_main_call1_v5, val_main_call1_v4, val_main_call1_v3, val_main_call1_v2, val_main_call1_v1,
    val_main_call1_v0, val_main_call1_cst, val_main_call1_cst_0, val_main_v15, gg, silu, cv_at, pj_at]

end Cert.ReferenceIdeal.At

end
-- ==== Proof.InConv.lean ====
/- The convolution branch of the projection kernel on its real blocks: its first two results are the
   reference's. -/
module

public import proofs.«01_k».proof.Proof.InBlocks
public import proofs.«01_k».proof.Proof.InTiles
public import proofs.«01_k».proof.Proof.RefConv

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer
variable (m : (ℓ : Loc nD τ sig) → Buf (Elt Ideal) ℓ)

/-- The taps and the bias, as the kernel's arguments. -/
abbrev aC (c : Dev nD) : FVec Ideal Cert.ReferenceIdeal.S3x3072 .f32 := m ((c : Thread nD τ).loc main_arg3)
abbrev aB (c : Dev nD) : FVec Ideal Cert.ReferenceIdeal.S3072 .f32 := m ((c : Thread nD τ).loc main_arg4)

/-- The rows laid together, at grid point `t`. -/
abbrev rows (c : Dev nD) (t : Fin cfg0.N) : FVec Ideal S528x1024 .bf16 :=
  k0_pay106 (F := Ideal) (grid0.coords t) (iblk m c 0 t) (iblk m c 1 t) (iblk m c 2 t) (iblk m c 3 t)
      (iblk m c 4 t) (iblk m c 5 t) (iblk m c 6 t) (iblk m c 7 t) (iblk m c 8 t) (iblk m c 9 t)
      (iblk m c 10 t) (iblk m c 11 t)

/-- A projected row: the projection of the token there, zero outside the sequence. -/
theorem prow_at (c : Dev nD) (t : Fin cfg0.N) (e : Fin 528) (n : Fin 4096) :
    prj (rows m c t) (iblk m c 4 t) e n
      = pjPad (aX m c) (aW m c) (aP m c) (bat t) (t.val % 16 * 512 + e - 7)
          ⟨n % 1024 / 256 * 1024 + (n / 1024 * 256 + n % 256), by omega⟩ := by
  unfold prj
  simp only [rows_at, wa_at]
  unfold pjPad
  by_cases h : 1 ≤ t.val % 16 * 512 + e - 7 ∧ t.val % 16 * 512 + e - 7 - 1 < 8192
  · simp only [dif_pos h]; rfl
  · simp only [dif_neg h, zero_mul, Finset.sum_const_zero]

/-- Sums of three products and a fourth term, compared part by part. -/
theorem taps_congr {a b c d e f g a' b' c' d' e' f' g' : EReal} (h1 : a = a') (h2 : b = b') (h3 : c = c')
    (h4 : d = d') (h5 : e = e') (h6 : f = f') (h7 : g = g') :
    a * b + c * d + e * f + g = a' * b' + c' * d' + e' * f' + g' := by
  rw [h1, h2, h3, h4, h5, h6, h7]

/-- A convolved channel of the block is that channel of the sequence. -/
theorem cvB_at (c : Dev nD) (t : Fin cfg0.N) (ct : Fin 4) (g : Fin 3) (r : Fin 512) (q : Fin 256)
    (l : Fin 8192) (hl : (l : ℕ) = t.val % 16 * 512 + r) (ch : Fin 3072)
    (hch : (ch : ℕ) = g * 1024 + (ct * 256 + q)) :
    cvB (rows m c t) (iblk m c 4 t) (iblk m c 6 t) (iblk m c 7 t) ct g r q
      = cv (aX m c) (aW m c) (aP m c) (aC m c) (aB m c) (bat t) l ch := by
  unfold cvB cv
  refine taps_congr ?_ ?_ ?_ ?_ ?_ ?_ ?_
  · exact (prow_at m c t _ _).trans (pjPad_congr _ _ _ (by simp only []; omega) (by simp only []; omega))
  · refine (cw_at m c t _ _).trans (congrArg (aC m c) ((ix2_inj ..).2 ⟨Fin.ext ?_, Fin.ext ?_⟩)) <;> simp <;> omega
  · exact (prow_at m c t _ _).trans (pjPad_congr _ _ _ (by simp only []; omega) (by simp only []; omega))
  · refine (cw_at m c t _ _).trans (congrArg (aC m c) ((ix2_inj ..).2 ⟨Fin.ext ?_, Fin.ext ?_⟩)) <;> simp <;> omega
  · exact (prow_at m c t _ _).trans (pjPad_congr _ _ _ (by simp only []; omega) (by simp only []; omega))
  · refine (cw_at m c t _ _).trans (congrArg (aC m c) ((ix2_inj ..).2 ⟨Fin.ext ?_, Fin.ext ?_⟩)) <;> simp <;> omega
  · refine (cb_at m c t _ _).trans (congrArg (aB m c) ?_)
    exact congrArg ix1 (Fin.ext (by simp only []; omega))

/-- A gate channel of the block is that projected channel of the sequence. -/
theorem gtB_at (c : Dev nD) (t : Fin cfg0.N) (ct : Fin 4) (r : Fin 512) (q : Fin 256)
    (l : Fin 8192) (hl : (l : ℕ) = t.val % 16 * 512 + r) (o : Fin 7168)
    (ho : (o : ℕ) = 3072 + (ct * 256 + q)) :
    gtB (rows m c t) (iblk m c 4 t) ct r q = pj (aX m c) (aW m c) (aP m c) (bat t) l o := by
  unfold gtB
  exact (prow_at m c t _ _).trans ((pjPad_congr _ _ _ (n' := 1 + l) (o' := o) (by simp only []; omega)
    (by simp only []; omega)).trans (pjPad_mid _ _ _ rfl))

/-- Products of two convolved channels. -/
theorem uB_at (c : Dev nD) (t : Fin cfg0.N) (ct : Fin 4) (r : Fin 512) (q : Fin 256)
    (l : Fin 8192) (hl : (l : ℕ) = t.val % 16 * 512 + r) (d : Fin 1024) (hd : (d : ℕ) = ct * 256 + q) :
    cvB (rows m c t) (iblk m c 4 t) (iblk m c 6 t) (iblk m c 7 t) ct 2 r q
        * cvB (rows m c t) (iblk m c 4 t) (iblk m c 6 t) (iblk m c 7 t) ct 1 r q
      = uu (aX m c) (aW m c) (aP m c) (aC m c) (aB m c) (bat t) l d := by
  rw [cvB_at m c t ct 2 r q l hl ⟨2048 + d, by omega⟩ (by simp; omega),
    cvB_at m c t ct 1 r q l hl ⟨1024 + d, by omega⟩ (by simp; omega)]
  rfl

/-- A convolved channel times its gate. -/
theorem gB_at (c : Dev nD) (t : Fin cfg0.N) (ct : Fin 4) (r : Fin 512) (q : Fin 256)
    (l : Fin 8192) (hl : (l : ℕ) = t.val % 16 * 512 + r) (d : Fin 1024) (hd : (d : ℕ) = ct * 256 + q) :
    cvB (rows m c t) (iblk m c 4 t) (iblk m c 6 t) (iblk m c 7 t) ct 0 r q
        * silu (gtB (rows m c t) (iblk m c 4 t) ct r q)
      = gg (aX m c) (aW m c) (aP m c) (aC m c) (aB m c) (bat t) l d := by
  rw [cvB_at m c t ct 0 r q l hl ⟨d, by omega⟩ (by simp; omega),
    gtB_at m c t ct r q l hl ⟨3072 + d, by omega⟩ (by simp; omega)]
  rfl

/-- The first result block: the products that enter the long convolution. -/
theorem point12 (c : Dev nD) (t : Fin cfg0.N) (y : S1x4x512x256.Idx) (l : Fin 8192) (d : Fin 1024)
    (hl : (l : ℕ) = t.val % 16 * 512 + y 2) (hd : (d : ℕ) = y 1 * 256 + y 3) :
    out0_12 (F := Ideal) (grid0.coords t) (iblk m c 0 t) (iblk m c 1 t) (iblk m c 2 t) (iblk m c 3 t)
      (iblk m c 4 t) (iblk m c 5 t) (iblk m c 6 t) (iblk m c 7 t) (iblk m c 8 t) (iblk m c 9 t)
      (iblk m c 10 t) (iblk m c 11 t) y
    = uu (aX m c) (aW m c) (aP m c) (aC m c) (aB m c) (bat t) l d := by
  canon_tiles x h
  all_goals
    idx_vars x
    obtain rfl : x0 = 0 := Subsingleton.elim _ _
    obtain rfl : x1 = 0 := Subsingleton.elim _ _
  case piece0 =>
    exact (u3 (rows m c t) (iblk m c 4 t) (iblk m c 6 t) (iblk m c 7 t) x2 x3).trans
      (uB_at m c t 3 x2 x3 l (by omega) d (by simp at h1 ⊢; omega))
  case piece1 =>
    exact (u2 (rows m c t) (iblk m c 4 t) (iblk m c 6 t) (iblk m c 7 t) x2 x3).trans
      (uB_at m c t 2 x2 x3 l (by omega) d (by simp at h1 ⊢; omega))
  case piece2 =>
    exact (u1 (rows m c t) (iblk m c 4 t) (iblk m c 6 t) (iblk m c 7 t) x2 x3).trans
      (uB_at m c t 1 x2 x3 l (by omega) d (by simp at h1 ⊢; omega))
  case piece3 =>
    exact (u0 (iblk m c 4 t) (iblk m c 6 t) (iblk m c 7 t) _ _ _ _ _ _ x2 x3).trans
      (uB_at m c t 0 x2 x3 l (by omega) d (by simp at h1 ⊢; omega))

/-- The second result block: the gates of the convolution branch. -/
theorem point13 (c : Dev nD) (t : Fin cfg0.N) (y : S1x4x512x256.Idx) (l : Fin 8192) (d : Fin 1024)
    (hl : (l : ℕ) = t.val % 16 * 512 + y 2) (hd : (d : ℕ) = y 1 * 256 + y 3) :
    out0_13 (F := Ideal) (grid0.coords t) (iblk m c 0 t) (iblk m c 1 t) (iblk m c 2 t) (iblk m c 3 t)
      (iblk m c 4 t) (iblk m c 5 t) (iblk m c 6 t) (iblk m c 7 t) (iblk m c 8 t) (iblk m c 9 t)
      (iblk m c 10 t) (iblk m c 11 t) y
    = gg (aX m c) (aW m c) (aP m c) (aC m c) (aB m c) (bat t) l d := by
  canon_tiles x h
  all_goals
    idx_vars x
    obtain rfl : x0 = 0 := Subsingleton.elim _ _
    obtain rfl : x1 = 0 := Subsingleton.elim _ _
  case piece0 =>
    exact (g3 (rows m c t) (iblk m c 4 t) (iblk m c 6 t) (iblk m c 7 t) x2 x3).trans
      (gB_at m c t 3 x2 x3 l (by omega) d (by simp at h1 ⊢; omega))
  case piece1 =>
    exact (g2 (rows m c t) (iblk m c 4 t) (iblk m c 6 t) (iblk m c 7 t) x2 x3).trans
      (gB_at m c t 2 x2 x3 l (by omega) d (by simp at h1 ⊢; omega))
  case piece2 =>
    exact (g1 (rows m c t) (iblk m c 4 t) (iblk m c 6 t) (iblk m c 7 t) x2 x3).trans
      (gB_at m c t 1 x2 x3 l (by omega) d (by simp at h1 ⊢; omega))
  case piece3 =>
    exact (g0 (iblk m c 4 t) (iblk m c 6 t) (iblk m c 7 t) _ _ _ _ _ _ x2 x3).trans
      (gB_at m c t 0 x2 x3 l (by omega) d (by simp at h1 ⊢; omega))

set_option maxHeartbeats 4000000 in
/-- The first result array after the run is the reference's. -/
theorem final12 (c : Dev nD) : (dats m 0 c).arrAt 12 (cfgs 0).N
    = Cert.ReferenceIdeal.Read.val_main_v89 (F := Ideal) (aX m c) (aW m c) (aP m c) (aC m c) (aB m c) := by
  refine (dats m 0 c).arrAt_eq_of_covers 12 _ (by decide +kernel) fun t _ y => ?_
  blk_simp
  rw [after0_12]
  have ht := lt_of_lt_of_eq t.isLt N_0
  have h1 : (y 1).val < 4 := (y 1).isLt
  have h2 : (y 2).val < 512 := (y 2).isLt
  have h3 : (y 3).val < 256 := (y 3).isLt
  refine (point12 m c t y ⟨t.val % 16 * 512 + (y 2).val, by omega⟩ ⟨(y 1).val * 256 + (y 3).val, by omega⟩
    rfl rfl).trans ?_
  refine (Cert.ReferenceIdeal.At.uu_at (aX m c) (aW m c) (aP m c) (aC m c) (aB m c) (bat t) (y 1)
    ⟨t.val % 16 * 512 + (y 2).val, by omega⟩ (y 3)).symm.trans ?_
  refine congrArg _ ?_
  blk_ext [idx t]

set_option maxHeartbeats 4000000 in
/-- The second result array after the run is the reference's. -/
theorem final13 (c : Dev nD) : (dats m 0 c).arrAt 13 (cfgs 0).N
    = Cert.ReferenceIdeal.Read.val_main_v92 (F := Ideal) (aX m c) (aW m c) (aP m c) (aC m c) (aB m c) := by
  refine (dats m 0 c).arrAt_eq_of_covers 13 _ (by decide +kernel) fun t _ y => ?_
  blk_simp
  rw [after0_13]
  have ht := lt_of_lt_of_eq t.isLt N_0
  have h1 : (y 1).val < 4 := (y 1).isLt
  have h2 : (y 2).val < 512 := (y 2).isLt
  have h3 : (y 3).val < 256 := (y 3).isLt
  refine (point13 m c t y ⟨t.val % 16 * 512 + (y 2).val, by omega⟩ ⟨(y 1).val * 256 + (y 3).val, by omega⟩
    rfl rfl).trans ?_
  refine (Cert.ReferenceIdeal.At.gg_at (aX m c) (aW m c) (aP m c) (aC m c) (aB m c) (bat t) (y 1)
    ⟨t.val % 16 * 512 + (y 2).val, by omega⟩ (y 3)).symm.trans ?_
  refine congrArg _ ?_
  blk_ext [idx t]

end Cert.KernelIdeal.Value

end
-- ==== Proof.InHead.lean ====
/- One head of the mixer, over any values: what a head of the projection kernel computes from its three slices
   of the projection, its norm's scale and shift, its matrix and its bias, and what that is at an index.
   The kernel writes the eight heads one after another; all of them are this one. -/
module

public import proofs.«01_k».proof.Proof.InBlocks

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (s v z : FVec Ideal S512x128 .f32) (lw lb : FVec Ideal S1x128 .f32) (V : FVec Ideal S512x128 .bf16)
  (sw : FVec Ideal S1x128x128 .bf16) (sb : FVec Ideal S1x128x1 .f32) (M : FVec Ideal S128x512 .f32)

/-- The mean of every row, as a column. -/
def rowMean : FVec Ideal S512x1 .f32 :=
  divf (shapeCast S512x1 (multiReduction .add [1] S512 v 0x00000000#32 reduces_S512x128_S512 (.inl rfl) rfl)
    shapeCasts_S512_S512x1) (broadcast S512x1 (Scalar.ofBits .f32 0x43000000#32))

/-- The rows with their means taken off. -/
def centred : FVec Ideal S512x128 .f32 := subf v (broadcastTo S512x128 (rowMean v) broadcasts_S512x1_S512x128)

/-- The rows normalised, scaled and shifted. -/
def normed : FVec Ideal S512x128 .bf16 :=
  truncf .bf16 (addf (mulf (mulf (centred v)
      (broadcastTo S512x128 (rsqrt (addf (rowMean (mulf (centred v) (centred v)))
        (broadcast S512x1 (Scalar.ofBits .f32 0x358637BD#32)))) broadcasts_S512x1_S512x128))
      (broadcastTo S512x128 (shapeCast S1x128 lw shapeCasts_S1x128_S1x128) broadcasts_S1x128_S512x128))
    (broadcastTo S512x128 (shapeCast S1x128 lb shapeCasts_S1x128_S1x128) broadcasts_S1x128_S512x128))
    bitsLt_bf16_f32

/-- The block's four chunks of 128 positions laid side by side. -/
def sideBySide : FVec Ideal S128x512 .bf16 :=
  concatenate S128x512 1
    [⟨S128x128, extractStridedSlice S128x128 ![0, 0] V slices_S512x128_o0_0_S128x128⟩,
     ⟨S128x128, extractStridedSlice S128x128 ![128, 0] V slices_S512x128_o128_0_S128x128⟩,
     ⟨S128x128, extractStridedSlice S128x128 ![256, 0] V slices_S512x128_o256_0_S128x128⟩,
     ⟨S128x128, extractStridedSlice S128x128 ![384, 0] V slices_S512x128_o384_0_S128x128⟩]
    concatenates_S128x128_S128x128_S128x128_S128x128_S128x512_d1

/-- All four chunks mixed by the head's matrix, plus its bias. -/
def mixed : FVec Ideal S128x512 .f32 :=
  addf (matmul dot_S128x128_S128x512_S128x512_1_0_0_1_n_n none
      (shapeCast S128x128 sw shapeCasts_S1x128x128_S128x128) (sideBySide V) (constant S128x512 .f32 0x00000000#32))
    (broadcastTo S128x512 (shapeCast S128x1 sb shapeCasts_S1x128x1_S128x1) broadcasts_S128x1_S128x512)

/-- The four chunks put back one below the other. -/
def stacked : FVec Ideal S512x128 .f32 :=
  concatenate S512x128 0
    [⟨S128x128, extractStridedSlice S128x128 ![0, 0] M slices_S128x512_o0_0_S128x128⟩,
     ⟨S128x128, extractStridedSlice S128x128 ![0, 128] M slices_S128x512_o0_128_S128x128⟩,
     ⟨S128x128, extractStridedSlice S128x128 ![0, 256] M slices_S128x512_o0_256_S128x128⟩,
     ⟨S128x128, extractStridedSlice S128x128 ![0, 384] M slices_S128x512_o0_384_S128x128⟩]
    concatenates_S128x128_S128x128_S128x128_S128x128_S512x128_d0

/-- The first slice times the mixed second slice, times the silu of the third. -/
def headOut : FVec Ideal S1x512x128 .bf16 :=
  shapeCast S1x512x128 (truncf .bf16 (mulf (mulf s (stacked (mixed (normed v lw lb) sw sb)))
    (divf z (addf (broadcast S512x128 (Scalar.ofBits .f32 0x3F800000#32))
      (exp (subf (broadcast S512x128 (Scalar.ofBits .f32 0x00000000#32)) z))))) bitsLt_bf16_f32)
    shapeCasts_S512x128_S1x512x128

/-! ## At an index -/

theorem rowMean_at (r : Fin 512) (o : Fin 1) :
    rowMean v (ix2 r o) = Ideal.div (∑ f : Fin 128, v (ix2 r f)) (Ideal.ofBits .f32 0x43000000#32) := by
  pointwise [rowMean]

theorem centred_at (r : Fin 512) (e : Fin 128) :
    centred v (ix2 r e)
      = v (ix2 r e) - Ideal.div (∑ f : Fin 128, v (ix2 r f)) (Ideal.ofBits .f32 0x43000000#32) := by
  pointwise [centred, rowMean_at]

theorem normed_at (r : Fin 512) (e : Fin 128) :
    normed v lw lb (ix2 r e)
      = centred v (ix2 r e) * Ideal.rsqrt (Ideal.div (∑ f : Fin 128, centred v (ix2 r f) * centred v (ix2 r f))
          (Ideal.ofBits .f32 0x43000000#32) + Ideal.ofBits .f32 0x358637BD#32) * lw (ix2 0 e) + lb (ix2 0 e) := by
  pointwise [normed, rowMean_at]

theorem sideBySide_at (q : Fin 128) (n : Fin 512) :
    sideBySide V (ix2 q n) = V (ix2 (⟨n / 128 * 128 + q, by omega⟩ : Fin 512) (⟨n % 128, by omega⟩ : Fin 128)) := by
  pointwise [sideBySide]
  split_ifs <;> blk_point []

theorem stacked_at (r : Fin 512) (e : Fin 128) :
    stacked M (ix2 r e) = M (ix2 (⟨r % 128, by omega⟩ : Fin 128) (⟨r / 128 * 128 + e, by omega⟩ : Fin 512)) := by
  pointwise [stacked]
  split_ifs <;> blk_point []

theorem mixed_at (p : Fin 128) (n : Fin 512) :
    mixed V sw sb (ix2 p n) = (∑ q : Fin 128, sw (ix3 0 p q) * sideBySide V (ix2 q n)) + sb (ix3 0 p 0) := by
  pointwise [mixed]

theorem headOut_at (r : Fin 512) (e : Fin 128) :
    headOut s v z lw lb sw sb (ix3 0 r e)
      = s (ix2 r e) * stacked (mixed (normed v lw lb) sw sb) (ix2 r e) * silu (z (ix2 r e)) := by
  pointwise [headOut, silu_eq]

end Cert.KernelIdeal.Value

end
-- ==== Proof.RefMix.lean ====
/- The reference read at an index, second part: the mixer of positions is the one of `Layer.lean`. -/
module

public import proofs.«01_k».proof.Proof.RefConv

@[expose] public section

set_option maxRecDepth 16384

noncomputable section

open Idealize.ShloMosaic

namespace Cert.ReferenceIdeal.At
open Cert.ReferenceIdeal Cert.ReferenceIdeal.Read Cert.Layer

variable (X : FVec Ideal S4x8192x1024 .f32) (W : FVec Ideal S1024 .f32) (Win : FVec Ideal S1024x7168 .f32)
  (LW LB : FVec Ideal S1024 .f32) (SW : FVec Ideal S8x128x128 .f32) (SB : FVec Ideal S8x128 .f32)

/-- The values, split into heads. -/
theorem sv_at (b : Fin 4) (l : Fin 8192) (hd : Fin 8) (e : Fin 128) :
    val_main_v49 (F := Ideal) X W Win (ix4 b l hd e) = sv X W Win b l hd e := by
  pointwise [val_main_v49, val_main_v17, pj_at, sv]

/-- Their mean. -/
theorem mu_at (b : Fin 4) (l : Fin 8192) (hd : Fin 8) :
    val_main_v53 (F := Ideal) X W Win (ix4 b l hd (0 : Fin 1)) = mu X W Win b l hd := by
  pointwise [val_main_v53, val_main_v52, val_main_cst_3, val_main_v51, val_main_v50, val_main_cst_2, sv_at, mu]

/-- The centred values; the reference computes them twice. -/
theorem dv_at (b : Fin 4) (l : Fin 8192) (hd : Fin 8) (e : Fin 128) :
    val_main_v55 (F := Ideal) X W Win (ix4 b l hd e) = dv X W Win b l hd e
    ∧ val_main_v62 (F := Ideal) X W Win (ix4 b l hd e) = dv X W Win b l hd e := by
  constructor
  · pointwise [val_main_v55, val_main_v54, sv_at, mu_at, dv]
  · pointwise [val_main_v62, val_main_v61, sv_at, mu_at, dv]

/-- The normalised values. -/
theorem vn_at (b : Fin 4) (l : Fin 8192) (hd : Fin 8) (e : Fin 128) :
    val_main_v75 (F := Ideal) X W Win LW LB (ix4 b l hd e) = vn X W Win LW LB b l hd e := by
  pointwise [val_main_v75, val_main_v74, val_main_v73, val_main_v72, val_main_v71, val_main_v70, val_main_v69,
    val_main_v68, val_main_v67, val_main_v66, val_main_v65, val_main_v64, val_main_v63, val_main_cst_6,
    val_main_v60, val_main_v59, val_main_cst_5, val_main_v58, val_main_v57, val_main_cst_4, val_main_v56,
    (dv_at X W Win _ _ _ _).1, (dv_at X W Win _ _ _ _).2, vn]

/-- One position of a chunk after the mixing. -/
theorem mix_at (b : Fin 4) (n : Fin 64) (p : Fin 128) (hd : Fin 8) (e : Fin 128) :
    val_main_v82 (F := Ideal) X W Win LW LB SW SB (ix5 b n p hd e) = mix X W Win LW LB SW SB b n p hd e := by
  pointwise [val_main_v82, val_main_v81, val_main_v80, val_main_v79, val_main_v78, val_main_v77,
    val_main_v76, vn_at, mix]
  simp only [mul_comm]

/-- The mixer's result. -/
theorem yy_at (b : Fin 4) (l : Fin 8192) (hd : Fin 8) (e : Fin 128) :
    val_main_v93 (F := Ideal) X W Win LW LB SW SB (ix3 b l (⟨hd * 128 + e, by omega⟩ : Fin 1024))
      = yy X W Win LW LB SW SB b l hd e := by
  pointwise [val_main_v93, val_main_v86, val_main_v84, val_main_v83, val_main_v85,
    val_main_call2_v5, val_main_call2_v4, val_main_call2_v3, val_main_call2_v2, val_main_call2_v1,
    val_main_call2_v0, val_main_call2_cst, val_main_call2_cst_0, val_main_v16, val_main_v18, yy, silu,
    mix_at, pj_at]

end Cert.ReferenceIdeal.At

end
-- ==== Proof.InMix.lean ====
/- The mixer branch of the projection kernel against the layer's values, and the third result array. -/
module

public import proofs.«01_k».proof.Proof.InHead
public import proofs.«01_k».proof.Proof.RefMix

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer
variable (m : (ℓ : Loc nD τ sig) → Buf (Elt Ideal) ℓ)

/-- The scale and the shift of the mixer's norm, its matrices and its biases. -/
abbrev aLW (c : Dev nD) : FVec Ideal S1024 .f32 := m ((c : Thread nD τ).loc main_arg5)
abbrev aLB (c : Dev nD) : FVec Ideal S1024 .f32 := m ((c : Thread nD τ).loc main_arg6)
abbrev aSW (c : Dev nD) : FVec Ideal S8x128x128 .f32 := m ((c : Thread nD τ).loc main_arg7)
abbrev aSB (c : Dev nD) : FVec Ideal S8x128 .f32 := m ((c : Thread nD τ).loc main_arg8)

/-- The normalised tokens of the block. -/
abbrev toks (c : Dev nD) (t : Fin cfg0.N) : FVec Ideal S512x1024 .bf16 :=
  k0_pay50 (k0_pay3 (F := Ideal) (View.ld (iblk m c 3 t) r0_0) (View.ld (iblk m c 0 t) r0_1))

/-- The normalised tokens times one head pair's 768 columns of the weights. -/
abbrev prod (c : Dev nD) (t : Fin cfg0.N) (B : FVec Ideal S1024x768 .bf16) : FVec Ideal S512x768 .f32 :=
  k0_pay52 (toks m c t) (k0_pay51 B) (constant S512x768 .f32 0x00000000#32)

theorem prod_apply (H : FVec Ideal S512x1024 .bf16) (B : FVec Ideal S1024x768 .bf16) (r : Fin 512) (n : Fin 768) :
    k0_pay52 H (k0_pay51 B) (constant S512x768 .f32 0x00000000#32) (ix2 r n)
      = ∑ k : Fin 1024, H (ix2 r k) * B (ix2 k n) := by
  pointwise [k0_pay52, k0_pay51]

/-- Column `n` of head pair `hp`'s product is the projection at the channel the columns were taken from. -/
theorem prod_at (c : Dev nD) (t : Fin cfg0.N) (B : FVec Ideal S1024x768 .bf16) (hp : Fin 4)
    (hB : ∀ (k : Fin 1024) (n : Fin 768), B (ix2 k n) = aP m c
      (ix2 k (⟨4096 + (n / 256 * 1024 + (hp * 256 + n % 256)), by omega⟩ : Fin 7168)))
    (r : Fin 512) (n : Fin 768) (o : Fin 7168) (ho : (o : ℕ) = 4096 + (n / 256 * 1024 + (hp * 256 + n % 256))) :
    prod m c t B (ix2 r n)
      = pj (aX m c) (aW m c) (aP m c) (bat t) ⟨t.val % 16 * 512 + r, by omega⟩ o := by
  refine (prod_apply (toks m c t) B r n).trans (Finset.sum_congr rfl fun k _ => ?_)
  rw [hB k n]
  refine congrArg₂ (· * ·) (main_at m c t r k) (congrArg _ ?_)
  exact congrArg (ix2 k) (Fin.ext ho.symm)

/-- A column slice of a product. -/
theorem slice_at (P : FVec Ideal S512x768 .f32) (a : ℕ) (h : S512x768.Slices ![0, a] S512x128) (r : Fin 512)
    (e : Fin 128) (hn : a + e < 768) :
    extractStridedSlice S512x128 ![0, a] P h (ix2 r e) = P (ix2 r (⟨a + e, hn⟩ : Fin 768)) := by
  pointwise

/-- One head: slices that hold the projection at the head's channels, with the head's parameters, give the
    mixer's result. -/
theorem head_yy (c : Dev nD) (t : Fin cfg0.N) (hd : Fin 8) (s v z : FVec Ideal S512x128 .f32)
    (lw lb : FVec Ideal S1x128 .f32) (sw : FVec Ideal S1x128x128 .bf16) (sb : FVec Ideal S1x128x1 .f32)
    (hs : ∀ (r : Fin 512) (e : Fin 128), s (ix2 r e) = pj (aX m c) (aW m c) (aP m c) (bat t)
      ⟨t.val % 16 * 512 + r, by omega⟩ ⟨4096 + (hd * 128 + e), by omega⟩)
    (hv : ∀ (r : Fin 512) (e : Fin 128), v (ix2 r e) = pj (aX m c) (aW m c) (aP m c) (bat t)
      ⟨t.val % 16 * 512 + r, by omega⟩ ⟨5120 + (hd * 128 + e), by omega⟩)
    (hz : ∀ (r : Fin 512) (e : Fin 128), z (ix2 r e) = pj (aX m c) (aW m c) (aP m c) (bat t)
      ⟨t.val % 16 * 512 + r, by omega⟩ ⟨6144 + (hd * 128 + e), by omega⟩)
    (hlw : ∀ e : Fin 128, lw (ix2 0 e) = aLW m c (ix1 ⟨hd * 128 + e, by omega⟩))
    (hlb : ∀ e : Fin 128, lb (ix2 0 e) = aLB m c (ix1 ⟨hd * 128 + e, by omega⟩))
    (hsw : ∀ p q : Fin 128, sw (ix3 0 p q) = aSW m c (ix3 hd p q))
    (hsb : ∀ p : Fin 128, sb (ix3 0 p 0) = aSB m c (ix2 hd p))
    (r : Fin 512) (e : Fin 128) (l : Fin 8192) (hl : (l : ℕ) = t.val % 16 * 512 + r) :
    headOut s v z lw lb sw sb (ix3 0 r e)
      = yy (aX m c) (aW m c) (aP m c) (aLW m c) (aLB m c) (aSW m c) (aSB m c) (bat t) l hd e := by
  have hc : ∀ (r : Fin 512) (e : Fin 128), centred v (ix2 r e) = dv (aX m c) (aW m c) (aP m c) (bat t)
      ⟨t.val % 16 * 512 + r, by omega⟩ hd e := by
    intro r e
    rw [centred_at]
    simp only [hv]
    rfl
  have hn : ∀ (r : Fin 512) (e : Fin 128), normed v lw lb (ix2 r e)
      = vn (aX m c) (aW m c) (aP m c) (aLW m c) (aLB m c) (bat t) ⟨t.val % 16 * 512 + r, by omega⟩ hd e := by
    intro r e
    rw [normed_at, hlw, hlb]
    simp only [hc]
    rfl
  have hb : t.val % 16 * 512 + r.val < 8192 := by omega
  obtain rfl : l = ⟨t.val % 16 * 512 + r.val, hb⟩ := Fin.ext hl
  rw [headOut_at, hs, hz, stacked_at, mixed_at, hsb]
  simp only [sideBySide_at, hn, hsw]
  unfold yy mix
  refine congrArg₂ (· * ·) (congrArg₂ (· * ·) rfl (congrArg₂ (· + ·) (Finset.sum_congr rfl fun q _ => ?_) ?_)) rfl
  · refine congrArg₂ (· * ·) (congrArg _ ?_) ?_
    · exact congrArg (fun p => ix3 hd p q) (Fin.ext (by simp; omega))
    · have h1 : t.val % 16 * 512 + ((r / 128 * 128 + e) / 128 * 128 + q : ℕ)
          = (t.val % 16 * 512 + r) / 128 * 128 + q := by omega
      have h2 : (r / 128 * 128 + e : ℕ) % 128 = e := by omega
      simp only [h1, h2]
  · exact congrArg _ (congrArg (fun p => ix2 hd p) (Fin.ext (by simp; omega)))

/-- The same, from one head pair's product: head `hd` is head `hd % 2` of pair `hd / 2`. -/
theorem head_of (c : Dev nD) (t : Fin cfg0.N) (hd : Fin 8) (B : FVec Ideal S1024x768 .bf16) (a : ℕ)
    (ha : a = hd % 2 * 128)
    (h0 : S512x768.Slices ![0, a] S512x128) (h1 : S512x768.Slices ![0, 256 + a] S512x128)
    (h2 : S512x768.Slices ![0, 512 + a] S512x128)
    (lw lb : FVec Ideal S1x128 .f32) (sw : FVec Ideal S1x128x128 .bf16) (sb : FVec Ideal S1x128x1 .f32)
    (hB : ∀ (k : Fin 1024) (n : Fin 768), B (ix2 k n) = iblk m c 5 t (ix2 k (⟨hd / 2 * 768 + n, by omega⟩ : Fin 3072)))
    (hlw : ∀ e : Fin 128, lw (ix2 0 e) = iblk m c 8 t (ix2 (0 : Fin 1) (⟨hd * 128 + e, by omega⟩ : Fin 1024)))
    (hlb : ∀ e : Fin 128, lb (ix2 0 e) = iblk m c 9 t (ix2 (0 : Fin 1) (⟨hd * 128 + e, by omega⟩ : Fin 1024)))
    (hsw : ∀ p q : Fin 128, sw (ix3 0 p q) = iblk m c 10 t (ix3 hd p q))
    (hsb : ∀ p : Fin 128, sb (ix3 0 p 0) = iblk m c 11 t (ix3 hd p (0 : Fin 1)))
    (r : Fin 512) (e : Fin 128) (l : Fin 8192) (hl : (l : ℕ) = t.val % 16 * 512 + r) (d : Fin 8)
    (hd' : d = hd) (e' : Fin 128) (he : e' = e) :
    headOut (extractStridedSlice S512x128 ![0, a] (prod m c t B) h0)
        (extractStridedSlice S512x128 ![0, 256 + a] (prod m c t B) h1)
        (extractStridedSlice S512x128 ![0, 512 + a] (prod m c t B) h2) lw lb sw sb (ix3 0 r e)
      = yy (aX m c) (aW m c) (aP m c) (aLW m c) (aLB m c) (aSW m c) (aSB m c) (bat t) l d e' := by
  subst ha hd' he
  have hW : ∀ (k : Fin 1024) (n : Fin 768), B (ix2 k n) = aP m c
      (ix2 k (⟨4096 + (n / 256 * 1024 + ((⟨d / 2, by omega⟩ : Fin 4) * 256 + n % 256)), by simp; omega⟩ : Fin 7168)) := by
    intro k n
    rw [hB k n]
    refine (wb_at m c t k ⟨d / 2 * 768 + n, by omega⟩).trans (congrArg _ (congrArg (ix2 k) (Fin.ext ?_)))
    simp
    omega
  refine head_yy m c t d _ _ _ lw lb sw sb (fun r e => ?_) (fun r e => ?_) (fun r e => ?_)
    (fun e => (hlw e).trans (lw_at m c t 0 _)) (fun e => (hlb e).trans (lb_at m c t 0 _))
    (fun p q => (hsw p q).trans (sw_at m c t d p q)) (fun p => (hsb p).trans (sb_at m c t d p 0)) r e' l hl
  · refine (slice_at _ _ h0 r e (by omega)).trans (prod_at m c t B _ hW r _ _ ?_)
    simp
    omega
  · refine (slice_at _ _ h1 r e (by omega)).trans (prod_at m c t B _ hW r _ _ ?_)
    simp
    omega
  · refine (slice_at _ _ h2 r e (by omega)).trans (prod_at m c t B _ hW r _ _ ?_)
    simp
    omega

/-- Reading a block of columns of the weights. -/
theorem ld_cols (A : FVec Ideal S1024x3072 .bf16) (a : ℕ) (h : ∀ d, (![0, a] : Fin 2 → ℕ) d + S1024x768.size d ≤ S1024x3072.size d)
    (k : Fin 1024) (n : Fin 768) (n' : Fin 3072) (hn : (n' : ℕ) = a + n) :
    (View.ld (Val := Elt Ideal) (e' := .bf16) A (Rect.unit (s := S1024x3072) ![0, a] S1024x768.size h)) (ix2 k n) = A (ix2 k n') := by
  refine congrArg A ?_
  blk_ext []
  · show 0 + 1 * k.val = k.val
    omega
  · show a + 1 * n.val = n'.val
    omega

/-- Reading one head's stretch of a norm parameter. -/
theorem ld_lane (A : FVec Ideal S1x1024 .f32) (a : ℕ) (h : ∀ d, (![0, a] : Fin 2 → ℕ) d + S1x128.size d ≤ S1x1024.size d)
    (e : Fin 128) (n' : Fin 1024) (hn : (n' : ℕ) = a + e) :
    (View.ld (Val := Elt Ideal) (e' := .f32) A (Rect.unit (s := S1x1024) ![0, a] S1x128.size h)) (ix2 (0 : Fin 1) e) = A (ix2 (0 : Fin 1) n') := by
  refine congrArg A ?_
  blk_ext []
  · show a + 1 * e.val = n'.val
    omega

/-- Reading one head's matrix. -/
theorem ld_mat (A : FVec Ideal S8x128x128 .bf16) (a : ℕ)
    (h : ∀ d, (![a, 0, 0] : Fin 3 → ℕ) d + S1x128x128.size d ≤ S8x128x128.size d) (p q : Fin 128) (hd : Fin 8)
    (hn : (hd : ℕ) = a) :
    (View.ld (Val := Elt Ideal) (e' := .bf16) A (Rect.unit (s := S8x128x128) ![a, 0, 0] S1x128x128.size h)) (ix3 (0 : Fin 1) p q) = A (ix3 hd p q) := by
  refine congrArg A ?_
  blk_ext []
  · show a + 1 * 0 = hd.val
    omega
  · show 0 + 1 * p.val = p.val
    omega
  · show 0 + 1 * q.val = q.val
    omega

/-- Reading one head's bias. -/
theorem ld_bias (A : FVec Ideal S8x128x1 .f32) (a : ℕ)
    (h : ∀ d, (![a, 0, 0] : Fin 3 → ℕ) d + S1x128x1.size d ≤ S8x128x1.size d) (p : Fin 128) (hd : Fin 8)
    (hn : (hd : ℕ) = a) :
    (View.ld (Val := Elt Ideal) (e' := .f32) A (Rect.unit (s := S8x128x1) ![a, 0, 0] S1x128x1.size h)) (ix3 (0 : Fin 1) p (0 : Fin 1))
      = A (ix3 hd p (0 : Fin 1)) := by
  refine congrArg A ?_
  blk_ext []
  · show a + 1 * 0 = hd.val
    omega
  · show 0 + 1 * p.val = p.val
    omega

set_option maxHeartbeats 400000 in
/-- The third result block: the mixer's result. -/
theorem point14 (c : Dev nD) (t : Fin cfg0.N) (y : S1x512x1024.Idx) (l : Fin 8192) (hd : Fin 8) (e : Fin 128)
    (hl : (l : ℕ) = t.val % 16 * 512 + y 1) (hd' : (hd : ℕ) = y 2 / 128) (he : (e : ℕ) = y 2 % 128) :
    out0_14 (F := Ideal) (grid0.coords t) (iblk m c 0 t) (iblk m c 1 t) (iblk m c 2 t) (iblk m c 3 t)
      (iblk m c 4 t) (iblk m c 5 t) (iblk m c 6 t) (iblk m c 7 t) (iblk m c 8 t) (iblk m c 9 t)
      (iblk m c 10 t) (iblk m c 11 t) y
    = yy (aX m c) (aW m c) (aP m c) (aLW m c) (aLB m c) (aSW m c) (aSB m c) (bat t) l hd e := by
  canon_tiles x h
  all_goals
    idx_vars x
    obtain rfl : x0 = 0 := Subsingleton.elim _ _
  case' piece0 =>
    refine head_of m c t 7 (View.ld (iblk m c 5 t) r0_62) 128 rfl slices_S512x768_o0_128_S512x128
      slices_S512x768_o0_384_S512x128 slices_S512x768_o0_640_S512x128 (View.ld (iblk m c 8 t) r0_67)
      (View.ld (iblk m c 9 t) r0_67) (View.ld (iblk m c 10 t) r0_68) (View.ld (iblk m c 11 t) r0_69)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece1 =>
    refine head_of m c t 6 (View.ld (iblk m c 5 t) r0_62) 0 rfl slices_S512x768_o0_0_S512x128
      slices_S512x768_o0_256_S512x128 slices_S512x768_o0_512_S512x128 (View.ld (iblk m c 8 t) r0_63)
      (View.ld (iblk m c 9 t) r0_63) (View.ld (iblk m c 10 t) r0_64) (View.ld (iblk m c 11 t) r0_65)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece2 =>
    refine head_of m c t 5 (View.ld (iblk m c 5 t) r0_53) 128 rfl slices_S512x768_o0_128_S512x128
      slices_S512x768_o0_384_S512x128 slices_S512x768_o0_640_S512x128 (View.ld (iblk m c 8 t) r0_58)
      (View.ld (iblk m c 9 t) r0_58) (View.ld (iblk m c 10 t) r0_59) (View.ld (iblk m c 11 t) r0_60)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece3 =>
    refine head_of m c t 4 (View.ld (iblk m c 5 t) r0_53) 0 rfl slices_S512x768_o0_0_S512x128
      slices_S512x768_o0_256_S512x128 slices_S512x768_o0_512_S512x128 (View.ld (iblk m c 8 t) r0_54)
      (View.ld (iblk m c 9 t) r0_54) (View.ld (iblk m c 10 t) r0_55) (View.ld (iblk m c 11 t) r0_56)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece4 =>
    refine head_of m c t 3 (View.ld (iblk m c 5 t) r0_44) 128 rfl slices_S512x768_o0_128_S512x128
      slices_S512x768_o0_384_S512x128 slices_S512x768_o0_640_S512x128 (View.ld (iblk m c 8 t) r0_49)
      (View.ld (iblk m c 9 t) r0_49) (View.ld (iblk m c 10 t) r0_50) (View.ld (iblk m c 11 t) r0_51)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece5 =>
    refine head_of m c t 2 (View.ld (iblk m c 5 t) r0_44) 0 rfl slices_S512x768_o0_0_S512x128
      slices_S512x768_o0_256_S512x128 slices_S512x768_o0_512_S512x128 (View.ld (iblk m c 8 t) r0_45)
      (View.ld (iblk m c 9 t) r0_45) (View.ld (iblk m c 10 t) r0_46) (View.ld (iblk m c 11 t) r0_47)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece6 =>
    refine head_of m c t 1 (View.ld (iblk m c 5 t) r0_35) 128 rfl slices_S512x768_o0_128_S512x128
      slices_S512x768_o0_384_S512x128 slices_S512x768_o0_640_S512x128 (View.ld (iblk m c 8 t) r0_40)
      (View.ld (iblk m c 9 t) r0_40) (View.ld (iblk m c 10 t) r0_41) (View.ld (iblk m c 11 t) r0_42)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  case' piece7 =>
    refine head_of m c t 0 (View.ld (iblk m c 5 t) r0_35) 0 rfl slices_S512x768_o0_0_S512x128
      slices_S512x768_o0_256_S512x128 slices_S512x768_o0_512_S512x128 (View.ld (iblk m c 8 t) r0_36)
      (View.ld (iblk m c 9 t) r0_36) (View.ld (iblk m c 10 t) r0_37) (View.ld (iblk m c 11 t) r0_38)
      (fun k n => ld_cols _ _ _ k n _ rfl)
      (fun e => ld_lane _ _ _ e _ rfl) (fun e => ld_lane _ _ _ e _ rfl) (fun p q => ld_mat _ _ _ p q _ rfl)
      (fun p => ld_bias _ _ _ p _ rfl) x1 x2 l (by omega) hd (Fin.ext ?_) e (Fin.ext ?_)
  all_goals
    simp only [hd', he, h2]
    simp
    try omega

set_option maxHeartbeats 400000 in
/-- The third result array after the run is the reference's. -/
theorem final14 (c : Dev nD) : (dats m 0 c).arrAt 14 (cfgs 0).N
    = Cert.ReferenceIdeal.Read.val_main_v93 (F := Ideal) (aX m c) (aW m c) (aP m c) (aLW m c) (aLB m c) (aSW m c)
        (aSB m c) := by
  refine (dats m 0 c).arrAt_eq_of_covers 14 _ (by decide +kernel) fun t _ y => ?_
  blk_simp
  rw [after0_14]
  have ht := lt_of_lt_of_eq t.isLt N_0
  have h1 : (y 1).val < 512 := (y 1).isLt
  have h2 : (y 2).val < 1024 := (y 2).isLt
  refine (point14 m c t y ⟨t.val % 16 * 512 + (y 1).val, by omega⟩ ⟨(y 2).val / 128, by omega⟩
    ⟨(y 2).val % 128, by omega⟩ rfl rfl rfl).trans ?_
  refine (Cert.ReferenceIdeal.At.yy_at (aX m c) (aW m c) (aP m c) (aLW m c) (aLB m c) (aSW m c) (aSB m c) (bat t)
    ⟨t.val % 16 * 512 + (y 1).val, by omega⟩ ⟨(y 2).val / 128, by omega⟩ ⟨(y 2).val % 128, by omega⟩).symm.trans ?_
  refine congrArg _ ?_
  blk_ext [idx t]

end Cert.KernelIdeal.Value

end
-- ==== Proof.ClaimIn.lean ====
/- The projection kernel's three results are the reference's. -/
module

public import proofs.«01_k».proof.Defs
public import proofs.«01_k».proof.Proof.InConv
public import proofs.«01_k».proof.Proof.InMix
public import proofs.«01_k».proof.Proof.Gen.ReferenceIdeal.Run
public import proofs.«01_k».proof.Proof.Gen.ReferenceIdeal.Read
public import Idealize.ShloMosaic.Lib.Claim

@[expose] public section

set_option maxRecDepth 16384

noncomputable section

open Idealize.ShloMosaic Idealize.SL.Sem

namespace Cert.Proof

set_option maxHeartbeats 1600000 in
/-- The first value claim. -/
theorem value_in : @Cert.algebraic_KernelIdeal_ReferenceIdeal Cert.KernelIdeal.Gen.facts
    Cert.ReferenceIdeal.Gen.facts := by
  pair_intro
  · run_from Cert.KernelIdeal.Gen.run_main m g
  · run_from Cert.ReferenceIdeal.Value.run m' g'
    · rw [Cert.ReferenceIdeal.Read.val_main_v89_eq]
      obtain ⟨h0, h1, h2, h3, h4, h5, h6, h7, h8⟩ := hagree c
      rw [h0, h1, h2, h3, h4]
      exact (Cert.KernelIdeal.Value.final12 m c).symm
    · rw [Cert.ReferenceIdeal.Read.val_main_v92_eq]
      obtain ⟨h0, h1, h2, h3, h4, h5, h6, h7, h8⟩ := hagree c
      rw [h0, h1, h2, h3, h4]
      exact (Cert.KernelIdeal.Value.final13 m c).symm
    · rw [Cert.ReferenceIdeal.Read.val_main_v93_eq]
      obtain ⟨h0, h1, h2, h3, h4, h5, h6, h7, h8⟩ := hagree c
      rw [h0, h1, h2, h5, h6, h7, h8]
      exact (Cert.KernelIdeal.Value.final14 m c).symm

end Cert.Proof

end
-- ==== Proof.OutProj.lean ====
/- The output projection: what the kernel stores at a grid point, read at one index of the block, is the
   reference's result at the index of the array the block element sits at; hence the whole result array is
   the reference's.  The kernel multiplies the four 256-channel groups of the two operands and lays the
   products side by side; the reference multiplies the whole arrays and moves the channel groups to the lanes. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- The block every window holds at grid point `t`: batch `t / 16`, row block `t % 16`. -/
theorem idx : ∀ t : Fin cfg0.N,
    win0_0.index t = ![t.val / 16, 0, t.val % 16, 0] ∧ win0_1.index t = ![t.val / 16, 0, t.val % 16, 0]
    ∧ win0_2.index t = ![t.val / 16, t.val % 16, 0] ∧ win0_3.index t = ![t.val / 16, t.val % 16, 0]
    ∧ win0_4.index t = ![0, 0] ∧ win0_5.index t = ![0, 0]
    ∧ win0_6.index t = ![t.val / 16, t.val % 16, 0] :=
  (by decide +kernel : ∀ t : Fin grid0.N, _)

/-- A sum over 2048 terms, cut in the middle. -/
theorem sum_halves (f : Fin 2048 → EReal) :
    ∑ k, f k = (∑ k : Fin 1024, f ⟨k, by omega⟩) + ∑ k : Fin 1024, f ⟨1024 + k, by omega⟩ :=
  Fin.sum_univ_two_halves 1024 1024 rfl f

set_option maxHeartbeats 4000000 in
open Cert.Reference2Ideal.Read in
/-- One element of the block the kernel stores, against the reference. -/
theorem point (c : Dev nD) (t : Fin cfg0.N) (y : S1x512x1024.Idx) :
    k0_pay1 (F := Ideal)
      (k0_pay2 (View.ld (iblk m c 0 t) r0_0) (View.ld (iblk m c 1 t) r0_0))
      (k0_pay3 (View.ld (iblk m c 0 t) r0_1) (View.ld (iblk m c 1 t) r0_1))
      (k0_pay4 (View.ld (iblk m c 0 t) r0_2) (View.ld (iblk m c 1 t) r0_2))
      (k0_pay5 (View.ld (iblk m c 0 t) r0_3)) (View.ld (iblk m c 1 t) r0_3)
      (iblk m c 2 t) (iblk m c 4 t) (iblk m c 3 t) (iblk m c 5 t) y
    = val_main_v21 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (((cfg0.win 6).blk t).view.emb y) := by
  pointwise [k0_pay1, k0_pay2, k0_pay3, k0_pay4, k0_pay5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1]
  have h0 : ∀ n : ℕ, ¬ 1024 + n < 256 := by omega
  have h1 : ∀ n : ℕ, ¬ 1024 + n - 256 < 256 := by omega
  have h2 : ∀ n : ℕ, ¬ 1024 + n - 256 - 256 < 256 := by omega
  have h3 : ∀ n : ℕ, ¬ 1024 + n - 256 - 256 - 256 < 256 := by omega
  simp only [sum_halves, h0, h1, h2, h3, ↓reduceDIte]
  blk_point [iblk, V, idx t]
  all_goals
    refine Ideal.mul_congr ?_ rfl
    split_ifs
    all_goals first
      | (exfalso; omega)
      | blk_point [V, idx t]

/-- The result array after the run is the reference's. -/
theorem final (c : Dev nD) : (dats m 0 c).arrAt 6 (cfgs 0).N
    = Cert.Reference2Ideal.Read.val_main_v21 (F := Ideal) (m ((c : Thread nD τ).loc main_arg0))
        (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  frame_out
  exact point m c t y

end Cert.Kernel2Ideal.Value

end
-- ==== Proof.ClaimOut.lean ====
/- The output kernel's result is the reference's. -/
module

public import proofs.«01_k».proof.Defs
public import proofs.«01_k».proof.Proof.OutProj
public import proofs.«01_k».proof.Proof.Gen.Reference2Ideal.Run
public import proofs.«01_k».proof.Proof.Gen.Reference2Ideal.Read
public import Idealize.ShloMosaic.Lib.Claim

@[expose] public section

set_option maxRecDepth 16384

noncomputable section

open Idealize.ShloMosaic Idealize.SL.Sem

namespace Cert.Proof

/-- The second value claim. -/
theorem value_out : @Cert.algebraic_Kernel2Ideal_Reference2Ideal Cert.Kernel2Ideal.Gen.facts
    Cert.Reference2Ideal.Gen.facts := by
  pair_intro
  · run_from Cert.Kernel2Ideal.Gen.run_main m g
  · run_from Cert.Reference2Ideal.Value.run m' g'
    exact ((Cert.Kernel2Ideal.Value.final m c).trans
      (Cert.Reference2Ideal.Read.val_main_v21_eq (F := Ideal) _ _ _ _ _ _).symm).symm

end Cert.Proof

end
-- ==== Proof.LcTrip.lean ====
/- One trip of the loop over the spectrum, run once at a symbolic trip: what it leaves in the scratch. -/
module

public import proofs.«01_k».proof.Proof.Gen.Kernel3Ideal.Loops
public import Idealize.ShloMosaic.Lib.Exec
public import Idealize.ShloMosaic.Lib.Tactic
public import Idealize.ShloMosaic.Lib.Pipeline.FrameBody
public import Idealize.ShloMosaic.Lib.Ring

@[expose] public section

set_option maxRecDepth 8192

noncomputable section

namespace Cert.Kernel3Ideal.Conv

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a trip of the loop over the spectrum touches: the filter's spectrum, the two tables, the scratch. -/
abbrev Trip2 (c : Dev nD) (arg3 : Memref sig .tc .vmem S1x65x256x256 .bf16) (arg6 arg7 : Memref sig .tc .vmem S256x256 .bf16)
    (arg10 : Memref sig .tc .vmem S2x19456x128 .f32) (X3 : BufTy.Contents (Elt F) arg3.view.ty)
    (X6 : BufTy.Contents (Elt F) arg6.view.ty) (X7 : BufTy.Contents (Elt F) arg7.view.ty)
    (f : BufTy.Contents (Elt F) arg10.view.ty) : sProp 𝕄 :=
  iprop((arg3.view.loc (c : Thread nD τ) ↦[arg3.view.set]{fullShare} X3)
    ∗ (arg6.view.loc (c : Thread nD τ) ↦[arg6.view.set]{fullShare} X6)
    ∗ (arg7.view.loc (c : Thread nD τ) ↦[arg7.view.set]{fullShare} X7)
    ∗ (arg10.view.loc (c : Thread nD τ) ↦[arg10.view.set]{fullShare} f))

/-- What a store through one plane of a scratch leaves in the scratch. -/
def rowsWrite {sig : RefSig} {κ : Kind} {sp : Space} {s s' : Shape} {e : EltTy} {Val : EltTy → Type} (m : Memref sig κ sp s e) (r₀ : Rect s)
    (h₀ : ∀ a, r₀.stride a = 1) (hq : r₀.shape.Squeezes s') (r : Rect s') (f : BufTy.Contents Val m.view.ty)
    (w : r.shape.Idx → Val e) : BufTy.Contents Val m.view.ty :=
  (((m.slice r₀ h₀).squeeze s' hq).access r).write Val f w Finset.univ

/-- A store through one plane of a scratch held whole. -/
theorem wp_store_rows (𝒱 : Variants) (c : Dev nD) (bd : Option 𝒱.V) (E : Set ℕ) {s s' : Shape} {e : EltTy} {α : Type}
    {Q : α → sProp 𝕄} (m : Memref sig .tc .vmem s e) {r₀ : Rect s} {h₀ : ∀ a, r₀.stride a = 1}
    {hq : r₀.shape.Squeezes s'} {r : Rect s'} {w : r.shape.Idx → Elt F e}
    {hx : (((m.slice r₀ h₀).squeeze s' hq).access r).Stores Finset.univ} {hm : Finset.univ = Finset.univ ∨ ∀ a, r.stride a = 1}
    {k : PUnit → Prog (TpuEff nD τ sig (Elt F) Λ₀ (c : Thread nD τ).2) α} {f : BufTy.Contents (Elt F) m.view.ty} :
    (m.view.loc (c : Thread nD τ) ↦[m.view.set]{fullShare} f : sProp 𝕄)
      ⊢ iprop(((m.view.loc (c : Thread nD τ) ↦[m.view.set]{fullShare} rowsWrite m r₀ h₀ hq r f w)
            -∗ wp frame (wpE (defs₀ (F := F)) 𝒱 (c : Thread nD τ) bd) E (k ⟨⟩) Q)
        -∗ wp frame (wpE (defs₀ (F := F)) 𝒱 (c : Thread nD τ) bd) E
          (.op (.store ((m.slice r₀ h₀).squeeze s' hq) r w Finset.univ hx hm) k) Q) :=
  wp_store 𝒱 (c : Thread nD τ) bd E (Q := Q) (m := (m.slice r₀ h₀).squeeze s' hq) (r := r) (w := w) (hx := hx) (hm := hm) (k := k)
    (Mk := Finset.univ) (f := f)
    ((View.set_slice_subset _ r).trans ((View.set_reshape _ _).subset.trans (View.set_slice_subset _ r₀)))

/-- One trip of the loop over the spectrum: the scratch's contents after it, as a function of those before. -/
def trip2 (𝒱 : Variants) (c : Dev nD) (bd : Option 𝒱.V) (i : grid0.Coords) (arg2 : Memref sig .tc .vmem S1x1x64x32768 .bf16) (harg2 : arg2.IsWhole) (arg3 : Memref sig .tc .vmem S1x65x256x256 .bf16) (harg3 : arg3.IsWhole) (arg4 : Memref sig .tc .vmem S128x144x64 .bf16) (harg4 : arg4.IsWhole) (arg5 : Memref sig .tc .vmem S128x64x144 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x1x64x32768 .bf16) (harg9 : arg9.IsWhole) (arg10 : Memref sig .tc .vmem S2x19456x128 .f32) (harg10 : arg10.IsWhole)
    (X3 : BufTy.Contents (Elt F) arg3.view.ty) (X6 : BufTy.Contents (Elt F) arg6.view.ty)
    (X7 : BufTy.Contents (Elt F) arg7.view.ty) (k : Fin k0_t2_loop.trips) :
    { g : BufTy.Contents (Elt F) arg10.view.ty → BufTy.Contents (Elt F) arg10.view.ty //
      ∀ (E : Set ℕ) (f : BufTy.Contents (Elt F) arg10.view.ty),
        Trip2 (F := F) c arg3 arg6 arg7 arg10 X3 X6 X7 f
        ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 k PUnit.unit)
            (fun _ => Trip2 (F := F) c arg3 arg6 arg7 arg10 X3 X6 X7 (g f)) } := by
  have hk : k.val < 65 := Nat.lt_of_lt_of_le k.isLt k0_t2_abs.2.1
  refine ⟨?_, fun E f => ?run⟩
  case run =>
    unfold k0_t2_body
    simp only [k0_part1_eq_skeleton, k0_part2_eq_skeleton]
    unfold k0_part1_skel k0_part2_skel
    iintro ⟨H3, H6, H7, HS⟩
    sl_exec
    iapply (wp_store_rows (F := F) 𝒱 c bd E arg10) $$ HS; iintro HS
    sl_exec
    iapply (wp_store_rows (F := F) 𝒱 c bd E arg10) $$ HS; iintro HS
    sl_exec
    iapply (wp_store_rows (F := F) 𝒱 c bd E arg10) $$ HS; iintro HS
    sl_exec
    iapply (wp_store_rows (F := F) 𝒱 c bd E arg10) $$ HS; iintro HS
    sl_step
    sl_close

/-- The scratch before trip `k` of the loop over the spectrum, from what the loop finds in it. -/
def scr2 (𝒱 : Variants) (c : Dev nD) (bd : Option 𝒱.V) (i : grid0.Coords) (arg2 : Memref sig .tc .vmem S1x1x64x32768 .bf16) (harg2 : arg2.IsWhole) (arg3 : Memref sig .tc .vmem S1x65x256x256 .bf16) (harg3 : arg3.IsWhole) (arg4 : Memref sig .tc .vmem S128x144x64 .bf16) (harg4 : arg4.IsWhole) (arg5 : Memref sig .tc .vmem S128x64x144 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x1x64x32768 .bf16) (harg9 : arg9.IsWhole) (arg10 : Memref sig .tc .vmem S2x19456x128 .f32) (harg10 : arg10.IsWhole)
    (X3 : BufTy.Contents (Elt F) arg3.view.ty) (X6 : BufTy.Contents (Elt F) arg6.view.ty)
    (X7 : BufTy.Contents (Elt F) arg7.view.ty)
    (G : BufTy.Contents (Elt F) arg10.view.ty) : ℕ → BufTy.Contents (Elt F) arg10.view.ty
  | 0 => G
  | k + 1 => if h : k < k0_t2_loop.trips then
      (trip2 (F := F) 𝒱 c bd i arg2 harg2 arg3 harg3 arg4 harg4 arg5 harg5 arg6 harg6 arg7 harg7 arg8 harg8 arg9 harg9 arg10 harg10 X3 X6 X7 ⟨k, h⟩).1 (scr2 𝒱 c bd i arg2 harg2 arg3 harg3 arg4 harg4 arg5 harg5 arg6 harg6 arg7 harg7 arg8 harg8 arg9 harg9 arg10 harg10 X3 X6 X7 G k)
    else scr2 𝒱 c bd i arg2 harg2 arg3 harg3 arg4 harg4 arg5 harg5 arg6 harg6 arg7 harg7 arg8 harg8 arg9 harg9 arg10 harg10 X3 X6 X7 G k

theorem scr2_succ (𝒱 : Variants) (c : Dev nD) (bd : Option 𝒱.V) (i : grid0.Coords) (arg2 : Memref sig .tc .vmem S1x1x64x32768 .bf16) (harg2 : arg2.IsWhole) (arg3 : Memref sig .tc .vmem S1x65x256x256 .bf16) (harg3 : arg3.IsWhole) (arg4 : Memref sig .tc .vmem S128x144x64 .bf16) (harg4 : arg4.IsWhole) (arg5 : Memref sig .tc .vmem S128x64x144 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x1x64x32768 .bf16) (harg9 : arg9.IsWhole) (arg10 : Memref sig .tc .vmem S2x19456x128 .f32) (harg10 : arg10.IsWhole)
    (X3 : BufTy.Contents (Elt F) arg3.view.ty) (X6 : BufTy.Contents (Elt F) arg6.view.ty)
    (X7 : BufTy.Contents (Elt F) arg7.view.ty)
    (G : BufTy.Contents (Elt F) arg10.view.ty) (k : Fin k0_t2_loop.trips) :
    scr2 (F := F) 𝒱 c bd i arg2 harg2 arg3 harg3 arg4 harg4 arg5 harg5 arg6 harg6 arg7 harg7 arg8 harg8 arg9 harg9 arg10 harg10 X3 X6 X7 G (k.val + 1)
      = (trip2 (F := F) 𝒱 c bd i arg2 harg2 arg3 harg3 arg4 harg4 arg5 harg5 arg6 harg6 arg7 harg7 arg8 harg8 arg9 harg9 arg10 harg10 X3 X6 X7 k).1 (scr2 (F := F) 𝒱 c bd i arg2 harg2 arg3 harg3 arg4 harg4 arg5 harg5 arg6 harg6 arg7 harg7 arg8 harg8 arg9 harg9 arg10 harg10 X3 X6 X7 G k.val) := by
  rw [scr2.eq_2]; exact dif_pos k.isLt

set_option warn.classDefReducibility false in
/-- The loop over the spectrum: the scratch is what the trips so far make of what the loop found in it. -/
@[sl_loop] def loopInv2 (𝒱 : Variants) (c : Dev nD) (bd : Option 𝒱.V) (E : Set ℕ) (i : grid0.Coords) (arg2 : Memref sig .tc .vmem S1x1x64x32768 .bf16) (harg2 : arg2.IsWhole) (arg3 : Memref sig .tc .vmem S1x65x256x256 .bf16) (harg3 : arg3.IsWhole) (arg4 : Memref sig .tc .vmem S128x144x64 .bf16) (harg4 : arg4.IsWhole) (arg5 : Memref sig .tc .vmem S128x64x144 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x1x64x32768 .bf16) (harg9 : arg9.IsWhole) (arg10 : Memref sig .tc .vmem S2x19456x128 .f32) (harg10 : arg10.IsWhole)
    (X3 : BufTy.Contents (Elt F) arg3.view.ty) (X6 : BufTy.Contents (Elt F) arg6.view.ty)
    (X7 : BufTy.Contents (Elt F) arg7.view.ty)
    (G : BufTy.Contents (Elt F) arg10.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 where
  inv k _ := iprop((arg3.view.loc (c : Thread nD τ) ↦[arg3.view.set]{fullShare} X3)
    ∗ (arg6.view.loc (c : Thread nD τ) ↦[arg6.view.set]{fullShare} X6)
    ∗ (arg7.view.loc (c : Thread nD τ) ↦[arg7.view.set]{fullShare} X7)
    ∗ (∃ f, (arg10.view.loc (c : Thread nD τ) ↦[arg10.view.set]{fullShare} f)
      ∗ ⌜f = scr2 (F := F) 𝒱 c bd i arg2 harg2 arg3 harg3 arg4 harg4 arg5 harg5 arg6 harg6 arg7 harg7 arg8 harg8 arg9 harg9 arg10 harg10 X3 X6 X7 G k⌝))
  step k acc := by
    iintro ⟨H3, H6, H7, ⟨%f, HS, %hf⟩⟩
    iapply (wp_wand_r Idealize.ShloMosaic.frame (wpE (defs₀ (F := F)) 𝒱 (c : Thread nD τ) bd) E)
    isplitl [H3 H6 H7 HS]
    · iapply ((trip2 (F := F) 𝒱 c bd i arg2 harg2 arg3 harg3 arg4 harg4 arg5 harg5 arg6 harg6 arg7 harg7 arg8 harg8 arg9 harg9 arg10 harg10 X3 X6 X7 k).2 E f)
      isplitl [H3]; · iexact H3
      isplitl [H6]; · iexact H6
      isplitl [H7]; · iexact H7
      iexact HS
    · iintro %_ ⟨H3, H6, H7, HS⟩
      isplitl [H3]; · iexact H3
      isplitl [H6]; · iexact H6
      isplitl [H7]; · iexact H7
      rw [scr2_succ]
      iexists _; isplitl [HS]; · iexact HS
      ipureintro; rw [hf]

/-- The body on any staging memrefs: the inputs stay, the scratch ends at some contents, and the output is written by pieces that
    depend on the inputs and on what the scratch held. -/
def run (c : Dev nD) (i : grid0.Coords) (arg2 : Memref sig .tc .vmem S1x1x64x32768 .bf16) (harg2 : arg2.IsWhole) (arg3 : Memref sig .tc .vmem S1x65x256x256 .bf16) (harg3 : arg3.IsWhole) (arg4 : Memref sig .tc .vmem S128x144x64 .bf16) (harg4 : arg4.IsWhole) (arg5 : Memref sig .tc .vmem S128x64x144 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x1x64x32768 .bf16) (harg9 : arg9.IsWhole) (arg10 : Memref sig .tc .vmem S2x19456x128 .f32) (harg10 : arg10.IsWhole)
    (x0 : Vec F S1x1x64x32768 .bf16) (x1 : Vec F S1x65x256x256 .bf16) (x2 : Vec F S128x144x64 .bf16) (x3 : Vec F S128x64x144 .bf16) (x4 : Vec F S256x256 .bf16) (x5 : Vec F S256x256 .bf16) (x6 : Vec F S1x256 .f32) :
    { L : BufTy.Contents (Elt F) arg10.view.ty → List (View.Piece (Elt F) S1x1x64x32768 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ fs f, arg9.view.loc (c : Thread nD τ) ↦[arg9.view.set]{fullShare} arg9.view.writes (Elt F) f (L fs))
                ∗ (∃ d, owns (c : Thread nD τ) arg10 fullShare d)) -∗ K ⟨⟩))
          ⊢ wp frame (wpE (defs₀ (F := F)) Variants.none c none) E (cc0_long_conv i arg2 harg2 arg3 harg3 arg4 harg4 arg5 harg5 arg6 harg6 arg7 harg7 arg8 harg8 arg9 harg9 arg10 harg10) K } := by
  refine ⟨?_, fun E K => ?run⟩
  case run =>
    simp only [cc0_long_conv_eq_skeleton]; unfold cc0_long_conv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists fs0, _; iexact H7
    iexists _, _; isplitr; swap; · iexact HS0
    ipureintro; rfl

end Cert.Kernel3Ideal.Conv

end
-- ==== Proof.LcBody.lean ====
/- What the three loops leave in the scratch and in the output block, as functions of the input blocks. -/
module

public import proofs.«01_k».proof.Proof.LcTrip
public import Idealize.ShloMosaic.Lib.Pointwise
public import Idealize.ShloMosaic.Lib.Pipeline.ValueKit

@[expose] public section

set_option maxRecDepth 8192

noncomputable section

namespace Cert.Kernel3Ideal.Conv

open Cert.Kernel3Ideal Cert.Kernel3Ideal.Gen
open Idealize.ShloMosaic Idealize.ShloMosaic.TcCoe

variable {F : FTy → Type} [FloatOps F]

/-! ## The values -/

section Values
variable (x0 : Vec F S1x1x64x32768 .bf16) (x1 : Vec F S1x65x256x256 .bf16) (x2 : Vec F S128x144x64 .bf16)
  (x3 : Vec F S128x64x144 .bf16) (x4 : Vec F S256x256 .bf16) (x5 : Vec F S256x256 .bf16) (x6 : Vec F S1x256 .f32)

/-- The forward table of column block `n`. -/
def gAt (n : ℕ) : Vec F S1x144x64 .bf16 := fun y => x2 (ix3 ⟨n % 128, Nat.mod_lt _ (by decide)⟩ (y 1) (y 2))
/-- The inverse table of column block `n`. -/
def hAt (n : ℕ) : Vec F S1x64x144 .bf16 := fun y => x3 (ix3 ⟨n % 128, Nat.mod_lt _ (by decide)⟩ (y 1) (y 2))
/-- The signal's column block `n`. -/
def uAt (n : ℕ) : Vec F S1x1x64x256 .bf16 :=
  fun y => x0 (ix4 0 0 (y 2) ⟨(256 * n + (y 3).val) % 32768, Nat.mod_lt _ (by decide)⟩)
/-- The filter's spectrum at index `k`. -/
def kAt (k : ℕ) : Vec F S1x1x256x256 .bf16 := fun y => x1 (ix4 0 ⟨k % 65, Nat.mod_lt _ (by decide)⟩ (y 2) (y 3))

/-- The first loop's value in plane `p`, column block `n`, row `r`, lane `l`. -/
def st1 (p : Fin 2) (n r : ℕ) (l : Fin 128) : Elt F .f32 :=
  if p.val = 0 then k0_pay2 (gAt x2 n) (uAt x0 n) (ix3 0 ⟨r % 144, Nat.mod_lt _ (by decide)⟩ l)
  else k0_pay3 (gAt x2 n) (uAt x0 n) (ix3 0 ⟨r % 144, Nat.mod_lt _ (by decide)⟩ l)

/-- Row `r` of every column block in plane `p`, after the first loop. -/
def row1 (p : Fin 2) (r : ℕ) : Vec F S128x128 .f32 := fun y => st1 x0 x2 p (y 0).val r (y 1)

/-- The real and imaginary rows of the signal's spectrum at index `k`. -/
def reAt (k : ℕ) : FVec F S128x256 .f32 := k0_pay8 x4 (row1 x0 x2 0 k) (row1 x0 x2 1 k) (row1 x0 x2 0 (k + 72)) (row1 x0 x2 1 (k + 72))
def imAt (k : ℕ) : FVec F S128x256 .f32 := k0_pay9 x4 (row1 x0 x2 0 k) (row1 x0 x2 1 k) (row1 x0 x2 0 (k + 72)) (row1 x0 x2 1 (k + 72))

/-- What the second loop's trip `k` stores: plane `p` of the real rows, of the imaginary rows. -/
def sre (p : Fin 2) (k : ℕ) : FVec F S128x128 .f32 :=
  if p.val = 0 then k0_pay11 (k0_pay7 (kAt x1 k)) (reAt x0 x2 x4 k) (imAt x0 x2 x4 k) x5
  else k0_pay12 (k0_pay7 (kAt x1 k)) (reAt x0 x2 x4 k) (imAt x0 x2 x4 k) x5
def sim (p : Fin 2) (k : ℕ) : FVec F S128x128 .f32 :=
  if p.val = 0 then k0_pay13 (k0_pay7 (kAt x1 k)) (reAt x0 x2 x4 k) (imAt x0 x2 x4 k) x5
  else k0_pay4 (k0_pay14 (k0_pay7 (kAt x1 k)) (reAt x0 x2 x4 k) (imAt x0 x2 x4 k) x5)

/-- The scratch before trip `K` of the second loop. -/
def st2 (K : ℕ) (p : Fin 2) (n r : ℕ) (l : Fin 128) : Elt F .f32 :=
  if r < K then sre x0 x1 x2 x4 x5 p r (ix2 ⟨n % 128, Nat.mod_lt _ (by decide)⟩ l)
  else if 72 ≤ r ∧ r < 72 + K then sim x0 x1 x2 x4 x5 p (r - 72) (ix2 ⟨n % 128, Nat.mod_lt _ (by decide)⟩ l)
  else st1 x0 x2 p n r l

/-- Column block `n` of plane `p` after the second loop. -/
def tile (p : Fin 2) (n : ℕ) : Vec F S1x144x128 .f32 := fun y => st2 x0 x1 x2 x4 x5 65 p n (y 1).val (y 2)

/-- The output block. -/
def outv : Vec F S1x1x64x32768 .bf16 := fun y =>
  k0_pay5 x6 (tile x0 x1 x2 x4 x5 0 ((y 3).val / 256)) (tile x0 x1 x2 x4 x5 1 ((y 3).val / 256)) (hAt x3 ((y 3).val / 256))
    (uAt x0 ((y 3).val / 256)) (ix4 0 0 (y 2) ⟨(y 3).val % 256, Nat.mod_lt _ (by decide)⟩)

end Values

/-! ## The first loop -/

/-- The scratch holds `V`: plane `p`, column block `n`, row `r < 144`, lane `l` at `[p, 152 n + r, l]`. -/
def Holds (arg10 : Memref sig .tc .vmem S2x19456x128 .f32) (f : BufTy.Contents (Elt F) arg10.view.ty)
    (V : Fin 2 → ℕ → ℕ → Fin 128 → Elt F .f32) : Prop :=
  ∀ y : S2x19456x128.Idx, (y 1).val % 152 < 144 → arg10.view.read (Elt F) f y = V (y 0) ((y 1).val / 152) ((y 1).val % 152) (y 2)

variable (𝒱 : Variants) (c : Dev nD) (bd : Option 𝒱.V) (i : grid0.Coords) (arg2 : Memref sig .tc .vmem S1x1x64x32768 .bf16) (harg2 : arg2.IsWhole) (arg3 : Memref sig .tc .vmem S1x65x256x256 .bf16) (harg3 : arg3.IsWhole) (arg4 : Memref sig .tc .vmem S128x144x64 .bf16) (harg4 : arg4.IsWhole) (arg5 : Memref sig .tc .vmem S128x64x144 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x1x64x32768 .bf16) (harg9 : arg9.IsWhole) (arg10 : Memref sig .tc .vmem S2x19456x128 .f32) (harg10 : arg10.IsWhole)
variable (x0 : Vec F S1x1x64x32768 .bf16) (x1 : Vec F S1x65x256x256 .bf16) (x2 : Vec F S128x144x64 .bf16)
  (x3 : Vec F S128x64x144 .bf16) (x4 : Vec F S256x256 .bf16) (x5 : Vec F S256x256 .bf16) (x6 : Vec F S1x256 .f32)

theorem ld_g (k : Fin k0_t1_loop.trips) (hb : ∀ a, (k0_off1 k) a + (![1, 144, 64] : Fin 3 → ℕ) a ≤ S128x144x64.size a) :
    View.readAt (Elt F) arg4.view (Rect.unit (k0_off1 k) ![1, 144, 64] hb).toLoadRect (harg4.unread x2) = gAt x2 k.val := by
  have hk : k.val < 128 := Nat.lt_of_lt_of_le k.isLt k0_t1_abs.2.1
  funext y
  rw [View.readAt_apply, harg4.read_unread]
  refine congrArg x2 (funext fun a => Fin.ext ?_)
  have e := congrFun (k0_off1_eq k) a
  match a with
  | ⟨0, _⟩ => have h0 : (y 0).val < 1 := (y 0).isLt
              show k0_off1 k 0 + 1 * (y 0).val = k.val % 128
              rw [show k0_off1 k 0 = k.val from e]; omega
  | ⟨1, _⟩ => show k0_off1 k 1 + 1 * (y 1).val = (y 1).val
              rw [show k0_off1 k 1 = 0 from e]; omega
  | ⟨2, _⟩ => show k0_off1 k 2 + 1 * (y 2).val = (y 2).val
              rw [show k0_off1 k 2 = 0 from e]; omega

theorem ld_u (k : ℕ) (hk : k < 128) (off : Fin 4 → ℕ) (e : off = ![0, 0, 0, 256 * k])
    (hb : ∀ a, off a + (![1, 1, 64, 256] : Fin 4 → ℕ) a ≤ S1x1x64x32768.size a) :
    View.readAt (Elt F) arg2.view (Rect.unit off ![1, 1, 64, 256] hb).toLoadRect (harg2.unread x0) = uAt x0 k := by
  subst e
  funext y
  rw [View.readAt_apply, harg2.read_unread]
  refine congrArg x0 (funext fun a => Fin.ext ?_)
  match a with
  | ⟨0, _⟩ => have h0 : (y 0).val < 1 := (y 0).isLt
              show 0 + 1 * (y 0).val = 0
              omega
  | ⟨1, _⟩ => have h0 : (y 1).val < 1 := (y 1).isLt
              show 0 + 1 * (y 1).val = 0
              omega
  | ⟨2, _⟩ => show 0 + 1 * (y 2).val = (y 2).val
              omega
  | ⟨3, _⟩ => have h0 : (y 3).val < 256 := (y 3).isLt
              show 256 * k + 1 * (y 3).val = (256 * k + (y 3).val) % 32768
              omega

theorem ld_h (k : ℕ) (hk : k < 128) (off : Fin 3 → ℕ) (e : off = ![k, 0, 0])
    (hb : ∀ a, off a + (![1, 64, 144] : Fin 3 → ℕ) a ≤ S128x64x144.size a) :
    View.readAt (Elt F) arg5.view (Rect.unit off ![1, 64, 144] hb).toLoadRect (harg5.unread x3) = hAt x3 k := by
  subst e
  funext y
  rw [View.readAt_apply, harg5.read_unread]
  refine congrArg x3 (funext fun a => Fin.ext ?_)
  match a with
  | ⟨0, _⟩ => have h0 : (y 0).val < 1 := (y 0).isLt
              show k + 1 * (y 0).val = k % 128
              omega
  | ⟨1, _⟩ => show 0 + 1 * (y 1).val = (y 1).val
              omega
  | ⟨2, _⟩ => show 0 + 1 * (y 2).val = (y 2).val
              omega

theorem ld_k (k : ℕ) (hk : k < 65) (off : Fin 4 → ℕ) (e : off = ![0, k, 0, 0])
    (hb : ∀ a, off a + (![1, 1, 256, 256] : Fin 4 → ℕ) a ≤ S1x65x256x256.size a) :
    View.readAt (Elt F) arg3.view (Rect.unit off ![1, 1, 256, 256] hb).toLoadRect (harg3.unread x1) = kAt x1 k := by
  subst e
  funext y
  rw [View.readAt_apply, harg3.read_unread]
  refine congrArg x1 (funext fun a => Fin.ext ?_)
  match a with
  | ⟨0, _⟩ => have h0 : (y 0).val < 1 := (y 0).isLt
              show 0 + 1 * (y 0).val = 0
              omega
  | ⟨1, _⟩ => have h0 : (y 1).val < 1 := (y 1).isLt
              show k + 1 * (y 1).val = k % 65
              omega
  | ⟨2, _⟩ => show 0 + 1 * (y 2).val = (y 2).val
              omega
  | ⟨3, _⟩ => show 0 + 1 * (y 3).val = (y 3).val
              omega

/-- The scratch after the first loop, place by place. -/
def G1 : Vec F S2x19456x128 .f32 := fun y => st1 x0 x2 (y 0) ((y 1).val / 152) ((y 1).val % 152) (y 2)

theorem piece (p : Fin 2) (k : ℕ) (w : Vec F S1x144x128 .f32) (hw : ∀ (r : Fin 144) (l : Fin 128), w (ix3 0 r l) = st1 x0 x2 p k r.val l)
    (off : Fin 3 → ℕ) (e : off = ![p.val, 152 * k, 0])
    (hb : ∀ a, off a + (![1, 144, 128] : Fin 3 → ℕ) a ≤ S2x19456x128.size a)
    (x : (Rect.unit (s := S2x19456x128) off ![1, 144, 128] hb).shape.Idx) :
    w x = G1 x0 x2 ((Rect.unit (s := S2x19456x128) off ![1, 144, 128] hb).emb x) := by
  subst e
  have h0 : (x 0).val < 1 := (x 0).isLt
  have h1 : (x 1).val < 144 := (x 1).isLt
  have a0 : (Rect.unit (s := S2x19456x128) ![p.val, 152 * k, 0] ![1, 144, 128] hb).emb x 0 = p :=
    Fin.ext (by show p.val + 1 * (x 0).val = p.val; omega)
  have a1 : ((Rect.unit (s := S2x19456x128) ![p.val, 152 * k, 0] ![1, 144, 128] hb).emb x 1).val = 152 * k + (x 1).val := by
    show 152 * k + 1 * (x 1).val = _; omega
  have a2 : (Rect.unit (s := S2x19456x128) ![p.val, 152 * k, 0] ![1, 144, 128] hb).emb x 2 = x 2 :=
    Fin.ext (by show 0 + 1 * (x 2).val = (x 2).val; omega)
  unfold G1
  rw [a0, a1, a2, show (152 * k + (x 1).val) / 152 = k by omega, show (152 * k + (x 1).val) % 152 = (x 1).val by omega]
  refine Eq.trans (congrArg w (funext fun a => Fin.ext ?_)) (hw (x 1) (x 2))
  match a with
  | ⟨0, _⟩ => show (x 0).val = 0; omega
  | ⟨1, _⟩ => rfl
  | ⟨2, _⟩ => rfl

theorem st1_0 (k : ℕ) (r : Fin 144) (l : Fin 128) : k0_pay2 (gAt x2 k) (uAt x0 k) (ix3 0 r l) = st1 x0 x2 0 k r.val l := by
  unfold st1
  rw [if_pos (show (0 : Fin 2).val = 0 from rfl), show (⟨r.val % 144, Nat.mod_lt _ (by decide)⟩ : Fin 144) = r from Fin.ext (Nat.mod_eq_of_lt r.isLt)]

theorem st1_1 (k : ℕ) (r : Fin 144) (l : Fin 128) : k0_pay3 (gAt x2 k) (uAt x0 k) (ix3 0 r l) = st1 x0 x2 1 k r.val l := by
  unfold st1
  rw [if_neg (show ¬ (1 : Fin 2).val = 0 by decide), show (⟨r.val % 144, Nat.mod_lt _ (by decide)⟩ : Fin 144) = r from Fin.ext (Nat.mod_eq_of_lt r.isLt)]

/-- A place of column block `k`, row below 144, is in the trip's piece of its plane. -/
theorem mem_piece (p k : ℕ) (off : Fin 3 → ℕ) (e : off = ![p, 152 * k, 0])
    (hb : ∀ a, off a + (![1, 144, 128] : Fin 3 → ℕ) a ≤ S2x19456x128.size a) (y : S2x19456x128.Idx) (h0 : (y 0).val = p)
    (h1 : (y 1).val / 152 = k) (h2 : (y 1).val % 152 < 144) : y ∈ (Rect.unit off ![1, 144, 128] hb).set := by
  subst e
  refine LoadRect.mem_set _ |>.mpr fun a => ?_
  match a with
  | ⟨0, _⟩ => exact ⟨0, Nat.one_pos, by show (y 0).val = p + 1 * 0; omega⟩
  | ⟨1, _⟩ => exact ⟨(y 1).val % 152, h2, by show (y 1).val = 152 * k + 1 * ((y 1).val % 152); omega⟩
  | ⟨2, _⟩ => exact ⟨(y 2).val, (y 2).isLt, by show (y 2).val = 0 + 1 * (y 2).val; omega⟩

/-- The pieces of the first `K` trips agree with `G1` and cover the column blocks before `K`. -/
theorem pb1 (K : ℕ) (hK : K ≤ k0_t1_loop.trips) :
    (∀ p ∈ pb_k0_t1 (F := F) 𝒱 c bd i arg2 harg2 arg3 harg3 arg4 harg4 arg5 harg5 arg6 harg6 arg7 harg7 arg8 harg8 arg9 harg9 arg10 harg10 (harg2.unread x0) (harg4.unread x2) K, ∀ x : p.1.shape.Idx, p.2 x = G1 x0 x2 (p.1.emb x))
    ∧ ∀ y : S2x19456x128.Idx, (y 1).val / 152 < K → (y 1).val % 152 < 144 →
        ∃ p ∈ pb_k0_t1 (F := F) 𝒱 c bd i arg2 harg2 arg3 harg3 arg4 harg4 arg5 harg5 arg6 harg6 arg7 harg7 arg8 harg8 arg9 harg9 arg10 harg10 (harg2.unread x0) (harg4.unread x2) K, y ∈ p.1.set := by
  induction K with
  | zero => exact ⟨fun p hp => absurd hp List.not_mem_nil, fun y h => absurd h (Nat.not_lt_zero _)⟩
  | succ k ih =>
    obtain ⟨ih1, ih2⟩ := ih (Nat.le_of_succ_le hK)
    have hk : k < 128 := Nat.lt_of_lt_of_le hK k0_t1_abs.2.1
    have hs := pb_k0_t1_succ (F := F) 𝒱 c bd i arg2 harg2 arg3 harg3 arg4 harg4 arg5 harg5 arg6 harg6 arg7 harg7 arg8 harg8 arg9 harg9 arg10 harg10 (harg2.unread x0) (harg4.unread x2) ⟨k, hK⟩
    rw [show (⟨k, hK⟩ : Fin k0_t1_loop.trips).val + 1 = k + 1 from rfl] at hs
    rw [hs]
    unfold tripL_k0_t1 trip_k0_t1
    dsimp only
    rw [ld_g (F := F) arg4 harg4 x2 ⟨k, hK⟩, ld_u (F := F) arg2 harg2 x0 k hk _ (k0_off2_eq ⟨k, hK⟩)]
    constructor
    · intro p hp
      rcases List.mem_append.mp hp with hp | hp
      · rcases List.mem_cons.mp hp with rfl | hp
        · exact fun x => piece x0 x2 1 k _ (st1_1 x0 x2 k) (k0_off4 ⟨k, hK⟩) (k0_off4_eq ⟨k, hK⟩) (k0_off4_inb ⟨k, hK⟩) x
        · rcases List.mem_cons.mp hp with rfl | hp
          · exact fun x => piece x0 x2 0 k _ (st1_0 x0 x2 k) (k0_off3 ⟨k, hK⟩) (k0_off3_eq ⟨k, hK⟩) (k0_off3_inb ⟨k, hK⟩) x
          · exact absurd hp List.not_mem_nil
      · exact ih1 p hp
    · intro y h1 h2
      by_cases hy : (y 1).val / 152 < k
      · obtain ⟨p, hp, hm⟩ := ih2 y hy h2
        exact ⟨p, List.mem_append_right _ hp, hm⟩
      · have h1' : (y 1).val / 152 = k := by omega
        by_cases h0 : (y 0).val = 0
        · refine ⟨_, List.mem_append_left _ (List.mem_cons_of_mem _ List.mem_cons_self), ?_⟩
          exact mem_piece 0 k (k0_off3 ⟨k, hK⟩) (k0_off3_eq ⟨k, hK⟩) (k0_off3_inb ⟨k, hK⟩) y h0 h1' h2
        · have h0' : (y 0).val = 1 := by have : (y 0).val < 2 := (y 0).isLt; omega
          refine ⟨_, List.mem_append_left _ List.mem_cons_self, ?_⟩
          exact mem_piece 1 k (k0_off4 ⟨k, hK⟩) (k0_off4_eq ⟨k, hK⟩) (k0_off4_inb ⟨k, hK⟩) y h0' h1' h2

/-- The scratch after the first loop. -/
theorem holds1 (f : BufTy.Contents (Elt F) arg10.view.ty) :
    Holds arg10 (arg10.view.writes (Elt F) f (pb_k0_t1 (F := F) 𝒱 c bd i arg2 harg2 arg3 harg3 arg4 harg4 arg5 harg5 arg6 harg6 arg7 harg7 arg8 harg8 arg9 harg9 arg10 harg10 (harg2.unread x0) (harg4.unread x2) k0_t1_loop.trips))
      (st1 x0 x2) := by
  intro y hy
  obtain ⟨h1, h2⟩ := pb1 (F := F) 𝒱 c bd i arg2 harg2 arg3 harg3 arg4 harg4 arg5 harg5 arg6 harg6 arg7 harg7 arg8 harg8 arg9 harg9 arg10 harg10 x0 x2 k0_t1_loop.trips le_rfl
  have ht : k0_t1_loop.trips = 128 := by decide +kernel
  have : (y 1).val < 19456 := (y 1).isLt
  exact View.read_writes_apply_of_pieces _ _ (G1 x0 x2) _ h1 y (h2 y (by rw [ht]; omega) hy)

/-! ## The second loop -/

/-- Plane `p` of the scratch places its index `z` at `[p, z 0, z 1]`. -/
theorem emb_plane (p : Fin 2) (off₀ : Fin 3 → ℕ) (e₀ : off₀ = ![p.val, 0, 0])
    (hb₀ : ∀ a, off₀ a + S1x19456x128.size a ≤ S2x19456x128.size a)
    (h₀ : ∀ a, (Rect.unit (s := S2x19456x128) off₀ S1x19456x128.size hb₀).stride a = 1)
    (hq : (Rect.unit (s := S2x19456x128) off₀ S1x19456x128.size hb₀).shape.Squeezes S19456x128) (z : S19456x128.Idx) :
    ((arg10.slice (Rect.unit (s := S2x19456x128) off₀ S1x19456x128.size hb₀) h₀).squeeze S19456x128 hq).view.emb z
      = arg10.view.emb (ix3 p (z 0) (z 1)) := by
  subst e₀
  show arg10.view.emb ((Rect.unit (s := S2x19456x128) _ S1x19456x128.size hb₀).emb (Shape.reshapeEquiv hq.numel_eq z)) = _
  refine congrArg _ ?_
  rw [Shape.reshapeEquiv_cons_one (n := 2) (d := ![19456, 128]) hq.numel_eq z]
  funext a
  refine Fin.ext ?_
  match a with
  | ⟨0, _⟩ => show p.val + 1 * 0 = p.val; omega
  | ⟨1, _⟩ => show 0 + 1 * (z 0).val = (z 0).val; omega
  | ⟨2, _⟩ => show 0 + 1 * (z 1).val = (z 1).val; omega

/-- A strided load through plane `p` at row `k`: row `k` of every column block. -/
theorem read_row (f : BufTy.Contents (Elt F) arg10.view.ty) (p : Fin 2) (off₀ : Fin 3 → ℕ) (e₀ : off₀ = ![p.val, 0, 0])
    (hb₀ : ∀ a, off₀ a + S1x19456x128.size a ≤ S2x19456x128.size a)
    (h₀ : ∀ a, (Rect.unit (s := S2x19456x128) off₀ S1x19456x128.size hb₀).stride a = 1)
    (hq : (Rect.unit (s := S2x19456x128) off₀ S1x19456x128.size hb₀).shape.Squeezes S19456x128)
    (k : ℕ) (hk : k < 152) (off : Fin 2 → ℕ) (e : off = ![k, 0])
    (hb : ∀ a, S128x128.size a = 0 ∨ off a + (![152, 1] : Fin 2 → ℕ) a * (S128x128.size a - 1) < S19456x128.size a)
    (V : Fin 2 → ℕ → ℕ → Fin 128 → Elt F .f32) (hV : Holds arg10 f V) (hk' : k < 144) :
    View.readAt (Elt F) ((arg10.slice (Rect.unit (s := S2x19456x128) off₀ S1x19456x128.size hb₀) h₀).squeeze S19456x128 hq).view
        (⟨off, S128x128.size, ![152, 1], hb⟩ : LoadRect S19456x128) f
      = (fun x : S128x128.Idx => V p (x 0).val k (x 1)) := by
  subst e
  funext x
  have h0 : (x 0).val < 128 := (x 0).isLt
  set z := (⟨![k, 0], S128x128.size, ![152, 1], hb⟩ : LoadRect S19456x128).idx x with hz
  have z0 : (z 0).val = k + 152 * (x 0).val := rfl
  have z1 : z 1 = x 1 := Fin.ext (by show 0 + 1 * (x 1).val = (x 1).val; omega)
  have hr := hV (ix3 p (z 0) (z 1)) (by show (z 0).val % 152 < 144; rw [z0]; omega)
  rw [View.readAt_apply]
  refine Eq.trans (Eq.trans ?_ hr) ?_
  · unfold View.read
    rw [← emb_plane arg10 p off₀ e₀ hb₀ h₀ hq z]
  · show V p ((z 0).val / 152) ((z 0).val % 152) (z 1) = V p (x 0).val k (x 1)
    rw [z0, z1, show (k + 152 * (x 0).val) / 152 = (x 0).val by omega, show (k + 152 * (x 0).val) % 152 = k by omega]

/-- A strided store through plane `p` at row `k`, read back: the payload on row `k` of plane `p`, the rest as it was. -/
theorem read_rowsWrite (f : BufTy.Contents (Elt F) arg10.view.ty) (p : Fin 2) (off₀ : Fin 3 → ℕ) (e₀ : off₀ = ![p.val, 0, 0])
    (hb₀ : ∀ a, off₀ a + S1x19456x128.size a ≤ S2x19456x128.size a)
    (h₀ : ∀ a, (Rect.unit (s := S2x19456x128) off₀ S1x19456x128.size hb₀).stride a = 1)
    (hq : (Rect.unit (s := S2x19456x128) off₀ S1x19456x128.size hb₀).shape.Squeezes S19456x128)
    (k : ℕ) (hk : k < 144) (off : Fin 2 → ℕ) (e : off = ![k, 0])
    (hb : ∀ a, S128x128.size a = 0 ∨ off a + (![152, 1] : Fin 2 → ℕ) a * (S128x128.size a - 1) < S19456x128.size a)
    (hs : ∀ a, 0 < (![152, 1] : Fin 2 → ℕ) a) (w : Vec F S128x128 .f32)
    (V V' : Fin 2 → ℕ → ℕ → Fin 128 → Elt F .f32) (hV : Holds arg10 f V)
    (hw : ∀ n : Fin 128, ∀ l, V' p n.val k l = w (ix2 n l))
    (hV' : ∀ (q : Fin 2) (n r : ℕ) (l : Fin 128), ¬ (q = p ∧ r = k) → V' q n r l = V q n r l) :
    Holds arg10 (rowsWrite (Val := Elt F) arg10 (Rect.unit (s := S2x19456x128) off₀ S1x19456x128.size hb₀) h₀ hq
      ⟨(⟨off, S128x128.size, ![152, 1], hb⟩ : LoadRect S19456x128), hs⟩ f w) V' := by
  subst e
  intro y hy
  have y1 : (y 1).val < 19456 := (y 1).isLt
  set r : Rect S19456x128 := ⟨(⟨![k, 0], S128x128.size, ![152, 1], hb⟩ : LoadRect S19456x128), hs⟩ with hr
  set m' := (arg10.slice (Rect.unit (s := S2x19456x128) off₀ S1x19456x128.size hb₀) h₀).squeeze S19456x128 hq with hm
  have hemb : ∀ x : S128x128.Idx, (m'.access r).emb x = arg10.view.emb (ix3 p (r.emb x 0) (r.emb x 1)) := fun x =>
    emb_plane arg10 p off₀ e₀ hb₀ h₀ hq (r.emb x)
  have z0 : ∀ x : S128x128.Idx, (r.emb x 0).val = k + 152 * (x 0).val := fun x => rfl
  have z1 : ∀ x : S128x128.Idx, (r.emb x 1).val = (x 1).val := fun x => by show 0 + 1 * (x 1).val = (x 1).val; omega
  by_cases h : y 0 = p ∧ (y 1).val % 152 = k
  · obtain ⟨hp, hkk⟩ := h
    have hn : (y 1).val / 152 < 128 := by omega
    set x : S128x128.Idx := ix2 ⟨(y 1).val / 152, hn⟩ (y 2) with hx
    have hyx : y = (ix3 p (r.emb x 0) (r.emb x 1) : S2x19456x128.Idx) := by
      funext a
      match a with
      | ⟨0, _⟩ => exact hp
      | ⟨1, _⟩ => exact Fin.ext (show (y 1).val = (r.emb x 0).val by
          rw [z0 x]; show (y 1).val = k + 152 * ((y 1).val / 152); omega)
      | ⟨2, _⟩ => exact Fin.ext (show (y 2).val = (r.emb x 1).val by rw [z1 x]; rfl)
    have e1 : arg10.view.read (Elt F) ((m'.access r).write (Elt F) f w Finset.univ) y = w x := by
      have hh := View.write_emb_of_mem (v := m'.access r) (Val := Elt F) f w (Finset.mem_univ x)
      unfold View.read
      rw [show arg10.view.emb y = (m'.access r).emb x from (congrArg _ hyx).trans (hemb x).symm]
      exact (congrArg (cast _) hh).trans (cast_cast _ _ _)
    refine e1.trans ?_
    rw [hp, hkk, hw ⟨(y 1).val / 152, hn⟩ (y 2)]
  · rw [hV' (y 0) _ _ (y 2) h, ← hV y hy]
    have hne : arg10.view.emb y ∉ (m'.access r).setOn Finset.univ := by
      intro hmem
      obtain ⟨x, -, hx⟩ := Finset.mem_map.mp hmem
      have hyx : ix3 p (r.emb x 0) (r.emb x 1) = y := arg10.view.emb.injective ((hemb x).symm.trans hx)
      apply h
      subst hyx
      have h0 : (x 0).val < 128 := (x 0).isLt
      exact ⟨rfl, by show (r.emb x 0).val % 152 = k; rw [z0 x]; omega⟩
    unfold View.read
    exact congrArg (cast _) (View.write_of_not_mem (v := m'.access r) (Val := Elt F) f w Finset.univ hne)

/-- `V` with row `k` of plane `p` replaced. -/
def upd (V : Fin 2 → ℕ → ℕ → Fin 128 → Elt F .f32) (p : Fin 2) (k : ℕ) (w : Vec F S128x128 .f32) : Fin 2 → ℕ → ℕ → Fin 128 → Elt F .f32 :=
  fun q n r l => if q = p ∧ r = k then w (ix2 ⟨n % 128, Nat.mod_lt _ (by decide)⟩ l) else V q n r l

theorem holds_rows (f : BufTy.Contents (Elt F) arg10.view.ty) (p : Fin 2) (off₀ : Fin 3 → ℕ) (e₀ : off₀ = ![p.val, 0, 0])
    (hb₀ : ∀ a, off₀ a + S1x19456x128.size a ≤ S2x19456x128.size a)
    (h₀ : ∀ a, (Rect.unit (s := S2x19456x128) off₀ S1x19456x128.size hb₀).stride a = 1)
    (hq : (Rect.unit (s := S2x19456x128) off₀ S1x19456x128.size hb₀).shape.Squeezes S19456x128)
    (k : ℕ) (hk : k < 144) (off : Fin 2 → ℕ) (e : off = ![k, 0])
    (hb : ∀ a, S128x128.size a = 0 ∨ off a + (![152, 1] : Fin 2 → ℕ) a * (S128x128.size a - 1) < S19456x128.size a)
    (hs : ∀ a, 0 < (![152, 1] : Fin 2 → ℕ) a) (w : Vec F S128x128 .f32)
    (V : Fin 2 → ℕ → ℕ → Fin 128 → Elt F .f32) (hV : Holds arg10 f V) :
    Holds arg10 (rowsWrite (Val := Elt F) arg10 (Rect.unit (s := S2x19456x128) off₀ S1x19456x128.size hb₀) h₀ hq
      ⟨(⟨off, S128x128.size, ![152, 1], hb⟩ : LoadRect S19456x128), hs⟩ f w) (upd V p k w) :=
  read_rowsWrite arg10 f p off₀ e₀ hb₀ h₀ hq k hk off e hb hs w V (upd V p k w) hV
    (fun n l => by
      unfold upd
      rw [if_pos ⟨rfl, rfl⟩, show (⟨n.val % 128, Nat.mod_lt _ (by decide)⟩ : Fin 128) = n from Fin.ext (Nat.mod_eq_of_lt n.isLt)])
    (fun q n r l h => if_neg h)

theorem st2_eq_st1 (k : ℕ) (hk : k < 65) (p : Fin 2) (n : ℕ) (l : Fin 128) : st2 x0 x1 x2 x4 x5 k p n k l = st1 x0 x2 p n k l := by
  unfold st2; rw [if_neg (by omega), if_neg (by omega)]

theorem st2_eq_st1' (k : ℕ) (hk : k < 65) (p : Fin 2) (n : ℕ) (l : Fin 128) :
    st2 x0 x1 x2 x4 x5 k p n (k + 72) l = st1 x0 x2 p n (k + 72) l := by
  unfold st2; rw [if_neg (by omega), if_neg (by omega)]

/-- The four rows a trip stores take the scratch from before the trip to after it. -/
theorem upd_st2 (k : ℕ) (hk : k < 65) (p : Fin 2) (n r : ℕ) (l : Fin 128) :
    upd (upd (upd (upd (st2 x0 x1 x2 x4 x5 k)
        0 k (k0_pay11 (k0_pay7 (kAt x1 k)) (reAt x0 x2 x4 k) (imAt x0 x2 x4 k) x5))
        1 k (k0_pay12 (k0_pay7 (kAt x1 k)) (reAt x0 x2 x4 k) (imAt x0 x2 x4 k) x5))
        0 (k + 72) (k0_pay13 (k0_pay7 (kAt x1 k)) (reAt x0 x2 x4 k) (imAt x0 x2 x4 k) x5))
        1 (k + 72) (k0_pay4 (k0_pay14 (k0_pay7 (kAt x1 k)) (reAt x0 x2 x4 k) (imAt x0 x2 x4 k) x5)) p n r l
      = st2 x0 x1 x2 x4 x5 (k + 1) p n r l := by
  have hp : p = 0 ∨ p = 1 := by revert p; decide
  by_cases h1 : r = k
  · subst h1
    rcases hp with rfl | rfl
    · simp [upd, st2, sre]
    · simp [upd, st2, sre]
  · by_cases h2 : r = k + 72
    · subst h2
      rcases hp with rfl | rfl
      · have : ¬ k + 72 < k + 1 := by omega
        simp [upd, st2, sim, this]
        intro h; omega
      · have : ¬ k + 72 < k + 1 := by omega
        simp [upd, st2, sim, this]
        intro h; omega
    · have a : (r < k + 1) ↔ r < k := by omega
      have b : (r < 72 + (k + 1)) ↔ r < 72 + k := by omega
      simp [upd, st2, h1, h2, a, b]

/-- A buffer loaded whole. -/
theorem ld_whole {e : EltTy} (m : Memref sig .tc .vmem S256x256 e) (hm : m.IsWhole) (x : Vec F S256x256 e)
    (hb : ∀ a, (![0, 0] : Fin 2 → ℕ) a + S256x256.size a ≤ S256x256.size a) :
    View.readAt (Elt F) m.view (Rect.unit (s := S256x256) ![0, 0] S256x256.size hb).toLoadRect (hm.unread x) = x := by
  funext y
  rw [View.readAt_apply, hm.read_unread]
  refine congrArg x (funext fun a => Fin.ext ?_)
  match a with
  | ⟨0, _⟩ => show 0 + 1 * (y 0).val = (y 0).val; omega
  | ⟨1, _⟩ => show 0 + 1 * (y 1).val = (y 1).val; omega

theorem holds_trip (k : Fin k0_t2_loop.trips) (f : BufTy.Contents (Elt F) arg10.view.ty) (hV : Holds arg10 f (st2 x0 x1 x2 x4 x5 k.val)) :
    Holds arg10 ((trip2 (F := F) 𝒱 c bd i arg2 harg2 arg3 harg3 arg4 harg4 arg5 harg5 arg6 harg6 arg7 harg7 arg8 harg8 arg9 harg9 arg10 harg10 (harg3.unread x1) (harg6.unread x4) (harg7.unread x5) k).1 f)
      (st2 x0 x1 x2 x4 x5 (k.val + 1)) := by
  have hk : k.val < 65 := Nat.lt_of_lt_of_le k.isLt k0_t2_abs.2.1
  unfold trip2
  dsimp only
  have e11 : trip2.sl.v11 arg10 k f = row1 x0 x2 0 k.val := by
    unfold trip2.sl.v11
    refine (read_row arg10 f 0 _ rfl _ _ _ k.val (by omega) _ (k0_off5_eq k 0) _ _ hV (by omega)).trans ?_
    funext x; exact st2_eq_st1 x0 x1 x2 x4 x5 k.val hk 0 _ _
  have e16 : trip2.sl.v16 arg10 k f = row1 x0 x2 1 k.val := by
    unfold trip2.sl.v16
    refine (read_row arg10 f 1 _ rfl _ _ _ k.val (by omega) _ (k0_off5_eq k 0) _ _ hV (by omega)).trans ?_
    funext x; exact st2_eq_st1 x0 x1 x2 x4 x5 k.val hk 1 _ _
  have e22 : trip2.sl.v22 arg10 k f = row1 x0 x2 0 (k.val + 72) := by
    unfold trip2.sl.v22
    refine (read_row arg10 f 0 _ rfl _ _ _ (k.val + 72) (by omega) _ (k0_off5_eq k 1) _ _ hV (by omega)).trans ?_
    funext x; exact st2_eq_st1' x0 x1 x2 x4 x5 k.val hk 0 _ _
  have e27 : trip2.sl.v27 arg10 k f = row1 x0 x2 1 (k.val + 72) := by
    unfold trip2.sl.v27
    refine (read_row arg10 f 1 _ rfl _ _ _ (k.val + 72) (by omega) _ (k0_off5_eq k 1) _ _ hV (by omega)).trans ?_
    funext x; exact st2_eq_st1' x0 x1 x2 x4 x5 k.val hk 1 _ _
  rw [e11, e16, e22, e27]
  rw [ld_k (F := F) arg3 harg3 x1 k.val hk (k0_off6 k) (k0_off6_eq k), ld_whole arg6 harg6 x4, ld_whole arg7 harg7 x5]
  have h1 := fun w => holds_rows arg10 f 0 ![0, 0, 0] rfl inb_S2x19456x128_S1x19456x128_0_0_0 (fun _ => rfl)
    squeezes_S1x19456x128_S19456x128 k.val (by omega) (k0_off5 k 0#32) (k0_off5_eq k 0) (k0_off5_inb k 0) spos_152_1 w _ hV
  have h2 := fun w w' => holds_rows arg10 _ 1 ![1, 0, 0] rfl inb_S2x19456x128_S1x19456x128_1_0_0 (fun _ => rfl)
    squeezes_S1x19456x128_S19456x128 k.val (by omega) (k0_off5 k 0#32) (k0_off5_eq k 0) (k0_off5_inb k 0) spos_152_1 w' _ (h1 w)
  have h3 := fun w w' w'' => holds_rows arg10 _ 0 ![0, 0, 0] rfl inb_S2x19456x128_S1x19456x128_0_0_0 (fun _ => rfl)
    squeezes_S1x19456x128_S19456x128 (k.val + 72) (by omega) (k0_off5 k 72#32) (k0_off5_eq k 1) (k0_off5_inb k 1) spos_152_1 w'' _ (h2 w w')
  have h4 := fun w w' w'' v => holds_rows arg10 _ 1 ![1, 0, 0] rfl inb_S2x19456x128_S1x19456x128_1_0_0 (fun _ => rfl)
    squeezes_S1x19456x128_S19456x128 (k.val + 72) (by omega) (k0_off5 k 72#32) (k0_off5_eq k 1) (k0_off5_inb k 1) spos_152_1 v _ (h3 w w' w'')
  intro y hy
  refine (h4 _ _ _ _ y hy).trans ?_
  generalize y 0 = p, (y 1).val / 152 = n, (y 1).val % 152 = r, y 2 = l
  exact upd_st2 x0 x1 x2 x4 x5 k.val hk p n r l

theorem st2_zero : st2 x0 x1 x2 x4 x5 0 = st1 x0 x2 := by
  funext p n r l
  unfold st2; rw [if_neg (by omega), if_neg (by omega)]

/-- The scratch before trip `K` of the second loop. -/
theorem holds2 (G : BufTy.Contents (Elt F) arg10.view.ty) (hG : Holds arg10 G (st1 x0 x2)) (K : ℕ) (hK : K ≤ k0_t2_loop.trips) :
    Holds arg10 (scr2 (F := F) 𝒱 c bd i arg2 harg2 arg3 harg3 arg4 harg4 arg5 harg5 arg6 harg6 arg7 harg7 arg8 harg8 arg9 harg9 arg10 harg10 (harg3.unread x1) (harg6.unread x4) (harg7.unread x5) G K) (st2 x0 x1 x2 x4 x5 K) := by
  induction K with
  | zero => rw [st2_zero]; exact hG
  | succ k ih =>
    rw [show k + 1 = (⟨k, hK⟩ : Fin k0_t2_loop.trips).val + 1 from rfl, scr2_succ]
    exact holds_trip (F := F) 𝒱 c bd i arg2 harg2 arg3 harg3 arg4 harg4 arg5 harg5 arg6 harg6 arg7 harg7 arg8 harg8 arg9 harg9 arg10 harg10 x0 x1 x2 x4 x5 ⟨k, hK⟩ _ (ih (Nat.le_of_succ_le hK))

/-! ## The third loop -/

theorem ld_tile (f : BufTy.Contents (Elt F) arg10.view.ty) (p : Fin 2) (k : ℕ) (hV : Holds arg10 f (st2 x0 x1 x2 x4 x5 65))
    (off : Fin 3 → ℕ) (e : off = ![p.val, 152 * k, 0]) (hb : ∀ a, off a + S1x144x128.size a ≤ S2x19456x128.size a) :
    View.readAt (Elt F) arg10.view (Rect.unit (s := S2x19456x128) off S1x144x128.size hb).toLoadRect f = tile x0 x1 x2 x4 x5 p k := by
  subst e
  funext y
  have h0 : (y 0).val < 1 := (y 0).isLt
  have h1 : (y 1).val < 144 := (y 1).isLt
  set z := (Rect.unit (s := S2x19456x128) ![p.val, 152 * k, 0] S1x144x128.size hb).toLoadRect.idx y with hz
  have z0 : z 0 = p := Fin.ext (by show p.val + 1 * (y 0).val = p.val; omega)
  have z1 : (z 1).val = 152 * k + (y 1).val := by show 152 * k + 1 * (y 1).val = _; omega
  have z2 : z 2 = y 2 := Fin.ext (by show 0 + 1 * (y 2).val = (y 2).val; omega)
  rw [View.readAt_apply]
  refine (hV z (by rw [z1]; omega)).trans ?_
  rw [z0, z1, z2, show (152 * k + (y 1).val) / 152 = k by omega, show (152 * k + (y 1).val) % 152 = (y 1).val by omega]
  rfl

theorem ld_skip (hb : ∀ a, (![0, 0] : Fin 2 → ℕ) a + S1x256.size a ≤ S1x256.size a) :
    View.readAt (Elt F) arg8.view (Rect.unit (s := S1x256) ![0, 0] S1x256.size hb).toLoadRect (harg8.unread x6) = x6 := by
  funext y
  rw [View.readAt_apply, harg8.read_unread]
  refine congrArg x6 (funext fun a => Fin.ext ?_)
  match a with
  | ⟨0, _⟩ => show 0 + 1 * (y 0).val = (y 0).val; omega
  | ⟨1, _⟩ => show 0 + 1 * (y 1).val = (y 1).val; omega

theorem piece3 (k : ℕ) (off : Fin 4 → ℕ) (e : off = ![0, 0, 0, 256 * k])
    (hb : ∀ a, off a + S1x1x64x256.size a ≤ S1x1x64x32768.size a)
    (x : (Rect.unit (s := S1x1x64x32768) off S1x1x64x256.size hb).shape.Idx) :
    k0_pay5 x6 (tile x0 x1 x2 x4 x5 0 k) (tile x0 x1 x2 x4 x5 1 k) (hAt x3 k) (uAt x0 k) x
      = outv x0 x1 x2 x3 x4 x5 x6 ((Rect.unit (s := S1x1x64x32768) off S1x1x64x256.size hb).emb x) := by
  subst e
  have h0 : (x 0).val < 1 := (x 0).isLt
  have h1 : (x 1).val < 1 := (x 1).isLt
  have h3 : (x 3).val < 256 := (x 3).isLt
  set z := (Rect.unit (s := S1x1x64x32768) ![0, 0, 0, 256 * k] S1x1x64x256.size hb).emb x with hz
  have z2 : z 2 = x 2 := Fin.ext (by show 0 + 1 * (x 2).val = (x 2).val; omega)
  have z3 : (z 3).val = 256 * k + (x 3).val := by show 256 * k + 1 * (x 3).val = _; omega
  unfold outv
  rw [show (z 3).val / 256 = k by rw [z3]; omega, z2]
  refine congrArg _ (funext fun a => Fin.ext ?_)
  match a with
  | ⟨0, _⟩ => show (x 0).val = 0; omega
  | ⟨1, _⟩ => show (x 1).val = 0; omega
  | ⟨2, _⟩ => rfl
  | ⟨3, _⟩ => show (x 3).val = (z 3).val % 256; rw [z3]; omega

theorem mem_piece3 (k : ℕ) (off : Fin 4 → ℕ) (e : off = ![0, 0, 0, 256 * k])
    (hb : ∀ a, off a + S1x1x64x256.size a ≤ S1x1x64x32768.size a) (y : S1x1x64x32768.Idx) (h : (y 3).val / 256 = k) :
    y ∈ (Rect.unit (s := S1x1x64x32768) off S1x1x64x256.size hb).set := by
  subst e
  have h0 : (y 0).val < 1 := (y 0).isLt
  have h1 : (y 1).val < 1 := (y 1).isLt
  refine LoadRect.mem_set _ |>.mpr fun a => ?_
  match a with
  | ⟨0, _⟩ => exact ⟨0, Nat.one_pos, by show (y 0).val = 0 + 1 * 0; omega⟩
  | ⟨1, _⟩ => exact ⟨0, Nat.one_pos, by show (y 1).val = 0 + 1 * 0; omega⟩
  | ⟨2, _⟩ => exact ⟨(y 2).val, (y 2).isLt, by show (y 2).val = 0 + 1 * (y 2).val; omega⟩
  | ⟨3, _⟩ => exact ⟨(y 3).val % 256, Nat.mod_lt _ (by decide), by show (y 3).val = 256 * k + 1 * ((y 3).val % 256); omega⟩

theorem pb3 (X : BufTy.Contents (Elt F) arg10.view.ty) (hX : Holds arg10 X (st2 x0 x1 x2 x4 x5 65)) (K : ℕ) (hK : K ≤ k0_t3_loop.trips) :
    (∀ p ∈ pb_k0_t3 (F := F) 𝒱 c bd i arg2 harg2 arg3 harg3 arg4 harg4 arg5 harg5 arg6 harg6 arg7 harg7 arg8 harg8 arg9 harg9 arg10 harg10 x6 (harg2.unread x0) (harg5.unread x3) X K,
        ∀ x : p.1.shape.Idx, p.2 x = outv x0 x1 x2 x3 x4 x5 x6 (p.1.emb x))
    ∧ ∀ y : S1x1x64x32768.Idx, (y 3).val / 256 < K →
        ∃ p ∈ pb_k0_t3 (F := F) 𝒱 c bd i arg2 harg2 arg3 harg3 arg4 harg4 arg5 harg5 arg6 harg6 arg7 harg7 arg8 harg8 arg9 harg9 arg10 harg10 x6 (harg2.unread x0) (harg5.unread x3) X K, y ∈ p.1.set := by
  induction K with
  | zero => exact ⟨fun p hp => absurd hp List.not_mem_nil, fun y h => absurd h (Nat.not_lt_zero _)⟩
  | succ k ih =>
    obtain ⟨ih1, ih2⟩ := ih (Nat.le_of_succ_le hK)
    have hk : k < 128 := Nat.lt_of_lt_of_le hK k0_t3_abs.2.1
    have hs := pb_k0_t3_succ (F := F) 𝒱 c bd i arg2 harg2 arg3 harg3 arg4 harg4 arg5 harg5 arg6 harg6 arg7 harg7 arg8 harg8 arg9 harg9 arg10 harg10 x6 (harg2.unread x0) (harg5.unread x3) X ⟨k, hK⟩
    rw [show (⟨k, hK⟩ : Fin k0_t3_loop.trips).val + 1 = k + 1 from rfl] at hs
    rw [hs]
    unfold tripL_k0_t3 trip_k0_t3
    dsimp only
    rw [ld_tile (F := F) arg10 x0 x1 x2 x4 x5 X 0 k hX _ (k0_off7_eq ⟨k, hK⟩), ld_tile (F := F) arg10 x0 x1 x2 x4 x5 X 1 k hX _ (k0_off8_eq ⟨k, hK⟩),
      ld_h (F := F) arg5 harg5 x3 k hk _ (k0_off9_eq ⟨k, hK⟩), ld_u (F := F) arg2 harg2 x0 k hk _ (k0_off10_eq ⟨k, hK⟩)]
    constructor
    · intro p hp
      rcases List.mem_append.mp hp with hp | hp
      · rcases List.mem_cons.mp hp with rfl | hp
        · exact piece3 x0 x1 x2 x3 x4 x5 x6 k (k0_off10 ⟨k, hK⟩) (k0_off10_eq ⟨k, hK⟩) (k0_off10_inb ⟨k, hK⟩)
        · exact absurd hp List.not_mem_nil
      · exact ih1 p hp
    · intro y h1
      by_cases hy : (y 3).val / 256 < k
      · obtain ⟨p, hp, hm⟩ := ih2 y hy
        exact ⟨p, List.mem_append_right _ hp, hm⟩
      · refine ⟨_, List.mem_append_left _ List.mem_cons_self, ?_⟩
        exact mem_piece3 k (k0_off10 ⟨k, hK⟩) (k0_off10_eq ⟨k, hK⟩) (k0_off10_inb ⟨k, hK⟩) y (by omega)

/-- What the body leaves in the output block. -/
theorem read_run (c : Dev nD) (fs : BufTy.Contents (Elt F) arg10.view.ty) (f : BufTy.Contents (Elt F) arg9.view.ty) :
    arg9.view.read (Elt F) (arg9.view.writes (Elt F) f ((run c i arg2 harg2 arg3 harg3 arg4 harg4 arg5 harg5 arg6 harg6 arg7 harg7 arg8 harg8 arg9 harg9 arg10 harg10 x0 x1 x2 x3 x4 x5 x6).1 fs)) = outv x0 x1 x2 x3 x4 x5 x6 := by
  funext y
  unfold run
  dsimp only
  rw [ld_skip arg8 harg8 x6]
  have hG := holds1 (F := F) Variants.none c none i arg2 harg2 arg3 harg3 arg4 harg4 arg5 harg5 arg6 harg6 arg7 harg7 arg8 harg8 arg9 harg9 arg10 harg10 x0 x2 fs
  have hX := holds2 (F := F) Variants.none c none i arg2 harg2 arg3 harg3 arg4 harg4 arg5 harg5 arg6 harg6 arg7 harg7 arg8 harg8 arg9 harg9 arg10 harg10 x0 x1 x2 x4 x5 _ hG k0_t2_loop.trips le_rfl
  rw [show k0_t2_loop.trips = 65 by decide +kernel] at hX
  obtain ⟨h1, h2⟩ := pb3 (F := F) Variants.none c none i arg2 harg2 arg3 harg3 arg4 harg4 arg5 harg5 arg6 harg6 arg7 harg7 arg8 harg8 arg9 harg9 arg10 harg10 x0 x1 x2 x3 x4 x5 x6 _ hX k0_t3_loop.trips le_rfl
  have ht : k0_t3_loop.trips = 128 := by decide +kernel
  have hy : (y 3).val < 32768 := (y 3).isLt
  exact View.read_writes_apply_of_pieces _ _ (outv x0 x1 x2 x3 x4 x5 x6) _ h1 y (h2 y (by rw [ht]; omega))

end Cert.Kernel3Ideal.Conv

end
-- ==== Proof.LcFrame.lean ====
/- The launch of the long convolution: what its windows stage, the body at each grid point, the run, the frame. -/
module

public import proofs.«01_k».proof.Proof.LcBody
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Claim
public import Idealize.ShloMosaic.Lib.WordCmp

@[expose] public section

set_option maxRecDepth 16384

noncomputable section

namespace Cert.Kernel3Ideal.Conv

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- A core's buffers when the region is entered. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The kernel body on any staging memrefs: a subtype the run finds -/

abbrev VO0_7 : View sig .tc .vmem S1x1x64x32768 .bf16 := (Memref.whole cc0_stg7_0 : Memref sig .tc .vmem S1x1x64x32768 .bf16).view
abbrev ms0_0 (t : Fin cfg0.N) : Memref sig .tc .vmem S1x1x64x32768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x65x256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x144x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x64x144 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x64x32768 .bf16 := win0_7.stage (cfg0.slots t 7)
abbrev hs0_7 (t : Fin cfg0.N) : (ms0_7 t).IsWhole := hstage0_7 ((cfg0.slots t 7).cast nbuf0_7)
abbrev scM0_0 : Memref sig .tc .vmem S2x19456x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the output's staging buffer holds after the body at point `t`. -/
def outsAt0 (c : Dev nD) (t : Fin cfg0.N) : Vec F S1x1x64x32768 .bf16 :=
  outv (iblk m c 0 t) (iblk m c 1 t) (iblk m c 2 t) (iblk m c 3 t) (iblk m c 4 t) (iblk m c 5 t) (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, ⟨%fs, %e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact read_run (F := F) _ _ _ _ _ _ _ _ _ _ _ _ _ _ _ _ _ _ _ _ _ _ _ _ _ _ c fs e7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

theorem flushed7 (c : Dev nD) (t : Fin cfg0.N) :
    (dats m 0 c).flushed 7 t = (cfg0.win 7).cut (grid0.coords t) (outsAt0 m c t) := by
  show (cfg0.win 7).cut (grid0.coords t) ((dats m 0 c).after 7 t) = _
  rw [after0_7]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem post7 (r : PUnit × MemSt nD τ sig (Elt F)) (h : Pipeline.FramePost cfgs (dats m) 0 (V m) r) (c : Dev nD) :
    r.2.mem ((c : Thread nD τ).loc main_v74) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem run_blocks : θ_run defs (onTc (τ := τ) (main (F := F))) ⟨m, fun _ => 0, ρ⟩ fun r => ∀ c : Dev nD,
      r.2.mem ((c : Thread nD τ).loc main_v74) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post7 m r h c,
      kept_main_arg0 m r h c,
      kept_main_arg1 m r h c,
      kept_main_arg2 m r h c⟩)
    (run_main m ρ)

end Cert.Kernel3Ideal.Conv

end
-- ==== Proof.LcBits.lean ====
/- The long convolution's frame at the bit-exact instance. The module printed for it and the one printed for the
   ideal instance have one text, so the frame proved of the one for any floats is carried over to the other,
   definition by definition. -/
module

public import proofs.«01_k».proof.Defs
public import proofs.«01_k».proof.Proof.LcFrame
public import proofs.«01_k».proof.Proof.Gen.Kernel3.Launch

@[expose] public section

set_option maxRecDepth 65536

noncomputable section

open Idealize.ShloMosaic Idealize.SL.Sem

namespace Cert.Kernel3.Same

variable {F : FTy → Type} [FloatOps F]

set_option maxHeartbeats 4000000 in
theorem body_eq : @Cert.Kernel3.cc0_long_conv F _ Cert.Kernel3.Gen.facts
    = @Cert.Kernel3Ideal.cc0_long_conv F _ Cert.Kernel3Ideal.Gen.facts := rfl

set_option maxHeartbeats 4000000 in
theorem bodies_eq : @Cert.Kernel3.defs₀ F _ Cert.Kernel3.Gen.facts = @Cert.Kernel3Ideal.defs₀ F _ Cert.Kernel3Ideal.Gen.facts := by
  refine congrArg (Defs.onTc (nD := Cert.Kernel3.nD) (τ := Cert.Kernel3.τ) (sig := Cert.Kernel3.sig) (Val := Elt F) (Λ := Cert.Kernel3.Λ₀)) ?_
  funext l a
  match l, a with
  | 0, (t, s) => rfl
  | ⟨_ + 1, h⟩, _ => exact absurd h (Nat.not_lt.2 (Nat.le_add_left _ _))

set_option maxHeartbeats 4000000 in
theorem defs_eq : @Cert.Kernel3.defs F _ Cert.Kernel3.Gen.facts = @Cert.Kernel3Ideal.defs F _ Cert.Kernel3Ideal.Gen.facts :=
  congrArg (Pipeline.defs (Cert.Kernel3.pcfgs (F := F))) bodies_eq

set_option maxHeartbeats 4000000 in
theorem part0_eq : @Cert.Kernel3.main_part0 F _ Cert.Kernel3.Gen.facts = @Cert.Kernel3Ideal.main_part0 F _ Cert.Kernel3Ideal.Gen.facts := rfl

set_option maxHeartbeats 4000000 in
theorem part1_eq : @Cert.Kernel3.main_part1 F _ Cert.Kernel3.Gen.facts = @Cert.Kernel3Ideal.main_part1 F _ Cert.Kernel3Ideal.Gen.facts := rfl

set_option maxHeartbeats 4000000 in
theorem main_eq : @Cert.Kernel3.main F _ Cert.Kernel3.Gen.facts = @Cert.Kernel3Ideal.main F _ Cert.Kernel3Ideal.Gen.facts := rfl

end Cert.Kernel3.Same

namespace Cert.Proof

set_option maxHeartbeats 4000000 in
/-- The frame of the long convolution's program. -/
theorem frame_lc : @Cert.quiescent_Kernel3 Cert.Kernel3.Gen.facts := by
  intro m ρ _
  rw [Cert.Kernel3.Same.defs_eq, Cert.Kernel3.Same.main_eq]
  exact Cert.Kernel3Ideal.Conv.frame (F := Bits) m ρ

end Cert.Proof

end
-- ==== Proof.LcReal.lean ====
/- The discrete Fourier transform of length 16384 at the real numbers: the frequencies `q + 128 p` and the
   positions `128 a + n` make the transform two transforms, one of length 128 over the blocks `n` and one over
   the rows `a`, with the phase `e^(-2πi q (128 a + n) / 16384)` between them. -/
module

public import Mathlib.Analysis.SpecialFunctions.Trigonometric.Basic
public import Mathlib.Algebra.BigOperators.Fin
public import Mathlib.Algebra.BigOperators.Field

@[expose] public section

noncomputable section

namespace Cert.Dft

/-- `cos (2π x / 16384)` and `sin (2π x / 16384)`. -/
def C (x : ℕ) : ℝ := Real.cos (x * (2 * Real.pi / 16384))
def S (x : ℕ) : ℝ := Real.sin (x * (2 * Real.pi / 16384))

theorem angle_add (x k : ℕ) : ((x + 16384 * k : ℕ) : ℝ) * (2 * Real.pi / 16384) = x * (2 * Real.pi / 16384) + k * (2 * Real.pi) := by
  push_cast; ring

theorem C_period (x k : ℕ) : C (x + 16384 * k) = C x := by
  unfold C; rw [angle_add]; exact Real.cos_add_nat_mul_two_pi _ k

theorem S_period (x k : ℕ) : S (x + 16384 * k) = S x := by
  unfold S; rw [angle_add]; exact Real.sin_add_nat_mul_two_pi _ k

theorem C_mod (x : ℕ) : C (x % 16384) = C x := by
  conv_rhs => rw [← Nat.mod_add_div x 16384, C_period]

theorem S_mod (x : ℕ) : S (x % 16384) = S x := by
  conv_rhs => rw [← Nat.mod_add_div x 16384, S_period]

theorem C_add (x y : ℕ) : C (x + y) = C x * C y - S x * S y := by
  unfold C S; rw [Nat.cast_add, add_mul]; exact Real.cos_add _ _

theorem S_add (x y : ℕ) : S (x + y) = S x * C y + C x * S y := by
  unfold C S; rw [Nat.cast_add, add_mul]; exact Real.sin_add _ _

/-- The phase of frequency `q + 128 p` at position `128 a + n`. -/
theorem phase (q p a n : ℕ) : (q + 128 * p) * (128 * a + n) = q * (128 * a + n) + 128 * (p * n) + 16384 * (p * a) := by ring

theorem C_phase (q p a n : ℕ) : C ((q + 128 * p) * (128 * a + n))
    = C (q * (128 * a + n)) * C (128 * (p * n)) - S (q * (128 * a + n)) * S (128 * (p * n)) := by
  rw [phase, C_period, C_add]

theorem S_phase (q p a n : ℕ) : S ((q + 128 * p) * (128 * a + n))
    = S (q * (128 * a + n)) * C (128 * (p * n)) + C (q * (128 * a + n)) * S (128 * (p * n)) := by
  rw [phase, S_period, S_add]

variable (u : Fin 64 → Fin 128 → ℝ) (kr ki : Fin 65 → Fin 128 → ℝ)

/-- The rows' transform of block `n`, real and imaginary. -/
def re1 (q : Fin 65) (n : Fin 128) : ℝ := ∑ a : Fin 64, C (q * (128 * a + n)) * u a n
def im1 (q : Fin 65) (n : Fin 128) : ℝ := ∑ a : Fin 64, (-S (q * (128 * a + n))) * u a n

/-- The blocks' transform of it. -/
def re2 (q : Fin 65) (p : Fin 128) : ℝ := (∑ n : Fin 128, C (128 * (p * n)) * re1 u q n) + ∑ n : Fin 128, S (128 * (p * n)) * im1 u q n
def im2 (q : Fin 65) (p : Fin 128) : ℝ := (∑ n : Fin 128, (-S (128 * (p * n))) * re1 u q n) + ∑ n : Fin 128, C (128 * (p * n)) * im1 u q n

/-- The transform at frequency `q + 128 p`. -/
def ur (q : Fin 65) (p : Fin 128) : ℝ := ∑ n : Fin 128, ∑ a : Fin 64, C ((q + 128 * p) * (128 * a + n)) * u a n
def ui (q : Fin 65) (p : Fin 128) : ℝ := -∑ n : Fin 128, ∑ a : Fin 64, S ((q + 128 * p) * (128 * a + n)) * u a n

theorem re2_eq (q : Fin 65) (p : Fin 128) : re2 u q p = ur u q p := by
  unfold re2 ur re1 im1
  rw [← Finset.sum_add_distrib]
  refine Finset.sum_congr rfl fun n _ => ?_
  rw [Finset.mul_sum, Finset.mul_sum, ← Finset.sum_add_distrib]
  refine Finset.sum_congr rfl fun a _ => ?_
  rw [C_phase]; ring

theorem im2_eq (q : Fin 65) (p : Fin 128) : im2 u q p = ui u q p := by
  unfold im2 ui re1 im1
  rw [← Finset.sum_add_distrib, ← Finset.sum_neg_distrib]
  refine Finset.sum_congr rfl fun n _ => ?_
  rw [Finset.mul_sum, Finset.mul_sum, ← Finset.sum_add_distrib, ← Finset.sum_neg_distrib]
  refine Finset.sum_congr rfl fun a _ => ?_
  rw [S_phase]; ring

/-- A frequency and its mirror image count together, except the two that are their own. -/
def wt (q : Fin 65) : ℝ := if q.val = 0 ∨ q.val = 64 then 1 else 2

section Inverse
variable (yr yi : Fin 65 → Fin 128 → ℝ)

/-- The blocks' inverse transform. -/
def re3 (q : Fin 65) (n : Fin 128) : ℝ := (∑ p : Fin 128, C (128 * (n * p)) * yr q p) + ∑ p : Fin 128, (-S (128 * (n * p))) * yi q p
def im3 (q : Fin 65) (n : Fin 128) : ℝ := (∑ p : Fin 128, S (128 * (n * p)) * yr q p) + ∑ p : Fin 128, C (128 * (n * p)) * yi q p

/-- The rows' inverse transform of it. -/
def inv1 (a : Fin 64) (n : Fin 128) : ℝ :=
  (∑ q : Fin 65, C (q * (128 * a + n)) * (wt q / 16384) * re3 yr yi q n)
  + ∑ q : Fin 65, (-S (q * (128 * a + n))) * (wt q / 16384) * im3 yr yi q n

/-- The inverse transform at position `128 a + n`. -/
def inv (a : Fin 64) (n : Fin 128) : ℝ :=
  ((∑ q : Fin 65, ∑ p : Fin 128, wt q * yr q p * C ((q + 128 * p) * (128 * a + n)))
  - ∑ q : Fin 65, ∑ p : Fin 128, wt q * yi q p * S ((q + 128 * p) * (128 * a + n))) / 16384

theorem inv1_eq (a : Fin 64) (n : Fin 128) : inv1 yr yi a n = inv yr yi a n := by
  unfold inv1 inv re3 im3
  rw [← Finset.sum_add_distrib, ← Finset.sum_sub_distrib, Finset.sum_div]
  refine Finset.sum_congr rfl fun q _ => ?_
  rw [← Finset.sum_add_distrib, ← Finset.sum_add_distrib, ← Finset.sum_sub_distrib, Finset.mul_sum, Finset.mul_sum,
    ← Finset.sum_add_distrib, Finset.sum_div]
  refine Finset.sum_congr rfl fun p _ => ?_
  rw [C_phase, S_phase, Nat.mul_comm n.val p.val]; ring

end Inverse

/-- The convolution, by the two transforms and by the one. -/
def conv1 (a : Fin 64) (n : Fin 128) : ℝ :=
  inv1 (fun q p => re2 u q p * kr q p - im2 u q p * ki q p) (fun q p => re2 u q p * ki q p + im2 u q p * kr q p) a n
def conv (a : Fin 64) (n : Fin 128) : ℝ :=
  inv (fun q p => ur u q p * kr q p - ui u q p * ki q p) (fun q p => ur u q p * ki q p + ui u q p * kr q p) a n

theorem conv1_eq (a : Fin 64) (n : Fin 128) : conv1 u kr ki a n = conv u kr ki a n := by
  unfold conv1 conv
  rw [inv1_eq]
  simp only [re2_eq, im2_eq]

end Cert.Dft

end
-- ==== Proof.LcWords.lean ====
/- The angles of the transform's tables at the ideal instance: an integer's remainder times the circle over the length. -/
module

public import proofs.«01_k».proof.Proof.LcReal
public import Idealize.ShloMosaic.Lib.Pointwise
public import Mathlib.Analysis.SpecialFunctions.Trigonometric.Arctan

@[expose] public section

noncomputable section

namespace Cert.Dft

open Idealize.ShloMosaic

/-- `2π` over the length, as the programs compute it. -/
theorem circle (N : ℕ) (hN : N ≠ 0) (b : BitVec 32) (hb : Ideal.ofBits .f32 b = ((N : ℝ) : EReal)) :
    Ideal.div (Ideal.ofBits FTy.f32 1090519040#32 * Ideal.atan 1) (Ideal.ofBits FTy.f32 b) = ((2 * Real.pi / N : ℝ) : EReal) := by
  have h8 : Ideal.ofBits FTy.f32 1090519040#32 = ((8 : ℝ) : EReal) := by simp [Ideal.ofBits, Ideal.ieee, -EReal.coe_mul]; norm_num
  have h1 : Ideal.atan 1 = ((Real.pi / 4 : ℝ) : EReal) := by
    show ((Real.arctan 1 : ℝ) : EReal) = _; rw [Real.arctan_one]
  rw [hb, Ideal.div_coe (by exact_mod_cast hN), h8, h1, ← EReal.coe_mul, ← EReal.coe_mul]
  congr 1; ring

theorem bits_16384 : Ideal.ofBits FTy.f32 1182793728#32 = (((16384 : ℕ) : ℝ) : EReal) := by
  simp [Ideal.ofBits, Ideal.ieee, -EReal.coe_mul]; norm_num
theorem bits_128 : Ideal.ofBits FTy.f32 1124073472#32 = (((128 : ℕ) : ℝ) : EReal) := by
  simp [Ideal.ofBits, Ideal.ieee, -EReal.coe_mul]; norm_num

/-- A word's remainder, read as a number. -/
theorem word_rem (k N : ℕ) (hk : k < 2 ^ 31) (h0 : N ≠ 0) (hN : N < 2 ^ 31) :
    (FloatOps.sitofp (F := Ideal) FTy.f32 (IntOp.remsi ArithUnit.host (BitVec.ofNat 32 k) (BitVec.ofNat 32 N)) : EReal)
      = (((k % N : ℕ) : ℝ) : EReal) := by
  have hkI : (BitVec.ofNat 32 k).toInt = k := by
    rw [BitVec.toInt_ofNat']; simp only [Int.bmod_def]; omega
  have hNI : (BitVec.ofNat 32 N).toInt = N := by
    rw [BitVec.toInt_ofNat']; simp only [Int.bmod_def]; omega
  have hc : ¬ IntOp.SDivCorner (BitVec.ofNat 32 k) (BitVec.ofNat 32 N) := by
    rintro (h | ⟨-, h⟩)
    · have := congrArg BitVec.toInt h; rw [hNI] at this; simp at this; omega
    · have := congrArg BitVec.toInt h; rw [hNI] at this
      rw [show (-1 : BitVec 32).toInt = -1 from by decide] at this; omega
  show ((((IntOp.remsi ArithUnit.host (BitVec.ofNat 32 k) (BitVec.ofNat 32 N)).toInt : ℤ) : ℝ) : EReal) = _
  rw [IntOp.remsi, if_neg hc, BitVec.toInt_srem, hkI, hNI, ← Int.ofNat_tmod, Int.cast_natCast]

/-- The angle of `k` steps of the circle's 16384. -/
theorem angle (k : ℕ) (hk : k < 2 ^ 31) :
    (FloatOps.sitofp (F := Ideal) FTy.f32 (IntOp.remsi ArithUnit.host (BitVec.ofNat 32 k) 16384#32) : EReal)
      * Ideal.div (Ideal.ofBits FTy.f32 1090519040#32 * Ideal.atan 1) (Ideal.ofBits FTy.f32 1182793728#32)
      = ((((k % 16384 : ℕ) : ℝ) * (2 * Real.pi / 16384) : ℝ) : EReal) := by
  rw [circle 16384 (by decide) _ bits_16384, word_rem k 16384 hk (by decide) (by decide), ← EReal.coe_mul]
  norm_num

theorem cos_angle (k : ℕ) (hk : k < 2 ^ 31) :
    Ideal.cos ((FloatOps.sitofp (F := Ideal) FTy.f32 (IntOp.remsi ArithUnit.host (BitVec.ofNat 32 k) 16384#32) : EReal)
      * Ideal.div (Ideal.ofBits FTy.f32 1090519040#32 * Ideal.atan 1) (Ideal.ofBits FTy.f32 1182793728#32))
      = ((C k : ℝ) : EReal) := by
  rw [angle k hk, ← C_mod k]; rfl

theorem sin_angle (k : ℕ) (hk : k < 2 ^ 31) :
    Ideal.sin ((FloatOps.sitofp (F := Ideal) FTy.f32 (IntOp.remsi ArithUnit.host (BitVec.ofNat 32 k) 16384#32) : EReal)
      * Ideal.div (Ideal.ofBits FTy.f32 1090519040#32 * Ideal.atan 1) (Ideal.ofBits FTy.f32 1182793728#32))
      = ((S k : ℝ) : EReal) := by
  rw [angle k hk, ← S_mod k]; rfl

/-- The angle of `k` steps of the circle's 128, which are 128 of its 16384. -/
theorem angle' (k : ℕ) (hk : k < 2 ^ 24) :
    (FloatOps.sitofp (F := Ideal) FTy.f32 (IntOp.remsi ArithUnit.host (BitVec.ofNat 32 k) 128#32) : EReal)
      * Ideal.div (Ideal.ofBits FTy.f32 1090519040#32 * Ideal.atan 1) (Ideal.ofBits FTy.f32 1124073472#32)
      = ((((128 * k % 16384 : ℕ) : ℝ) * (2 * Real.pi / 16384) : ℝ) : EReal) := by
  rw [circle 128 (by decide) _ bits_128, word_rem k 128 (by omega) (by decide) (by decide), ← EReal.coe_mul,
    show 128 * k % 16384 = 128 * (k % 128) by omega]
  refine congrArg (fun x : ℝ => (x : EReal)) ?_
  push_cast; ring

theorem cos_angle' (k : ℕ) (hk : k < 2 ^ 24) :
    Ideal.cos ((FloatOps.sitofp (F := Ideal) FTy.f32 (IntOp.remsi ArithUnit.host (BitVec.ofNat 32 k) 128#32) : EReal)
      * Ideal.div (Ideal.ofBits FTy.f32 1090519040#32 * Ideal.atan 1) (Ideal.ofBits FTy.f32 1124073472#32))
      = ((C (128 * k) : ℝ) : EReal) := by
  rw [angle' k hk, ← C_mod (128 * k)]; rfl

theorem sin_angle' (k : ℕ) (hk : k < 2 ^ 24) :
    Ideal.sin ((FloatOps.sitofp (F := Ideal) FTy.f32 (IntOp.remsi ArithUnit.host (BitVec.ofNat 32 k) 128#32) : EReal)
      * Ideal.div (Ideal.ofBits FTy.f32 1090519040#32 * Ideal.atan 1) (Ideal.ofBits FTy.f32 1124073472#32))
      = ((S (128 * k) : ℝ) : EReal) := by
  rw [angle' k hk, ← S_mod (128 * k)]; rfl

theorem words_mul (k l : ℕ) : IntOp.muli (BitVec.ofNat 32 k) (BitVec.ofNat 32 l) = BitVec.ofNat 32 (k * l) := (BitVec.ofNat_mul k l).symm
theorem words_add (k l : ℕ) : IntOp.addi (BitVec.ofNat 32 k) (BitVec.ofNat 32 l) = BitVec.ofNat 32 (k + l) := (BitVec.ofNat_add k l).symm

end Cert.Dft

end
-- ==== Proof.LcHost.lean ====
/- The host's tables of the long convolution at the ideal instance, and what the launch's windows read. -/
module

public import proofs.«01_k».proof.Proof.LcFrame
public import proofs.«01_k».proof.Proof.LcWords
public import Idealize.ShloMosaic.Lib.Pointwise
public import Idealize.ShloMosaic.Lib.Claim

@[expose] public section

set_option maxRecDepth 16384

noncomputable section

namespace Cert.Kernel3Ideal.Conv

open Cert.Kernel3Ideal Cert.Kernel3Ideal.Gen
open Idealize.ShloMosaic Idealize.ShloMosaic.TcCoe Idealize.SL.Sem

variable (m : (ℓ : Loc nD τ sig) → Buf (Elt Ideal) ℓ)

theorem after_two (k l : List (HloOp τ sig (Elt Ideal))) (W) : StableHlo.after (k ++ l) W = StableHlo.after l (StableHlo.after k W) := by
  induction k generalizing W with
  | nil => rfl
  | cons op k ih => exact ih _

/-- The buffers' contents before the table is joined, before the weights are, and after. -/
def W1 (c : Dev nD) := StableHlo.after (List.take 32 hostOps0) (fun b => m (c, b))
def W2 (c : Dev nD) := StableHlo.after hostOps0_1 (StableHlo.after (List.drop 32 hostOps0) (W1 m c))
def W3 (c : Dev nD) := StableHlo.after (List.take 1 (List.drop 4 hostOps0_2)) (StableHlo.after (List.take 4 hostOps0_2) (W2 m c))

theorem V_W2 (c : Dev nD) (b : Ref sig .tc) : V m c b = StableHlo.after hostOps0_2 (W2 m c) b := by
  unfold V W2 W1
  rw [← after_two (List.take 32 hostOps0), List.take_append_drop]
  simp only [List.flatten_cons, List.flatten_nil, List.append_nil, after_two]

theorem V_W3 (c : Dev nD) (b : Ref sig .tc) : V m c b = StableHlo.after (List.drop 5 hostOps0_2) (W3 m c) b := by
  rw [V_W2]; rfl

theorem W1_cos (c : Dev nD) (n : Fin 128) (q : Fin 65) (a : Fin 128) :
    W1 m c (Proc.tc.devRef main_v23) (ix3 n q a) = ((Dft.C (q * (128 * a + n)) : ℝ) : EReal) := by
  unfold W1
  simp only [List.take_succ_cons, List.take_zero, hostOps0]
  entry_read
  pointwise
  rw [Dft.words_mul, Dft.words_add, Dft.words_mul, Dft.cos_angle _ (by nlinarith [q.isLt, a.isLt, n.isLt])]

theorem W1_sin (c : Dev nD) (n : Fin 128) (q : Fin 65) (a : Fin 128) :
    W1 m c (Proc.tc.devRef main_v25) (ix3 n q a) = ((-Dft.S (q * (128 * a + n)) : ℝ) : EReal) := by
  unfold W1
  simp only [List.take_succ_cons, List.take_zero, hostOps0]
  entry_read
  pointwise
  rw [Dft.words_mul, Dft.words_add, Dft.words_mul, Dft.sin_angle _ (by nlinarith [q.isLt, a.isLt, n.isLt])]
  rfl

theorem W1_zero (c : Dev nD) (n : Fin 128) (q : Fin 7) (a : Fin 128) :
    W1 m c (Proc.tc.devRef main_v22) (ix3 n q a) = (0 : EReal) := by
  unfold W1
  simp only [List.take_succ_cons, List.take_zero, hostOps0]
  entry_read
  pointwise

theorem W1_q (c : Dev nD) (q : Fin 65) : W1 m c (Proc.tc.devRef main_v3) (ix3 0 q 0) = BitVec.ofNat 32 q := by
  unfold W1
  simp only [List.take_succ_cons, List.take_zero, hostOps0]
  entry_read
  pointwise

/-- The table of the rows' transform: cosines, negated sines, each followed by zeros. -/
def tab (r j : ℕ) : ℝ :=
  if r < 65 then Dft.C (r * j) else if r < 72 then 0 else if r < 137 then -Dft.S ((r - 72) * j) else 0

theorem W2_tab (c : Dev nD) (n : Fin 128) (r : Fin 144) (a : Fin 128) :
    W2 m c (Proc.tc.devRef main_v26) (ix3 n r a) = ((tab r (128 * a + n) : ℝ) : EReal) := by
  have hc := W1_cos m c
  have hs := W1_sin m c
  have hz := W1_zero m c
  unfold W2
  generalize W1 m c = W at *
  simp only [List.drop_succ_cons, List.drop_zero, hostOps0, hostOps0_1]
  entry_read
  pointwise
  unfold tab
  by_cases h1 : r.val < 65
  · rw [dif_pos h1, if_pos h1]; exact hc n ⟨r, h1⟩ a
  by_cases h2 : r.val < 72
  · rw [dif_neg h1, dif_pos (by omega), if_neg h1, if_pos h2]; exact hz ..
  by_cases h3 : r.val < 137
  · rw [dif_neg h1, dif_neg (by omega), dif_pos (by omega), if_neg h1, if_neg h2, if_pos h3]
    refine (hs n ⟨r.val - 65 - 7, by omega⟩ a).trans ?_
    simp only [show r.val - 65 - 7 = r.val - 72 by omega]
  · rw [dif_neg h1, dif_neg (by omega), dif_neg (by omega), if_neg h1, if_neg h2, if_neg h3]; exact hz ..

theorem W2_zero (c : Dev nD) (n : Fin 128) (q : Fin 7) (a : Fin 128) :
    W2 m c (Proc.tc.devRef main_v22) (ix3 n q a) = (0 : EReal) := by
  have hz := W1_zero m c
  unfold W2
  generalize W1 m c = W at *
  simp only [List.drop_succ_cons, List.drop_zero, hostOps0, hostOps0_1]
  entry_read
  exact hz ..

theorem W2_wt (c : Dev nD) (q : Fin 65) :
    W2 m c (Proc.tc.devRef main_v32) (ix3 0 q 0) = ((Dft.wt q / 16384 : ℝ) : EReal) := by
  have hq := W1_q m c
  unfold W2
  generalize W1 m c = W at *
  simp only [List.drop_succ_cons, List.drop_zero, hostOps0, hostOps0_1]
  entry_read
  simp only [StableHlo.TRef.toBuf, StableHlo.TRef.ofBuf, cast_eq]
  pointwise
  rw [hq]
  have hb : ∀ q : Fin 65, IntOp.ori (IntOp.cmpi CmpIPredicate.eq (BitVec.ofNat 32 q) 0#32) (IntOp.cmpi CmpIPredicate.eq (BitVec.ofNat 32 q) 64#32)
      = if q.val = 0 ∨ q.val = 64 then 1#1 else 0#1 := by decide
  have h1 : Ideal.ofBits FTy.f32 947912704#32 = ((1 / 16384 : ℝ) : EReal) := by simp [Ideal.ofBits, Ideal.ieee, -EReal.coe_mul]; norm_num
  have h2 : Ideal.ofBits FTy.f32 956301312#32 = ((2 / 16384 : ℝ) : EReal) := by simp [Ideal.ofBits, Ideal.ieee, -EReal.coe_mul]; norm_num
  rw [hb, h1, h2]
  unfold Dft.wt
  split
  · rfl
  · rfl

theorem weights_at (c : Dev nD) (q : Fin 65) (z : Fin 7) :
    StableHlo.after (List.take 4 hostOps0_2) (W2 m c) (Proc.tc.devRef main_v35) (ix3 0 q 0) = ((Dft.wt q / 16384 : ℝ) : EReal)
    ∧ StableHlo.after (List.take 4 hostOps0_2) (W2 m c) (Proc.tc.devRef main_v36) (ix3 0 q 0) = ((Dft.wt q / 16384 : ℝ) : EReal)
    ∧ StableHlo.after (List.take 4 hostOps0_2) (W2 m c) (Proc.tc.devRef main_v33) (ix3 0 z 0) = (0 : EReal)
    ∧ StableHlo.after (List.take 4 hostOps0_2) (W2 m c) (Proc.tc.devRef main_v34) (ix3 0 z 0) = (0 : EReal) := by
  have hw := W2_wt m c
  have hz := W2_zero m c
  generalize W2 m c = W at *
  simp only [List.take_succ_cons, List.take_zero, hostOps0_2]
  entry_read
  refine ⟨hw q, hw q, ?_, ?_⟩
  · pointwise; exact hz ..
  · pointwise; exact hz ..

/-- The weights, each row's over the length. -/
def wts (r : ℕ) : ℝ := if h : r < 65 then Dft.wt ⟨r, h⟩ / 16384 else if h : 72 ≤ r ∧ r < 137 then Dft.wt ⟨r - 72, by omega⟩ / 16384 else 0

theorem W3_wt (c : Dev nD) (r : Fin 144) : W3 m c (Proc.tc.devRef main_v37) (ix3 0 r 0) = ((wts r : ℝ) : EReal) := by
  have hw := fun q => weights_at m c q 0
  have hz := fun z => weights_at m c 0 z
  unfold W3
  generalize StableHlo.after (List.take 4 hostOps0_2) (W2 m c) = W at *
  simp only [List.take_succ_cons, List.take_zero, List.drop_succ_cons, List.drop_zero, hostOps0_2]
  entry_read
  pointwise
  unfold wts
  by_cases h1 : r.val < 65
  · rw [dif_pos h1, dif_pos h1]; exact (hw ⟨r, h1⟩).1
  by_cases h2 : r.val < 72
  · rw [dif_neg h1, dif_pos (by omega), dif_neg h1, dif_neg (by omega)]; exact (hz _).2.2.1
  by_cases h3 : r.val < 137
  · rw [dif_neg h1, dif_neg (by omega), dif_pos (by omega), dif_neg h1, dif_pos (by omega)]
    refine (hw ⟨r.val - 65 - 7, by omega⟩).2.1.trans ?_
    simp only [show r.val - 65 - 7 = r.val - 72 by omega]
  · rw [dif_neg h1, dif_neg (by omega), dif_neg (by omega), dif_neg h1, dif_neg (by omega)]; exact (hz _).2.2.2

theorem W3_tab (c : Dev nD) (n : Fin 128) (r : Fin 144) (a : Fin 128) :
    W3 m c (Proc.tc.devRef main_v26) (ix3 n r a) = ((tab r (128 * a + n) : ℝ) : EReal) := by
  have ht := W2_tab m c
  unfold W3
  generalize W2 m c = W at *
  simp only [List.take_succ_cons, List.take_zero, List.drop_succ_cons, List.drop_zero, hostOps0_2]
  entry_read
  exact ht ..

theorem V_g (c : Dev nD) (n : Fin 128) (r : Fin 144) (a : Fin 64) :
    V m c main_v71 (ix3 n r a) = ((tab r (128 * a + n) : ℝ) : EReal) := by
  rw [V_W3]
  have ht := W3_tab m c
  generalize W3 m c = W at *
  simp only [List.drop_succ_cons, List.drop_zero, hostOps0_2]
  entry_read
  pointwise
  exact ht ..

theorem V_h (c : Dev nD) (n : Fin 128) (r : Fin 144) (a : Fin 64) :
    V m c main_v68 (ix3 n a r) = ((tab r (128 * a + n) : ℝ) : EReal)
      * ((wts r : ℝ) : EReal) := by
  rw [V_W3]
  have ht := W3_tab m c
  have hw := W3_wt m c
  generalize W3 m c = W at *
  simp only [List.drop_succ_cons, List.drop_zero, hostOps0_2]
  entry_read
  pointwise
  rw [← ht n r ⟨a, by omega⟩, ← hw r]

/-- The blocks' transform and its inverse, real and imaginary halves side by side and one above the other. -/
theorem V_f (c : Dev nD) (p n : Fin 128) :
    V m c main_v69 (ix2 (⟨p, by omega⟩ : Fin 256) (⟨n, by omega⟩ : Fin 256)) = ((Dft.C (128 * (p * n)) : ℝ) : EReal)
    ∧ V m c main_v69 (ix2 (⟨p, by omega⟩ : Fin 256) (⟨128 + n, by omega⟩ : Fin 256)) = ((Dft.S (128 * (p * n)) : ℝ) : EReal)
    ∧ V m c main_v69 (ix2 (⟨128 + p, by omega⟩ : Fin 256) (⟨n, by omega⟩ : Fin 256)) = ((-Dft.S (128 * (p * n)) : ℝ) : EReal)
    ∧ V m c main_v69 (ix2 (⟨128 + p, by omega⟩ : Fin 256) (⟨128 + n, by omega⟩ : Fin 256)) = ((Dft.C (128 * (p * n)) : ℝ) : EReal) := by
  rw [V_W3]
  generalize W3 m c = W
  have hk : p.val * n.val < 2 ^ 24 := by nlinarith [p.isLt, n.isLt]
  simp only [List.drop_succ_cons, List.drop_zero, hostOps0_2]
  entry_read
  refine ⟨?_, ?_, ?_, ?_⟩
  all_goals
    pointwise
    rw [Dft.words_mul]
    first | rw [Dft.cos_angle' _ hk] | rw [Dft.sin_angle' _ hk]
    try rfl

theorem V_i (c : Dev nD) (p n : Fin 128) :
    V m c main_v70 (ix2 (⟨p, by omega⟩ : Fin 256) (⟨n, by omega⟩ : Fin 256)) = ((Dft.C (128 * (p * n)) : ℝ) : EReal)
    ∧ V m c main_v70 (ix2 (⟨p, by omega⟩ : Fin 256) (⟨128 + n, by omega⟩ : Fin 256)) = ((-Dft.S (128 * (p * n)) : ℝ) : EReal)
    ∧ V m c main_v70 (ix2 (⟨128 + p, by omega⟩ : Fin 256) (⟨n, by omega⟩ : Fin 256)) = ((Dft.S (128 * (p * n)) : ℝ) : EReal)
    ∧ V m c main_v70 (ix2 (⟨128 + p, by omega⟩ : Fin 256) (⟨128 + n, by omega⟩ : Fin 256)) = ((Dft.C (128 * (p * n)) : ℝ) : EReal) := by
  rw [V_W3]
  generalize W3 m c = W
  have hk : p.val * n.val < 2 ^ 24 := by nlinarith [p.isLt, n.isLt]
  simp only [List.drop_succ_cons, List.drop_zero, hostOps0_2]
  entry_read
  refine ⟨?_, ?_, ?_, ?_⟩
  all_goals
    pointwise
    rw [Dft.words_mul]
    first | rw [Dft.cos_angle' _ hk] | rw [Dft.sin_angle' _ hk]
    try rfl

theorem V_u (c : Dev nD) (b g : Fin 4) (a : Fin 64) (k : Fin 32768) :
    V m c main_v73 (ix4 b g a k) = m ((c : Thread nD τ).loc main_arg0)
      (ix4 b g (⟨128 * a + k / 256, by omega⟩ : Fin 8192) (⟨k % 256, by omega⟩ : Fin 256)) := by
  rw [V_W3]
  unfold W3 W2 W1
  simp only [List.take_succ_cons, List.take_zero, List.drop_succ_cons, List.drop_zero, hostOps0, hostOps0_1, hostOps0_2]
  entry_read
  pointwise
  exact congrArg (fun i : Fin 8192 => m ((c : Thread nD τ).loc main_arg0) (ix4 b g i (⟨k % 256, by omega⟩ : Fin 256))) (Fin.ext (by simp only []; omega))

theorem V_s (c : Dev nD) (i : Fin 1) (k : Fin 1024) : V m c main_v72 (ix2 i k) = m ((c : Thread nD τ).loc main_arg2) (ix1 k) := by
  rw [V_W3]
  unfold W3 W2 W1
  simp only [List.take_succ_cons, List.take_zero, List.drop_succ_cons, List.drop_zero, hostOps0, hostOps0_1, hostOps0_2]
  entry_read
  pointwise

theorem V_k (c : Dev nD) : V m c main_arg1 = m ((c : Thread nD τ).loc main_arg1) := by
  rw [V_W3]
  unfold W3 W2 W1
  simp only [List.take_succ_cons, List.take_zero, List.drop_succ_cons, List.drop_zero, hostOps0, hostOps0_1, hostOps0_2]
  entry_read
  rfl

end Cert.Kernel3Ideal.Conv

end
-- ==== Proof.LcBlocks.lean ====
/- What the launch's windows of the long convolution hold at a grid point, in the operands' own terms. -/
module

public import proofs.«01_k».proof.Proof.LcHost

@[expose] public section

set_option maxRecDepth 16384

noncomputable section

namespace Cert.Kernel3Ideal.Conv

open Cert.Kernel3Ideal Cert.Kernel3Ideal.Gen
open Idealize.ShloMosaic Idealize.ShloMosaic.TcCoe Idealize.SL.Sem

variable (m : (ℓ : Loc nD τ sig) → Buf (Elt Ideal) ℓ)

/-- The block every window holds at grid point `t`. -/
theorem idx : ∀ t : Fin cfg0.N,
    win0_0.index t = ![t.val % 4, t.val / 4, 0, 0] ∧ win0_1.index t = ![t.val / 4, 0, 0, 0]
    ∧ win0_2.index t = ![0, 0, 0] ∧ win0_3.index t = ![0, 0, 0] ∧ win0_4.index t = ![0, 0] ∧ win0_5.index t = ![0, 0]
    ∧ win0_6.index t = ![0, t.val / 4] ∧ win0_7.index t = ![t.val % 4, t.val / 4, 0, 0] :=
  (by decide +kernel : ∀ t : Fin grid0.N, _)

/-- The channel group and the batch of grid point `t`. -/
def cg (t : Fin cfg0.N) : Fin 4 := ⟨t.val / 4, by have := t.isLt; have : cfg0.N = 16 := rfl; omega⟩
def bt (t : Fin cfg0.N) : Fin 4 := ⟨t.val % 4, by omega⟩

theorem blk_u (c : Dev nD) (t : Fin cfg0.N) (a : Fin 64) (k : Fin 32768) :
    iblk m c 0 t (ix4 (0 : Fin 1) (0 : Fin 1) a k) = V m c main_v73 (ix4 (bt t) (cg t) a k) := by
  blk_simp [iblk, idx t]
  blk_ext [idx t] <;> simp only [bt, cg, Nat.add_zero]

theorem blk_k (c : Dev nD) (t : Fin cfg0.N) (q : Fin 65) (r ch : Fin 256) :
    iblk m c 1 t (ix4 (0 : Fin 1) q r ch) = V m c main_arg1 (ix4 (cg t) q r ch) := by
  blk_simp [iblk, idx t]
  blk_ext [idx t] <;> simp only [bt, cg, Nat.add_zero]

theorem blk_g (c : Dev nD) (t : Fin cfg0.N) (i : S128x144x64.Idx) : iblk m c 2 t i = V m c main_v71 i := by
  blk_simp [iblk, idx t]
  blk_ext [idx t]

theorem blk_h (c : Dev nD) (t : Fin cfg0.N) (i : S128x64x144.Idx) : iblk m c 3 t i = V m c main_v68 i := by
  blk_simp [iblk, idx t]
  blk_ext [idx t]

theorem blk_f (c : Dev nD) (t : Fin cfg0.N) (i : S256x256.Idx) : iblk m c 4 t i = V m c main_v69 i := by
  blk_simp [iblk, idx t]
  blk_ext [idx t]

theorem blk_i (c : Dev nD) (t : Fin cfg0.N) (i : S256x256.Idx) : iblk m c 5 t i = V m c main_v70 i := by
  blk_simp [iblk, idx t]
  blk_ext [idx t]

theorem blk_s (c : Dev nD) (t : Fin cfg0.N) (ch : Fin 256) :
    iblk m c 6 t (ix2 (0 : Fin 1) ch) = V m c main_v72 (ix2 (0 : Fin 1) (⟨256 * cg t + ch, by have := (cg t).isLt; omega⟩ : Fin 1024)) := by
  blk_simp [iblk, idx t]
  blk_ext [idx t] <;> (simp only [cg]; omega)

end Cert.Kernel3Ideal.Conv

end
-- ==== Proof.LcPay.lean ====
/- The long convolution's arithmetic at the ideal instance: every product of matrices as a sum. -/
module

public import proofs.«01_k».proof.Proof.LcBody
public import Idealize.ShloMosaic.Lib.Pointwise
public import Idealize.ShloMosaic.Lib.Claim

@[expose] public section

set_option maxRecDepth 8192

noncomputable section

namespace Cert.Kernel3Ideal.Conv

open Cert.Kernel3Ideal Cert.Kernel3Ideal.Gen
open Idealize.ShloMosaic Idealize.ShloMosaic.TcCoe

theorem pay2_at (g : Vec Ideal S1x144x64 .bf16) (u : Vec Ideal S1x1x64x256 .bf16) (r : Fin 144) (l : Fin 128) :
    k0_pay2 (F := Ideal) g u (ix3 (0 : Fin 1) r l) = ∑ a : Fin 64, g (ix3 (0 : Fin 1) r a) * u (ix4 (0 : Fin 1) (0 : Fin 1) a (⟨l, by omega⟩ : Fin 256)) := by
  pointwise [k0_pay2, k0_pay1]

theorem pay3_at (g : Vec Ideal S1x144x64 .bf16) (u : Vec Ideal S1x1x64x256 .bf16) (r : Fin 144) (l : Fin 128) :
    k0_pay3 (F := Ideal) g u (ix3 (0 : Fin 1) r l) = ∑ a : Fin 64, g (ix3 (0 : Fin 1) r a) * u (ix4 (0 : Fin 1) (0 : Fin 1) a (⟨128 + l, by omega⟩ : Fin 256)) := by
  pointwise [k0_pay3, k0_pay1]

/-- Two halves of 128 lanes side by side. -/
def both (A B : FVec Ideal S128x128 .f32) (n : Fin 128) (ch : Fin 256) : EReal :=
  if h : ch.val < 128 then A (ix2 n ⟨ch, h⟩) else B (ix2 n ⟨ch - 128, by omega⟩)

theorem pay6_at (f : Vec Ideal S256x256 .bf16) (A B C D : Vec Ideal S128x128 .f32) (r ch : Fin 256) :
    k0_pay6 (F := Ideal) f A B C D (ix2 r ch) = (∑ n : Fin 128, f (ix2 r (⟨n, by omega⟩ : Fin 256)) * both A B n ch)
      + ∑ n : Fin 128, f (ix2 r (⟨128 + n, by omega⟩ : Fin 256)) * both C D n ch := by
  unfold both
  pointwise [k0_pay6]

theorem pay8_at (f : Vec Ideal S256x256 .bf16) (A B C D : Vec Ideal S128x128 .f32) (p : Fin 128) (ch : Fin 256) :
    k0_pay8 (F := Ideal) f A B C D (ix2 p ch) = k0_pay6 (F := Ideal) f A B C D (ix2 (⟨p, by omega⟩ : Fin 256) ch) := by
  pointwise [k0_pay8]

theorem pay9_at (f : Vec Ideal S256x256 .bf16) (A B C D : Vec Ideal S128x128 .f32) (p : Fin 128) (ch : Fin 256) :
    k0_pay9 (F := Ideal) f A B C D (ix2 p ch) = k0_pay6 (F := Ideal) f A B C D (ix2 (⟨128 + p, by omega⟩ : Fin 256) ch) := by
  pointwise [k0_pay9]

theorem pay7_at (k : Vec Ideal S1x1x256x256 .bf16) (r ch : Fin 256) :
    k0_pay7 (F := Ideal) k (ix2 r ch) = k (ix4 (0 : Fin 1) (0 : Fin 1) r ch) := by
  pointwise [k0_pay7]

theorem pay10_at (k : FVec Ideal S256x256 .f32) (X Y : FVec Ideal S128x256 .f32) (f : Vec Ideal S256x256 .bf16) (r ch : Fin 256) :
    k0_pay10 (F := Ideal) k X Y f (ix2 r ch)
      = (∑ p : Fin 128, f (ix2 r (⟨p, by omega⟩ : Fin 256))
          * (X (ix2 p ch) * k (ix2 (⟨p, by omega⟩ : Fin 256) ch) - Y (ix2 p ch) * k (ix2 (⟨128 + p, by omega⟩ : Fin 256) ch)))
        + ∑ p : Fin 128, f (ix2 r (⟨128 + p, by omega⟩ : Fin 256))
          * (X (ix2 p ch) * k (ix2 (⟨128 + p, by omega⟩ : Fin 256) ch) + Y (ix2 p ch) * k (ix2 (⟨p, by omega⟩ : Fin 256) ch)) := by
  pointwise [k0_pay10]

theorem pay11_at (k : FVec Ideal S256x256 .f32) (X Y : FVec Ideal S128x256 .f32) (f : Vec Ideal S256x256 .bf16) (n l : Fin 128) :
    k0_pay11 (F := Ideal) k X Y f (ix2 n l) = k0_pay10 (F := Ideal) k X Y f (ix2 (⟨n, by omega⟩ : Fin 256) (⟨l, by omega⟩ : Fin 256)) := by
  pointwise [k0_pay11]

theorem pay12_at (k : FVec Ideal S256x256 .f32) (X Y : FVec Ideal S128x256 .f32) (f : Vec Ideal S256x256 .bf16) (n l : Fin 128) :
    k0_pay12 (F := Ideal) k X Y f (ix2 n l) = k0_pay10 (F := Ideal) k X Y f (ix2 (⟨n, by omega⟩ : Fin 256) (⟨128 + l, by omega⟩ : Fin 256)) := by
  pointwise [k0_pay12]

theorem pay13_at (k : FVec Ideal S256x256 .f32) (X Y : FVec Ideal S128x256 .f32) (f : Vec Ideal S256x256 .bf16) (n l : Fin 128) :
    k0_pay13 (F := Ideal) k X Y f (ix2 n l) = k0_pay10 (F := Ideal) k X Y f (ix2 (⟨128 + n, by omega⟩ : Fin 256) (⟨l, by omega⟩ : Fin 256)) := by
  pointwise [k0_pay13]

theorem pay14_at (k : FVec Ideal S256x256 .f32) (X Y : FVec Ideal S128x256 .f32) (f : Vec Ideal S256x256 .bf16) (n l : Fin 128) :
    k0_pay4 (F := Ideal) (k0_pay14 (F := Ideal) k X Y f) (ix2 n l) = k0_pay10 (F := Ideal) k X Y f (ix2 (⟨128 + n, by omega⟩ : Fin 256) (⟨128 + l, by omega⟩ : Fin 256)) := by
  pointwise [k0_pay4, k0_pay14]

theorem pay5_at (s : Vec Ideal S1x256 .f32) (A B : Vec Ideal S1x144x128 .f32) (h : Vec Ideal S1x64x144 .bf16) (u : Vec Ideal S1x1x64x256 .bf16)
    (a : Fin 64) (ch : Fin 256) :
    k0_pay5 (F := Ideal) s A B h u (ix4 (0 : Fin 1) (0 : Fin 1) a ch)
      = (∑ r : Fin 144, h (ix3 (0 : Fin 1) a r)
          * (if hc : ch.val < 128 then A (ix3 (0 : Fin 1) r ⟨ch, hc⟩) else B (ix3 (0 : Fin 1) r ⟨ch - 128, by omega⟩)))
        + s (ix2 (0 : Fin 1) ch) * u (ix4 (0 : Fin 1) (0 : Fin 1) a ch) := by
  pointwise [k0_pay5]

end Cert.Kernel3Ideal.Conv

end
-- ==== Proof.LcValue.lean ====
/- The long convolution's launch at the ideal instance, on a signal and a spectrum of real numbers: what one grid point
   writes is the convolution of `Dft.conv1` and the skip's product. -/
module

public import proofs.«01_k».proof.Proof.LcPay
public import proofs.«01_k».proof.Proof.LcBlocks

@[expose] public section

set_option maxRecDepth 8192

noncomputable section

namespace Cert.Kernel3Ideal.Conv

open Cert.Kernel3Ideal Cert.Kernel3Ideal.Gen
open Idealize.ShloMosaic Idealize.ShloMosaic.TcCoe

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 144 rows whose padding is zero. -/
theorem sum_rows (f : ℕ → EReal) (h0 : ∀ i, 65 ≤ i → i < 72 → f i = 0) (h1 : ∀ i, 137 ≤ i → i < 144 → f i = 0) :
    ∑ r : Fin 144, f r = (∑ q : Fin 65, f q) + ∑ q : Fin 65, f (72 + q) := by
  have e : ∀ g : ℕ → EReal, (∀ i, 65 ≤ i → i < 72 → g i = 0) → ∑ r : Fin 72, g r = ∑ q : Fin 65, g q := by
    intro g hg
    rw [show (∑ r : Fin 72, g r) = ∑ r : Fin (65 + 7), g r from rfl, Fin.sum_univ_add]
    rw [show (∑ i : Fin 7, g (Fin.natAdd 65 i)) = 0 from Finset.sum_eq_zero fun i _ => hg _ (by simp) (by simp; omega), add_zero]
    rfl
  rw [show (∑ r : Fin 144, f r) = ∑ r : Fin (72 + 72), f r from rfl, Fin.sum_univ_add]
  refine congrArg₂ (· + ·) (e f h0) ?_
  exact e (fun i => f (72 + i)) fun i h h' => h1 _ (by omega) (by omega)

variable (x0 : Vec Ideal S1x1x64x32768 .bf16) (x1 : Vec Ideal S1x65x256x256 .bf16) (x2 : Vec Ideal S128x144x64 .bf16)
  (x3 : Vec Ideal S128x64x144 .bf16) (x4 x5 : Vec Ideal S256x256 .bf16) (x6 : Vec Ideal S1x256 .f32)
variable (u : Fin 64 → Fin 128 → Fin 256 → ℝ) (K : Fin 65 → Fin 256 → Fin 256 → ℝ)

/-- What the launch's windows hold: the signal, the spectrum and the tables. -/
structure Reads : Prop where
  u : ∀ a k, x0 (ix4 (0 : Fin 1) (0 : Fin 1) a k) = ((u a ⟨k.val / 256, by omega⟩ ⟨k.val % 256, by omega⟩ : ℝ) : EReal)
  k : ∀ q r ch, x1 (ix4 (0 : Fin 1) q r ch) = ((K q r ch : ℝ) : EReal)
  g : ∀ n r a, x2 (ix3 n r a) = ((tab r.val (128 * a.val + n.val) : ℝ) : EReal)
  h : ∀ n a r, x3 (ix3 n a r) = ((tab r.val (128 * a.val + n.val) : ℝ) : EReal) * ((wts r.val : ℝ) : EReal)
  f : ∀ p n : Fin 128, x4 (ix2 (⟨p, by omega⟩ : Fin 256) (⟨n, by omega⟩ : Fin 256)) = ((Dft.C (128 * (p * n)) : ℝ) : EReal)
    ∧ x4 (ix2 (⟨p, by omega⟩ : Fin 256) (⟨128 + n, by omega⟩ : Fin 256)) = ((Dft.S (128 * (p * n)) : ℝ) : EReal)
    ∧ x4 (ix2 (⟨128 + p, by omega⟩ : Fin 256) (⟨n, by omega⟩ : Fin 256)) = ((-Dft.S (128 * (p * n)) : ℝ) : EReal)
    ∧ x4 (ix2 (⟨128 + p, by omega⟩ : Fin 256) (⟨128 + n, by omega⟩ : Fin 256)) = ((Dft.C (128 * (p * n)) : ℝ) : EReal)
  i : ∀ p n : Fin 128, x5 (ix2 (⟨p, by omega⟩ : Fin 256) (⟨n, by omega⟩ : Fin 256)) = ((Dft.C (128 * (p * n)) : ℝ) : EReal)
    ∧ x5 (ix2 (⟨p, by omega⟩ : Fin 256) (⟨128 + n, by omega⟩ : Fin 256)) = ((-Dft.S (128 * (p * n)) : ℝ) : EReal)
    ∧ x5 (ix2 (⟨128 + p, by omega⟩ : Fin 256) (⟨n, by omega⟩ : Fin 256)) = ((Dft.S (128 * (p * n)) : ℝ) : EReal)
    ∧ x5 (ix2 (⟨128 + p, by omega⟩ : Fin 256) (⟨128 + n, by omega⟩ : Fin 256)) = ((Dft.C (128 * (p * n)) : ℝ) : EReal)

variable (R : Reads x0 x1 x2 x3 x4 x5 u K)
include R

/-- The signal's column block. -/
theorem uAt_at (n : Fin 128) (a : Fin 64) (ch : Fin 256) : uAt x0 n.val (ix4 (0 : Fin 1) (0 : Fin 1) a ch) = ((u a n ch : ℝ) : EReal) := by
  refine (R.u a _).trans ?_
  have h1 : (256 * n.val + ch.val) % 32768 / 256 = n.val := by omega
  have h2 : (256 * n.val + ch.val) % 32768 % 256 = ch.val := by omega
  exact congrArg₂ (fun i j => ((u a i j : ℝ) : EReal)) (Fin.ext h1) (Fin.ext h2)

theorem gAt_at (n : Fin 128) (r : Fin 144) (a : Fin 64) : gAt x2 n.val (ix3 (0 : Fin 1) r a) = ((tab r.val (128 * a.val + n.val) : ℝ) : EReal) := by
  refine (R.g _ r a).trans ?_
  simp only [Nat.mod_eq_of_lt n.isLt]

theorem hAt_at (n : Fin 128) (r : Fin 144) (a : Fin 64) :
    hAt x3 n.val (ix3 (0 : Fin 1) a r) = ((tab r.val (128 * a.val + n.val) * wts r.val : ℝ) : EReal) := by
  refine (R.h _ a r).trans ?_
  simp only [Nat.mod_eq_of_lt n.isLt, EReal.coe_mul]

/-- A row of the first transform. -/
def row (n r : ℕ) (un : Fin 64 → ℝ) : ℝ := ∑ a : Fin 64, tab r (128 * a.val + n) * un a

theorem st1_at (p : Fin 2) (n : Fin 128) (r : ℕ) (hr : r < 144) (l : Fin 128) :
    st1 x0 x2 p n.val r l = ((row n.val r (fun a => u a n ⟨128 * p.val + l.val, by omega⟩) : ℝ) : EReal) := by
  have e : (⟨r % 144, Nat.mod_lt _ (by decide)⟩ : Fin 144) = ⟨r, hr⟩ := Fin.ext (Nat.mod_eq_of_lt hr)
  unfold st1 row
  rw [coe_sum]
  rcases (show p = 0 ∨ p = 1 by omega) with rfl | rfl
  · rw [if_pos (show (0 : Fin 2).val = 0 from rfl), e, pay2_at]
    refine Finset.sum_congr rfl fun a _ => ?_
    rw [gAt_at x0 x1 x2 x3 x4 x5 u K R, uAt_at x0 x1 x2 x3 x4 x5 u K R, EReal.coe_mul]
    simp
  · rw [if_neg (show ¬ (1 : Fin 2).val = 0 by decide), e, pay3_at]
    refine Finset.sum_congr rfl fun a _ => ?_
    rw [gAt_at x0 x1 x2 x3 x4 x5 u K R, uAt_at x0 x1 x2 x3 x4 x5 u K R, EReal.coe_mul]
    simp

theorem both_at (n : Fin 128) (r : ℕ) (hr : r < 144) (ch : Fin 256) :
    both (row1 x0 x2 0 r) (row1 x0 x2 1 r) n ch = ((row n.val r (fun a => u a n ch) : ℝ) : EReal) := by
  unfold both
  split
  · rename_i h
    refine (st1_at x0 x1 x2 x3 x4 x5 u K R 0 n r hr ⟨ch, h⟩).trans ?_
    simp
  · rename_i h
    refine (st1_at x0 x1 x2 x3 x4 x5 u K R 1 n r hr ⟨ch - 128, by omega⟩).trans ?_
    have e : (⟨128 * (1 : Fin 2).val + (ch.val - 128), by simp; omega⟩ : Fin 256) = ch := Fin.ext (by simp; omega)
    simp only [e]

omit R in
theorem row_re (n : Fin 128) (q : Fin 65) (un : Fin 64 → Fin 128 → ℝ) : row n.val q.val (fun a => un a n) = Dft.re1 un q n := by
  unfold row Dft.re1 tab
  simp only [q.isLt, if_true]

omit R in
theorem row_im (n : Fin 128) (q : Fin 65) (un : Fin 64 → Fin 128 → ℝ) : row n.val (q.val + 72) (fun a => un a n) = Dft.im1 un q n := by
  unfold row Dft.im1 tab
  simp only [show ¬ q.val + 72 < 65 by omega, show ¬ q.val + 72 < 72 by omega, show q.val + 72 < 137 by omega, if_true, if_false, Nat.add_sub_cancel]

theorem reAt_at (q : Fin 65) (p : Fin 128) (ch : Fin 256) :
    reAt x0 x2 x4 q.val (ix2 p ch) = ((Dft.re2 (fun a n => u a n ch) q p : ℝ) : EReal) := by
  unfold reAt
  rw [pay8_at, pay6_at]
  unfold Dft.re2
  rw [EReal.coe_add, coe_sum, coe_sum]
  refine congrArg₂ (· + ·) (Finset.sum_congr rfl fun n _ => ?_) (Finset.sum_congr rfl fun n _ => ?_)
  · rw [(R.f p n).1, both_at x0 x1 x2 x3 x4 x5 u K R n q.val (by omega) ch, row_re n q (fun a n => u a n ch), EReal.coe_mul]
  · rw [(R.f p n).2.1, both_at x0 x1 x2 x3 x4 x5 u K R n (q.val + 72) (by omega) ch, row_im n q (fun a n => u a n ch), EReal.coe_mul]

theorem imAt_at (q : Fin 65) (p : Fin 128) (ch : Fin 256) :
    imAt x0 x2 x4 q.val (ix2 p ch) = ((Dft.im2 (fun a n => u a n ch) q p : ℝ) : EReal) := by
  unfold imAt
  rw [pay9_at, pay6_at]
  unfold Dft.im2
  rw [EReal.coe_add, coe_sum, coe_sum]
  refine congrArg₂ (· + ·) (Finset.sum_congr rfl fun n _ => ?_) (Finset.sum_congr rfl fun n _ => ?_)
  · rw [(R.f p n).2.2.1, both_at x0 x1 x2 x3 x4 x5 u K R n q.val (by omega) ch, row_re n q (fun a n => u a n ch), EReal.coe_mul]
  · rw [(R.f p n).2.2.2, both_at x0 x1 x2 x3 x4 x5 u K R n (q.val + 72) (by omega) ch, row_im n q (fun a n => u a n ch), EReal.coe_mul]

theorem k_at (q : Fin 65) (r ch : Fin 256) : k0_pay7 (F := Ideal) (kAt x1 q.val) (ix2 r ch) = ((K q r ch : ℝ) : EReal) := by
  rw [pay7_at]
  refine (R.k _ r ch).trans ?_
  simp only [Nat.mod_eq_of_lt q.isLt]

/-- The spectrum's real and imaginary halves in channel `ch`. -/
def kr (ch : Fin 256) (q : Fin 65) (p : Fin 128) : ℝ := K q ⟨p, by omega⟩ ch
def ki (ch : Fin 256) (q : Fin 65) (p : Fin 128) : ℝ := K q ⟨128 + p, by omega⟩ ch

/-- The product's real and imaginary parts in channel `ch`. -/
def yr (ch : Fin 256) (q : Fin 65) (p : Fin 128) : ℝ :=
  Dft.re2 (fun a n => u a n ch) q p * kr K ch q p - Dft.im2 (fun a n => u a n ch) q p * ki K ch q p
def yi (ch : Fin 256) (q : Fin 65) (p : Fin 128) : ℝ :=
  Dft.re2 (fun a n => u a n ch) q p * ki K ch q p + Dft.im2 (fun a n => u a n ch) q p * kr K ch q p

theorem prod_at (q : Fin 65) (ch : Fin 256) (r : Fin 256) (wr wi : Fin 128 → ℝ)
    (h1 : ∀ p : Fin 128, x5 (ix2 r (⟨p, by omega⟩ : Fin 256)) = ((wr p : ℝ) : EReal))
    (h2 : ∀ p : Fin 128, x5 (ix2 r (⟨128 + p, by omega⟩ : Fin 256)) = ((wi p : ℝ) : EReal)) :
    k0_pay10 (F := Ideal) (k0_pay7 (kAt x1 q.val)) (reAt x0 x2 x4 q.val) (imAt x0 x2 x4 q.val) x5 (ix2 r ch)
      = (((∑ p : Fin 128, wr p * yr u K ch q p) + ∑ p : Fin 128, wi p * yi u K ch q p : ℝ) : EReal) := by
  rw [pay10_at, EReal.coe_add, coe_sum, coe_sum]
  refine congrArg₂ (· + ·) (Finset.sum_congr rfl fun p _ => ?_) (Finset.sum_congr rfl fun p _ => ?_)
  · rw [h1, reAt_at x0 x1 x2 x3 x4 x5 u K R, imAt_at x0 x1 x2 x3 x4 x5 u K R, k_at x0 x1 x2 x3 x4 x5 u K R,
      k_at x0 x1 x2 x3 x4 x5 u K R, ← EReal.coe_mul, ← EReal.coe_mul, ← EReal.coe_sub, ← EReal.coe_mul]
    rfl
  · rw [h2, reAt_at x0 x1 x2 x3 x4 x5 u K R, imAt_at x0 x1 x2 x3 x4 x5 u K R, k_at x0 x1 x2 x3 x4 x5 u K R,
      k_at x0 x1 x2 x3 x4 x5 u K R, ← EReal.coe_mul, ← EReal.coe_mul, ← EReal.coe_add, ← EReal.coe_mul]
    rfl

theorem sre_at (p : Fin 2) (q : Fin 65) (n l : Fin 128) :
    sre x0 x1 x2 x4 x5 p q.val (ix2 n l)
      = ((Dft.re3 (yr u K ⟨128 * p.val + l.val, by omega⟩) (yi u K ⟨128 * p.val + l.val, by omega⟩) q n : ℝ) : EReal) := by
  have h := fun ch => prod_at x0 x1 x2 x3 x4 x5 u K R q ch ⟨n, by omega⟩ _ _ (fun k => (R.i n k).1) (fun k => (R.i n k).2.1)
  unfold sre
  rcases (show p = 0 ∨ p = 1 by omega) with rfl | rfl
  · rw [if_pos (show (0 : Fin 2).val = 0 from rfl), pay11_at, h]
    simp [Dft.re3]
  · rw [if_neg (show ¬ (1 : Fin 2).val = 0 by decide), pay12_at, h]
    simp [Dft.re3]

theorem sim_at (p : Fin 2) (q : Fin 65) (n l : Fin 128) :
    sim x0 x1 x2 x4 x5 p q.val (ix2 n l)
      = ((Dft.im3 (yr u K ⟨128 * p.val + l.val, by omega⟩) (yi u K ⟨128 * p.val + l.val, by omega⟩) q n : ℝ) : EReal) := by
  have h := fun ch => prod_at x0 x1 x2 x3 x4 x5 u K R q ch ⟨128 + n, by omega⟩ _ _ (fun k => (R.i n k).2.2.1) (fun k => (R.i n k).2.2.2)
  unfold sim
  rcases (show p = 0 ∨ p = 1 by omega) with rfl | rfl
  · rw [if_pos (show (0 : Fin 2).val = 0 from rfl), pay13_at, h]
    simp [Dft.im3]
  · rw [if_neg (show ¬ (1 : Fin 2).val = 0 by decide), pay14_at, h]
    simp [Dft.im3]

/-- The scratch's row `r` of column block `n` after the second loop, in channel `ch`. -/
def fin2 (n : Fin 128) (ch : Fin 256) (r : ℕ) : EReal :=
  if h : ch.val < 128 then st2 x0 x1 x2 x4 x5 65 0 n.val r ⟨ch, h⟩ else st2 x0 x1 x2 x4 x5 65 1 n.val r ⟨ch - 128, by omega⟩

omit R in
theorem chan (ch : Fin 256) (h : ¬ ch.val < 128) : (⟨128 * (1 : Fin 2).val + (ch.val - 128), by simp; omega⟩ : Fin 256) = ch :=
  Fin.ext (by simp; omega)

theorem fin2_re (n : Fin 128) (ch : Fin 256) (q : Fin 65) :
    fin2 x0 x1 x2 x4 x5 n ch q.val = ((Dft.re3 (yr u K ch) (yi u K ch) q n : ℝ) : EReal) := by
  have e : (⟨n.val % 128, Nat.mod_lt _ (by decide)⟩ : Fin 128) = n := Fin.ext (Nat.mod_eq_of_lt n.isLt)
  unfold fin2 st2
  split
  · rename_i h
    rw [if_pos q.isLt, e, sre_at x0 x1 x2 x3 x4 x5 u K R]; simp
  · rename_i h
    rw [if_pos q.isLt, e, sre_at x0 x1 x2 x3 x4 x5 u K R]; simp only [chan ch h]

theorem fin2_im (n : Fin 128) (ch : Fin 256) (q : Fin 65) :
    fin2 x0 x1 x2 x4 x5 n ch (72 + q.val) = ((Dft.im3 (yr u K ch) (yi u K ch) q n : ℝ) : EReal) := by
  have e : (⟨n.val % 128, Nat.mod_lt _ (by decide)⟩ : Fin 128) = n := Fin.ext (Nat.mod_eq_of_lt n.isLt)
  have h1 : ¬ 72 + q.val < 65 := by omega
  have h2 : 72 ≤ 72 + q.val ∧ 72 + q.val < 72 + 65 := by omega
  unfold fin2 st2
  split
  · rename_i h
    rw [e, Nat.add_sub_cancel_left, sim_at x0 x1 x2 x3 x4 x5 u K R]; simp
  · rename_i h
    rw [e, Nat.add_sub_cancel_left, sim_at x0 x1 x2 x3 x4 x5 u K R]; simp only [chan ch h]

/-- What one grid point writes. -/
theorem outv_at (a : Fin 64) (n : Fin 128) (ch : Fin 256) :
    outv x0 x1 x2 x3 x4 x5 x6 (ix4 (0 : Fin 1) (0 : Fin 1) a (⟨256 * n + ch, by omega⟩ : Fin 32768))
      = ((Dft.conv1 (fun a n => u a n ch) (kr K ch) (ki K ch) a n : ℝ) : EReal) + x6 (ix2 (0 : Fin 1) ch) * ((u a n ch : ℝ) : EReal) := by
  have e1 : (256 * n.val + ch.val) / 256 = n.val := by omega
  have e2 : (⟨(256 * n.val + ch.val) % 256, Nat.mod_lt _ (by decide)⟩ : Fin 256) = ch := Fin.ext (by simp only []; omega)
  show k0_pay5 x6 (tile x0 x1 x2 x4 x5 0 ((256 * n.val + ch.val) / 256)) (tile x0 x1 x2 x4 x5 1 ((256 * n.val + ch.val) / 256))
    (hAt x3 ((256 * n.val + ch.val) / 256)) (uAt x0 ((256 * n.val + ch.val) / 256))
    (ix4 0 0 a ⟨(256 * n.val + ch.val) % 256, Nat.mod_lt _ (by decide)⟩) = _
  rw [e2, e1, pay5_at, uAt_at x0 x1 x2 x3 x4 x5 u K R]
  refine congrArg (· + _) ?_
  have hr : ∀ r : Fin 144, hAt x3 n.val (ix3 (0 : Fin 1) a r) * (if hc : ch.val < 128 then tile x0 x1 x2 x4 x5 0 n.val (ix3 (0 : Fin 1) r ⟨ch, hc⟩)
        else tile x0 x1 x2 x4 x5 1 n.val (ix3 (0 : Fin 1) r ⟨ch - 128, by omega⟩))
      = (fun r : ℕ => ((tab r (128 * a.val + n.val) * wts r : ℝ) : EReal) * fin2 x0 x1 x2 x4 x5 n ch r) r.val := fun r => by
    rw [hAt_at x0 x1 x2 x3 x4 x5 u K R]; rfl
  refine (Finset.sum_congr rfl fun r _ => hr r).trans ((sum_rows (fun r : ℕ => ((tab r (128 * a.val + n.val) * wts r : ℝ) : EReal) * fin2 x0 x1 x2 x4 x5 n ch r) ?_ ?_).trans ?_)
  rotate_left 2
  · unfold Dft.conv1 Dft.inv1
    rw [EReal.coe_add, coe_sum, coe_sum]
    refine congrArg₂ (· + ·) (Finset.sum_congr rfl fun q _ => ?_) (Finset.sum_congr rfl fun q _ => ?_)
    · rw [fin2_re x0 x1 x2 x3 x4 x5 u K R, ← EReal.coe_mul]
      unfold tab wts
      rw [if_pos q.isLt, dif_pos q.isLt]
      rfl
    · rw [fin2_im x0 x1 x2 x3 x4 x5 u K R, ← EReal.coe_mul]
      unfold tab wts
      rw [if_neg (by omega), if_neg (by omega), if_pos (by omega), dif_neg (by omega), dif_pos (by omega)]
      simp only [Nat.add_sub_cancel_left]
      rfl
  · intro i h h'
    simp only [tab, show ¬ i < 65 by omega, h', if_true, if_false, zero_mul, EReal.coe_zero]
  · intro i h h'
    simp only [tab, show ¬ i < 65 by omega, show ¬ i < 72 by omega, show ¬ i < 137 by omega, if_false, zero_mul, EReal.coe_zero]

end Cert.Kernel3Ideal.Conv

end
-- ==== Proof.LcRef.lean ====
/- The reference's long convolution at the ideal instance, on a signal and a spectrum of real numbers. -/
module

public import proofs.«01_k».proof.Proof.Gen.Reference3Ideal.Read
public import proofs.«01_k».proof.Proof.LcWords
public import Idealize.ShloMosaic.Lib.Pointwise
public import Idealize.ShloMosaic.Lib.Claim

@[expose] public section

set_option maxRecDepth 8192

noncomputable section

namespace Cert.Reference3Ideal.Conv

open Cert.Reference3Ideal Cert.Reference3Ideal.Gen Cert.Reference3Ideal.Read
open Idealize.ShloMosaic Idealize.ShloMosaic.TcCoe

theorem freq_at (q : Fin 65) (p : Fin 128) (n : Fin 8192) :
    val_main_v18 (F := Ideal) (ix3 q p n) = BitVec.ofNat 32 ((q + 128 * p) * n) := by
  pointwise [val_main_v18, val_main_v17, val_main_v16, val_main_v15, val_main_v14, val_main_v13, val_main_v12, val_main_v11,
    val_main_v10, val_main_v9, val_main_v8, val_main_v7, val_main_v6, val_main_v5, val_main_v4, val_main_c]
  rw [Dft.words_mul, Dft.words_add, Dft.words_mul]

theorem cos_at (q : Fin 65) (p : Fin 128) (n : Fin 8192) :
    val_main_v27 (F := Ideal) (ix3 q p n) = ((Dft.C ((q + 128 * p) * n) : ℝ) : EReal) := by
  pointwise [val_main_v27, val_main_v26, val_main_v25, val_main_v24, val_main_v23, val_main_v22, val_main_v21, val_main_v20,
    val_main_v19, val_main_c_0, val_main_cst, val_main_cst_1, val_main_cst_2]
  rw [freq_at, Dft.cos_angle _ (by nlinarith [q.isLt, p.isLt, n.isLt])]

theorem sin_at (q : Fin 65) (p : Fin 128) (n : Fin 8192) :
    val_main_v28 (F := Ideal) (ix3 q p n) = ((Dft.S ((q + 128 * p) * n) : ℝ) : EReal) := by
  pointwise [val_main_v28, val_main_v26, val_main_v25, val_main_v24, val_main_v23, val_main_v22, val_main_v21, val_main_v20,
    val_main_v19, val_main_c_0, val_main_cst, val_main_cst_1, val_main_cst_2]
  rw [freq_at, Dft.sin_angle _ (by nlinarith [q.isLt, p.isLt, n.isLt])]

/-- The weight of frequency `q`: the first and the middle one count once, the others for themselves and their conjugates. -/
theorem wt_at (q : Fin 65) : val_main_v53 (F := Ideal) (ix1 q) = ((Dft.wt q : ℝ) : EReal) := by
  pointwise [val_main_v53, val_main_call0_v0, val_main_call0_v1, val_main_cst_5, val_main_cst_6, val_main_v52, val_main_v51, val_main_v50,
    val_main_v49, val_main_v48, val_main_v4, val_main_c_3, val_main_c_4]
  have hb : ∀ q : Fin 65, IntOp.ori (IntOp.cmpi CmpIPredicate.eq (BitVec.ofNat 32 q) 0#32) (IntOp.cmpi CmpIPredicate.eq (BitVec.ofNat 32 q) 64#32)
      = if q.val = 0 ∨ q.val = 64 then 1#1 else 0#1 := by decide
  have h2 : Ideal.ofBits FTy.f32 1073741824#32 = ((2 : ℝ) : EReal) := by simp [Ideal.ofBits, Ideal.ieee, -EReal.coe_mul]; norm_num
  rw [hb, h2]
  unfold Dft.wt
  split
  · rfl
  · rfl

theorem wt_re (q : Fin 65) : val_main_v55 (F := Ideal) (ix3 q 0 0) = ((Dft.wt q : ℝ) : EReal) := by
  show val_main_v54 (F := Ideal) (ix3 q 0 0) = _
  pointwise [val_main_v54]
  exact wt_at q

theorem wt_im (q : Fin 65) : val_main_v61 (F := Ideal) (ix3 q 0 0) = ((Dft.wt q : ℝ) : EReal) := by
  show val_main_v54 (F := Ideal) (ix3 q 0 0) = _
  pointwise [val_main_v54]
  exact wt_at q

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (x0 : (⟨S4x4x8192x256, .bf16⟩ : BufTy).Contents (Elt Ideal)) (x1 : (⟨S4x65x256x256, .bf16⟩ : BufTy).Contents (Elt Ideal))
  (x2 : (⟨S1024, .f32⟩ : BufTy).Contents (Elt Ideal))
variable (b g : Fin 4) (u : Fin 64 → Fin 128 → Fin 256 → ℝ) (K : Fin 65 → Fin 256 → Fin 256 → ℝ)
theorem pos_lt (a : Fin 64) (n : Fin 128) : 128 * a.val + n.val < 8192 := by omega

variable (hu : ∀ (a : Fin 64) (n : Fin 128) ch, x0 (ix4 b g (⟨128 * a + n, pos_lt a n⟩ : Fin 8192) ch) = ((u a n ch : ℝ) : EReal))
variable (hk : ∀ q r ch, x1 (ix4 g q r ch) = ((K q r ch : ℝ) : EReal))

include hu in
/-- A sum over the positions, as one over the blocks and the rows. -/
theorem sum_at (w : ℕ → ℝ) (ch : Fin 256) :
    ∑ x : Fin 8192, x0 (ix4 b g x ch) * ((w x.val : ℝ) : EReal) = ((∑ n : Fin 128, ∑ a : Fin 64, w (128 * a + n) * u a n ch : ℝ) : EReal) := by
  rw [Fin.sum_univ_tiles 64 128 rfl, Finset.sum_comm, coe_sum]
  refine Finset.sum_congr rfl fun n _ => ?_
  rw [coe_sum]
  refine Finset.sum_congr rfl fun a _ => ?_
  have e : ∀ h, (⟨a.val * 128 + n.val, h⟩ : Fin 8192) = ⟨128 * a + n, by omega⟩ := fun h => Fin.ext (by simp only []; omega)
  rw [e, hu, ← EReal.coe_mul, mul_comm]

include hu in
theorem v30_at (q : Fin 65) (p : Fin 128) (ch : Fin 256) :
    val_main_v30 (F := Ideal) x0 (ix5 b g q p ch) = ((Dft.ur (fun a n => u a n ch) q p : ℝ) : EReal) := by
  pointwise [val_main_v30, val_main_v29, val_main_v0]
  simp only [cos_at]
  exact sum_at x0 b g u hu (fun i => Dft.C ((q + 128 * p) * i)) ch

include hu in
theorem v33_at (q : Fin 65) (p : Fin 128) (ch : Fin 256) :
    val_main_v33 (F := Ideal) x0 (ix5 b g q p ch) = ((Dft.ui (fun a n => u a n ch) q p : ℝ) : EReal) := by
  pointwise [val_main_v33, val_main_v32, val_main_v31, val_main_v0]
  simp only [sin_at]
  rw [sum_at x0 b g u hu (fun i => Dft.S ((q + 128 * p) * i)) ch]
  rfl

/-- The spectrum's real and imaginary halves in channel `ch`. -/
def kr (ch : Fin 256) (q : Fin 65) (p : Fin 128) : ℝ := K q ⟨p, by omega⟩ ch
def ki (ch : Fin 256) (q : Fin 65) (p : Fin 128) : ℝ := K q ⟨128 + p, by omega⟩ ch

include hu hk in
theorem v58_at (q : Fin 65) (p : Fin 128) (ch : Fin 256) : val_main_v58 (F := Ideal) x0 x1 (ix5 b g q p ch)
    = ((Dft.wt q * (Dft.ur (fun a n => u a n ch) q p * kr K ch q p - Dft.ui (fun a n => u a n ch) q p * ki K ch q p) : ℝ) : EReal) := by
  pointwise [val_main_v58, val_main_v57, val_main_v56, val_main_v40, val_main_v39, val_main_v38, val_main_v37,
    val_main_v36, val_main_v35, val_main_v34, val_main_v3, val_main_v2, val_main_v1]
  rw [wt_re, v30_at x0 b g u hu, v33_at x0 b g u hu, hk, hk, ← EReal.coe_mul, ← EReal.coe_mul, ← EReal.coe_sub, ← EReal.coe_mul]
  rfl

include hu hk in
theorem v64_at (q : Fin 65) (p : Fin 128) (ch : Fin 256) : val_main_v64 (F := Ideal) x0 x1 (ix5 b g q p ch)
    = ((Dft.wt q * (Dft.ur (fun a n => u a n ch) q p * ki K ch q p + Dft.ui (fun a n => u a n ch) q p * kr K ch q p) : ℝ) : EReal) := by
  pointwise [val_main_v64, val_main_v63, val_main_v62, val_main_v47, val_main_v46, val_main_v45, val_main_v44,
    val_main_v43, val_main_v42, val_main_v41, val_main_v3, val_main_v2, val_main_v1]
  rw [wt_im, v30_at x0 b g u hu, v33_at x0 b g u hu, hk, hk, ← EReal.coe_mul, ← EReal.coe_mul, ← EReal.coe_add, ← EReal.coe_mul]
  rfl

include hu hk in
theorem v69_at (a : Fin 64) (n : Fin 128) (ch : Fin 256) :
    val_main_v69 (F := Ideal) x0 x1 (ix4 b g (⟨128 * a + n, by omega⟩ : Fin 8192) ch)
      = ((Dft.conv (fun a n => u a n ch) (kr K ch) (ki K ch) a n : ℝ) : EReal) := by
  have hd : Ideal.ofBits FTy.f32 1182793728#32 = ((16384 : ℝ) : EReal) := Dft.bits_16384.trans (by norm_num)
  pointwise [val_main_v69, val_main_v68, val_main_cst_7, val_main_v67, val_main_v66, val_main_v65, val_main_v60, val_main_v59]
  rw [hd, Ideal.div_coe (by norm_num)]
  unfold Dft.conv Dft.inv
  have e : ∀ x y : ℝ, (((x - y) / 16384 : ℝ) : EReal) = ((x : EReal) - (y : EReal)) * ((1 / 16384 : ℝ) : EReal) := fun x y => by
    rw [← EReal.coe_sub, ← EReal.coe_mul]; congr 1; ring
  rw [e]
  refine congrArg (· * _) ?_
  simp only [v58_at x0 x1 b g u K hu hk, v64_at x0 x1 b g u K hu hk, cos_at, sin_at, ← EReal.coe_mul]
  simp only [coe_sum]
  refine congrArg₂ (· - ·) ?_ ?_
  · rw [Finset.sum_comm]
  · rw [Finset.sum_comm]

include hu hk in
/-- The reference's result at row `a`, block `n`, channel `ch`. -/
theorem v76_at (a : Fin 64) (n : Fin 128) (ch : Fin 256) :
    val_main_v76 (F := Ideal) x0 x1 x2 (ix4 b g a (⟨256 * n + ch, by omega⟩ : Fin 32768))
      = ((Dft.conv (fun a n => u a n ch) (kr K ch) (ki K ch) a n : ℝ) : EReal)
        + ((u a n ch : ℝ) : EReal) * x2 (ix1 (⟨256 * g + ch, by omega⟩ : Fin 1024)) := by
  pointwise [val_main_v76, val_main_v75, val_main_v74, val_main_v73, val_main_v72, val_main_v71, val_main_v70, val_main_v0]
  have e1 : ∀ h, (⟨a.val * 128 + (256 * n.val + ch.val) / 256, h⟩ : Fin 8192) = ⟨128 * a + n, by omega⟩ := fun h => Fin.ext (by simp only []; omega)
  have e2 : ∀ h, (⟨g.val * 256 + ch.val, h⟩ : Fin 1024) = ⟨256 * g + ch, by omega⟩ := fun h => Fin.ext (by simp only []; omega)
  rw [e1, e2, hu, v69_at x0 x1 b g u K hu hk]

end Cert.Reference3Ideal.Conv

end
-- ==== Proof.LcFinal.lean ====
/- The long convolution's result array at the ideal instance is the reference's, for a finite signal and filter. -/
module

public import proofs.«01_k».proof.Proof.LcBlocks
public import proofs.«01_k».proof.Proof.LcValue
public import proofs.«01_k».proof.Proof.LcRef

@[expose] public section

set_option maxRecDepth 16384

noncomputable section

namespace Cert.Kernel3Ideal.Conv

open Cert.Kernel3Ideal Cert.Kernel3Ideal.Gen
open Idealize.ShloMosaic Idealize.ShloMosaic.TcCoe Idealize.SL.Sem

variable (m : (ℓ : Loc nD τ sig) → Buf (Elt Ideal) ℓ)

/-- The signal, the filter and the skip weights before the run. -/
abbrev sigA (c : Dev nD) : (⟨S4x4x8192x256, .bf16⟩ : BufTy).Contents (Elt Ideal) := m ((c : Thread nD τ).loc main_arg0)
abbrev filA (c : Dev nD) : (⟨S4x65x256x256, .bf16⟩ : BufTy).Contents (Elt Ideal) := m ((c : Thread nD τ).loc main_arg1)
abbrev skpA (c : Dev nD) : (⟨S1024, .f32⟩ : BufTy).Contents (Elt Ideal) := m ((c : Thread nD τ).loc main_arg2)

/-- The signal's and the filter's real numbers at grid point `t`. -/
def uR (c : Dev nD) (t : Fin cfg0.N) (a : Fin 64) (n : Fin 128) (ch : Fin 256) : ℝ :=
  EReal.toReal (sigA m c (ix4 (bt t) (cg t) (⟨128 * a + n, by omega⟩ : Fin 8192) ch))
def kR (c : Dev nD) (t : Fin cfg0.N) (q : Fin 65) (r ch : Fin 256) : ℝ := EReal.toReal (filA m c (ix4 (cg t) q r ch))

variable (c : Dev nD) (hu : ∀ i, sigA m c i = ((EReal.toReal (sigA m c i) : ℝ) : EReal))
  (hk : ∀ i, filA m c i = ((EReal.toReal (filA m c i) : ℝ) : EReal))

include hu hk in
/-- What the windows hold at grid point `t`. -/
theorem reads (t : Fin cfg0.N) :
    Reads (iblk m c 0 t) (iblk m c 1 t) (iblk m c 2 t) (iblk m c 3 t) (iblk m c 4 t) (iblk m c 5 t) (uR m c t) (kR m c t) where
  u a k := (blk_u m c t a k).trans ((V_u m c (bt t) (cg t) a k).trans (hu _))
  k q r ch := (blk_k m c t q r ch).trans ((congrFun (V_k m c) _).trans (hk _))
  g n r a := (blk_g m c t _).trans (V_g m c n r (⟨a.val, by omega⟩ : Fin 64))
  h n a r := (blk_h m c t _).trans (V_h m c n r a)
  f p n := by
    rw [blk_f, blk_f, blk_f, blk_f]; exact V_f m c p n
  i p n := by
    rw [blk_i, blk_i, blk_i, blk_i]; exact V_i m c p n

include hu hk in
/-- The block written at grid point `t`. -/
theorem point (t : Fin cfg0.N) (a : Fin 64) (n : Fin 128) (ch : Fin 256) :
    outsAt0 m c t (ix4 (0 : Fin 1) (0 : Fin 1) a (⟨256 * n + ch, by omega⟩ : Fin 32768))
      = Cert.Reference3Ideal.Read.val_main_v76 (F := Ideal) (sigA m c) (filA m c) (skpA m c)
          (ix4 (bt t) (cg t) a (⟨256 * n + ch, by omega⟩ : Fin 32768)) := by
  refine (outv_at _ _ _ _ _ _ (iblk m c 6 t) _ _ (reads m c hu hk t) a n ch).trans ?_
  refine Eq.trans ?_ (Cert.Reference3Ideal.Conv.v76_at (sigA m c) (filA m c) (skpA m c) (bt t) (cg t) (uR m c t) (kR m c t)
    (fun a n ch => hu _) (fun q r ch => hk _) a n ch).symm
  rw [blk_s, V_s, Dft.conv1_eq, mul_comm]
  rfl

set_option maxHeartbeats 4000000 in
include hu hk in
/-- The result array after the run is the reference's. -/
theorem final : (dats m 0 c).arrAt 7 (cfgs 0).N
    = Cert.Reference3Ideal.Read.val_main_v76 (F := Ideal) (sigA m c) (filA m c) (skpA m c) := by
  refine (dats m 0 c).arrAt_eq_of_covers 7 _ (by decide +kernel) fun t _ y => ?_
  blk_simp
  rw [after0_7]
  have ht := lt_of_lt_of_eq t.isLt N_0
  have h0 : (y 0).val < 1 := (y 0).isLt
  have h1 : (y 1).val < 1 := (y 1).isLt
  have h2 : (y 2).val < 64 := (y 2).isLt
  have h3 : (y 3).val < 32768 := (y 3).isLt
  have e : y = ix4 (0 : Fin 1) (0 : Fin 1) (⟨(y 2).val, h2⟩ : Fin 64) (⟨256 * ((y 3).val / 256) + (y 3).val % 256, by omega⟩ : Fin 32768) := by
    refine funext fun j => ?_
    match j with
    | 0 => exact Fin.ext (by show (y 0).val = 0; omega)
    | 1 => exact Fin.ext (by show (y 1).val = 0; omega)
    | 2 => rfl
    | 3 => exact Fin.ext (by show (y 3).val = 256 * ((y 3).val / 256) + (y 3).val % 256; omega)
  refine (congrArg (outsAt0 m c t) e).trans ?_
  refine (point m c hu hk t (⟨(y 2).val, h2⟩ : Fin 64) ⟨(y 3).val / 256, by omega⟩ ⟨(y 3).val % 256, by omega⟩).trans ?_
  refine congrArg _ ?_
  blk_ext [idx t] <;> simp only [bt, cg]

end Cert.Kernel3Ideal.Conv

end
-- ==== Proof.ClaimLc.lean ====
/- The claims about the long convolution: its frames, and that its result is the reference's. -/
module

public import proofs.«01_k».proof.Defs
public import proofs.«01_k».proof.Proof.LcFinal
public import proofs.«01_k».proof.Proof.Gen.Pre_finite
public import proofs.«01_k».proof.Proof.Gen.Reference3Ideal.Run
public import proofs.«01_k».proof.Proof.Gen.Reference3Ideal.Read
public import Idealize.ShloMosaic.Lib.Claim
public import Idealize.ShloMosaic.Lib.Quiescent

@[expose] public section

set_option maxRecDepth 65536

noncomputable section

open Idealize.ShloMosaic Idealize.ShloMosaic.TcCoe Idealize.SL.Sem

namespace Cert.Proof

/-- The third reference's frame. -/
theorem frame_ref3 : @Cert.quiescent_Reference3Ideal Cert.Reference3Ideal.Gen.facts := by
  intro m g _
  refine θ_run_mono (Cert.Reference3Ideal.Value.run m g) fun r h => ⟨fun c => (h c).2, ?_⟩
  exact sem_eq_zero_of_no_sems (by decide) _

/-- An extended real whose absolute value is below infinity, as the precondition compares them, is a real. -/
theorem real_of_mask (x : EReal) (h : Ideal.cmp .olt (max x (-x)) (Ideal.ofBits .f32 0x7F800000#32) = 1#1) :
    x = ((EReal.toReal x : ℝ) : EReal) := by
  have ht : Ideal.ofBits .f32 0x7F800000#32 = ⊤ := by simp [Ideal.ofBits, Ideal.ieee]
  rw [ht] at h
  have hb : ∀ p : Bool, BitVec.ofBool p = 1#1 → p = true := by decide
  have hl : max x (-x) < ⊤ := of_decide_eq_true (hb _ h)
  refine (EReal.coe_toReal (fun e => ?_) (fun e => ?_)).symm
  · rw [e] at hl; exact absurd hl (by simp)
  · rw [e] at hl; exact absurd hl (by simp)

section
variable (m : (ℓ : Loc Cert.Kernel3Ideal.nD Cert.Kernel3Ideal.τ Cert.Kernel3Ideal.sig) → Buf (Elt Ideal) ℓ)
  (hpre : @Cert.Pre_Kernel3Ideal_finite Cert.Pre_finite.Gen.facts m) (c : Dev Cert.Kernel3Ideal.nD)
include hpre

theorem real_u (i : Cert.Kernel3Ideal.S4x4x8192x256.Idx) :
    Cert.Kernel3Ideal.Conv.sigA m c i = ((EReal.toReal (Cert.Kernel3Ideal.Conv.sigA m c i) : ℝ) : EReal) :=
  real_of_mask _ (congrFun (hpre c).1 i)

theorem real_k (i : Cert.Kernel3Ideal.S4x65x256x256.Idx) :
    Cert.Kernel3Ideal.Conv.filA m c i = ((EReal.toReal (Cert.Kernel3Ideal.Conv.filA m c i) : ℝ) : EReal) :=
  real_of_mask _ (congrFun (hpre c).2 i)
end

set_option maxHeartbeats 1600000 in
/-- The third value claim. -/
theorem value_lc : @Cert.algebraic_Kernel3Ideal_Reference3Ideal_pre_finite Cert.Kernel3Ideal.Gen.facts
    Cert.Reference3Ideal.Gen.facts Cert.Pre_finite.Gen.facts := by
  pair_intro
  · run_from Cert.Kernel3Ideal.Conv.run_blocks m g
  · run_from Cert.Reference3Ideal.Value.run m' g'
    rw [Cert.Reference3Ideal.Read.val_main_v76_eq]
    obtain ⟨h0, h1, h2⟩ := hagree c
    rw [h0, h1, h2]
    exact (Cert.Kernel3Ideal.Conv.final m c (real_u m hpre c) (real_k m hpre c)).symm

end Cert.Proof

end
-- ==== Proof.FmHost.lean ====
/- The operands the host prepares for the filter network at the ideal instance: its features, times and rates are the
   reference's, its rows run forwards and then backwards. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Routing.Ops
public import Idealize.ShloMosaic.Lib.Pointwise
public import Idealize.ShloMosaic.Lib.Claim

@[expose] public section

set_option maxRecDepth 16384

noncomputable section

namespace Cert.Kernel4Ideal.Fm

open Cert.Kernel4Ideal Cert.Kernel4Ideal.Gen
open Idealize.ShloMosaic Idealize.ShloMosaic.TcCoe Idealize.SL.Sem

variable (m : (ℓ : Loc nD τ sig) → Buf (Elt Ideal) ℓ)

theorem after_two (k l : List (HloOp τ sig (Elt Ideal))) (W) : StableHlo.after (k ++ l) W = StableHlo.after l (StableHlo.after k W) := by
  induction k generalizing W with
  | nil => rfl
  | cons op k ih => exact ih _

/-- The buffers' contents after the times, the frequencies, the features, the row numbers, the padding and the rows. -/
def U1 (c : Dev nD) := StableHlo.after hostOps0_1 (StableHlo.after hostOps0 (fun b => m (c, b)))
def U2 (c : Dev nD) := StableHlo.after hostOps0_2 (U1 m c)
def U3 (c : Dev nD) := StableHlo.after hostOps0_3 (U2 m c)
def U4 (c : Dev nD) := StableHlo.after hostOps0_4 (U3 m c)
def U5 (c : Dev nD) := StableHlo.after hostOps0_5 (U4 m c)
def U6 (c : Dev nD) := StableHlo.after hostOps0_7 (StableHlo.after hostOps0_6 (U5 m c))
def U7 (c : Dev nD) := StableHlo.after hostOps0_8 (U6 m c)
def U8 (c : Dev nD) := StableHlo.after hostOps0_9 (U7 m c)

theorem V_U8 (c : Dev nD) (b : Ref sig .tc) :
    V m c b = StableHlo.after hostOps0_12 (StableHlo.after hostOps0_11 (StableHlo.after hostOps0_10 (U8 m c))) b := by
  unfold V U8 U7 U6 U5 U4 U3 U2 U1
  simp only [List.flatten_cons, List.flatten_nil, List.append_nil, after_two]

theorem U1_v0 (c : Dev nD) : U1 m c (Proc.tc.devRef main_v0) = Cert.Reference4Ideal.Read.val_main_v0 (F := Ideal) := by
  unfold U1
  simp only [hostOps0, hostOps0_1]
  entry_read
  rfl

theorem U2_v1 (c : Dev nD) : U2 m c (Proc.tc.devRef main_v1) = Cert.Reference4Ideal.Read.val_main_v1 (F := Ideal) := by
  have h := U1_v0 m c
  unfold U2
  generalize U1 m c = W at *
  simp only [hostOps0_2]
  entry_read
  rw [h]; rfl

theorem U2_v7 (c : Dev nD) : U2 m c (Proc.tc.devRef main_v7) = Cert.Reference4Ideal.Read.val_main_v7 (F := Ideal) := by
  unfold U2
  generalize U1 m c = W at *
  simp only [hostOps0_2]
  entry_read
  rfl

theorem U3_v1 (c : Dev nD) : U3 m c (Proc.tc.devRef main_v1) = Cert.Reference4Ideal.Read.val_main_v1 (F := Ideal) := by
  have h := U2_v1 m c
  unfold U3
  generalize U2 m c = W at *
  simp only [hostOps0_3]
  entry_read
  exact h

theorem U3_v7 (c : Dev nD) : U3 m c (Proc.tc.devRef main_v7) = Cert.Reference4Ideal.Read.val_main_v7 (F := Ideal) := by
  have h := U2_v7 m c
  unfold U3
  generalize U2 m c = W at *
  simp only [hostOps0_3]
  entry_read
  exact h

theorem U3_v8 (c : Dev nD) : U3 m c (Proc.tc.devRef main_v8) = Cert.Reference4Ideal.Read.val_main_v8 (F := Ideal) := by
  unfold U3 U2
  generalize U1 m c = W at *
  simp only [hostOps0_3, hostOps0_2]
  entry_read
  rfl

/-- The contents before the features are joined. -/
def U4a (c : Dev nD) := StableHlo.after (List.take 10 hostOps0_4) (U3 m c)

theorem U4a_v13 (c : Dev nD) : U4a m c (Proc.tc.devRef main_v13) = Cert.Reference4Ideal.Read.val_main_v13 (F := Ideal) := by
  have h7 := U3_v7 m c
  have h8 := U3_v8 m c
  unfold U4a
  generalize U3 m c = W at *
  simp only [List.take_succ_cons, List.take_zero, hostOps0_4]
  entry_read
  rw [h7, h8]
  rfl

theorem U4a_v18 (c : Dev nD) : U4a m c (Proc.tc.devRef main_v18) = Cert.Reference4Ideal.Read.val_main_v18 (F := Ideal) := by
  have h7 := U3_v7 m c
  have h8 := U3_v8 m c
  unfold U4a
  generalize U3 m c = W at *
  simp only [List.take_succ_cons, List.take_zero, hostOps0_4]
  entry_read
  rw [h7, h8]
  rfl

theorem U4a_v1 (c : Dev nD) : U4a m c (Proc.tc.devRef main_v1) = Cert.Reference4Ideal.Read.val_main_v1 (F := Ideal) := by
  have h1 := U3_v1 m c
  unfold U4a
  generalize U3 m c = W at *
  simp only [List.take_succ_cons, List.take_zero, hostOps0_4]
  entry_read
  exact h1

theorem U4_cut (c : Dev nD) : U4 m c = StableHlo.after (List.drop 10 hostOps0_4) (U4a m c) := by
  unfold U4 U4a
  rw [← after_two, List.take_append_drop]

theorem U4_v19 (c : Dev nD) (i : S8192x33.Idx) : U4 m c (Proc.tc.devRef main_v19) i = Cert.Reference4Ideal.Read.val_main_v19 (F := Ideal) i := by
  have h1 := U4a_v1 m c
  have h13 := U4a_v13 m c
  have h18 := U4a_v18 m c
  rw [U4_cut]
  generalize U4a m c = W at *
  simp only [List.drop_succ_cons, List.drop_zero, hostOps0_4]
  entry_read
  unfold Cert.Reference4Ideal.Read.val_main_v19
  rw [← h1, ← h13, ← h18]
  rfl

theorem U4_v1 (c : Dev nD) : U4 m c (Proc.tc.devRef main_v1) = Cert.Reference4Ideal.Read.val_main_v1 (F := Ideal) := by
  have h := U3_v1 m c
  unfold U4
  generalize U3 m c = W at *
  simp only [hostOps0_4]
  entry_read
  exact h

theorem U5_v20 (c : Dev nD) (r : Fin 8192) : U5 m c (Proc.tc.devRef main_v20) (ix1 r) = BitVec.ofNat 32 r := by
  unfold U5 U4
  generalize U3 m c = W at *
  simp only [hostOps0_5, hostOps0_4]
  entry_read
  rfl

theorem word_toInt (k : ℕ) (hk : k < 2 ^ 31) : (BitVec.ofNat 32 k).toInt = k := by
  rw [BitVec.toInt_ofNat']; simp only [Int.bmod_def]; omega

theorem select_no {α : Type} (a b : α) : Scalar.select 0#1 a b = b := rfl

/-- A word's remainder by 8192. -/
theorem word_rem (k : ℕ) (hk : k < 2 ^ 31) :
    IntOp.remsi ArithUnit.host (BitVec.ofNat 32 k) 8192#32 = BitVec.ofNat 32 (k % 8192) := by
  have hc : ¬ IntOp.SDivCorner (BitVec.ofNat 32 k) 8192#32 := by
    rintro (h | ⟨-, h⟩) <;> exact absurd h (by decide)
  rw [IntOp.remsi, if_neg hc]
  refine BitVec.eq_of_toInt_eq ?_
  rw [BitVec.toInt_srem, word_toInt k hk, word_toInt (k % 8192) (by omega), show (8192#32 : BitVec 32).toInt = ((8192 : ℕ) : ℤ) from by decide,
    ← Int.ofNat_tmod]

theorem word_slt (k : ℕ) (hk : k < 2 ^ 31) : IntOp.cmpi CmpIPredicate.slt (BitVec.ofNat 32 k) 0#32 = 0#1 := by
  have h : (BitVec.ofNat 32 k).slt 0#32 = false := by
    rw [BitVec.slt, word_toInt k hk]; simp
  simp [IntOp.cmpi, h]

/-- A row number that isn't negative is kept as it is. -/
theorem word_keep (x : BitVec 32) (k : ℕ) (hk : k < 2 ^ 31) (hx : x = BitVec.ofNat 32 k) :
    Scalar.select (IntOp.cmpi CmpIPredicate.slt x 0#32) (IntOp.addi x 8192#32) x = BitVec.ofNat 32 k := by
  rw [hx, word_slt _ hk, select_no]

theorem U5_v24 (c : Dev nD) (r : Fin 8192) : U5 m c (Proc.tc.devRef main_v24) (ix1 r) = BitVec.ofNat 32 ((8192 - r.val) % 8192) := by
  unfold U5 U4
  generalize U3 m c = W at *
  simp only [hostOps0_5, hostOps0_4]
  entry_read
  simp only [StableHlo.TRef.toBuf, StableHlo.TRef.ofBuf, cast_eq]
  pointwise
  rw [show IntOp.cmpi CmpIPredicate.eq 8192#32 0#32 = 0#1 from by decide]
  simp only [select_no]
  rw [show IntOp.subi (8192#32) (BitVec.ofNat 32 r.val) = BitVec.ofNat 32 (8192 - r.val) from by
    show (8192#32 - BitVec.ofNat 32 r.val : BitVec 32) = _
    rw [← BitVec.ofNat_sub_ofNat_of_le 8192 r.val (by have := r.isLt; omega) (by omega)], word_rem _ (by omega), word_slt _ (by omega),
    show IntOp.cmpi CmpIPredicate.slt 8192#32 0#32 = 0#1 from by decide,
    show IntOp.cmpi CmpIPredicate.ne (0#1) (0#1) = 0#1 from by decide]
  exact (congrArg (fun b => Scalar.select b _ _) (BitVec.zero_and)).trans rfl

theorem U5_v19 (c : Dev nD) (i : S8192x33.Idx) : U5 m c (Proc.tc.devRef main_v19) i = Cert.Reference4Ideal.Read.val_main_v19 (F := Ideal) i := by
  rw [← U4_v19 m c i]
  unfold U5
  generalize U4 m c = W at *
  simp only [hostOps0_5]
  entry_read
  rfl

theorem U5_v1 (c : Dev nD) : U5 m c (Proc.tc.devRef main_v1) = Cert.Reference4Ideal.Read.val_main_v1 (F := Ideal) := by
  rw [← U4_v1 m c]
  unfold U5
  generalize U4 m c = W at *
  simp only [hostOps0_5]
  entry_read
  rfl

/-- The lag's row in the table: the backward filter's rows run down from the last one. -/
def pos (r : Fin 16384) : Fin 8192 := if h : r.val < 8192 then ⟨r, h⟩ else ⟨(8192 - (r.val - 8192)) % 8192, by omega⟩

theorem U6_v25 (c : Dev nD) (r : Fin 16384) : U6 m c (Proc.tc.devRef main_v25) (ix1 r) = BitVec.ofNat 32 (pos r).val := by
  have h0 := U5_v20 m c
  have h1 := U5_v24 m c
  unfold U6
  generalize U5 m c = W at *
  simp only [hostOps0_6, hostOps0_7]
  entry_read
  pointwise
  unfold pos
  split
  · exact h0 _
  · exact h1 _

theorem U6_v26 (c : Dev nD) (r : Fin 8192) (k : Fin 64) : U6 m c (Proc.tc.devRef main_v26) (ix2 r k)
    = if h : k.val < 33 then Cert.Reference4Ideal.Read.val_main_v19 (F := Ideal) (ix2 r (⟨k, h⟩ : Fin 33)) else 0 := by
  have h0 := U5_v19 m c
  unfold U6
  generalize U5 m c = W at *
  simp only [hostOps0_6, hostOps0_7]
  entry_read
  simp only [StableHlo.TRef.toBuf, StableHlo.TRef.ofBuf, cast_eq]
  pointwise
  split
  · exact h0 _
  · exact (congrArg (fun z : ℤ => ((z : ℝ) : EReal)) (by decide : (0#32 : BitVec 32).toInt = 0)).trans (by simp)

theorem U6_v1 (c : Dev nD) : U6 m c (Proc.tc.devRef main_v1) = Cert.Reference4Ideal.Read.val_main_v1 (F := Ideal) := by
  rw [← U5_v1 m c]
  unfold U6
  generalize U5 m c = W at *
  simp only [hostOps0_6, hostOps0_7]
  entry_read
  rfl

theorem U7_v33 (c : Dev nD) (r : Fin 16384) (k : Fin 64) : U7 m c (Proc.tc.devRef main_v33) (ix2 r k)
    = if h : k.val < 33 then Cert.Reference4Ideal.Read.val_main_v19 (F := Ideal) (ix2 (pos r) (⟨k, h⟩ : Fin 33)) else 0 := by
  have h0 := U6_v25 m c
  rw [← U6_v26 m c]
  unfold U7
  generalize U6 m c = W at *
  simp only [hostOps0_8]
  entry_read
  refine Routing.gather_row gather_S8192x64_S16384x1_S16384x64_1_0_n_n_0_1_164 rfl rfl rfl rfl rfl _ _ r k (pos r) ?_ (by decide)
  pointwise
  exact word_keep _ _ (by omega) (h0 r)

theorem U7_v40 (c : Dev nD) (r : Fin 16384) : U7 m c (Proc.tc.devRef main_v40) (ix2 r (0 : Fin 1))
    = Cert.Reference4Ideal.Read.val_main_v1 (F := Ideal) (ix2 (pos r) (0 : Fin 1)) := by
  have h0 := U6_v25 m c
  rw [← U6_v1 m c]
  unfold U7
  generalize U6 m c = W at *
  simp only [hostOps0_8]
  entry_read
  refine Routing.gather_row gather_S8192x1_S16384x1_S16384x1_1_0_n_n_0_1_11 rfl rfl rfl rfl rfl _ _ r 0 (pos r) ?_ (by decide)
  pointwise
  exact word_keep _ _ (by omega) (h0 r)

theorem U8_v33 (c : Dev nD) (r : Fin 16384) (k : Fin 64) : U8 m c (Proc.tc.devRef main_v33) (ix2 r k)
    = if h : k.val < 33 then Cert.Reference4Ideal.Read.val_main_v19 (F := Ideal) (ix2 (pos r) (⟨k, h⟩ : Fin 33)) else 0 := by
  rw [← U7_v33 m c]
  unfold U8
  generalize U7 m c = W at *
  simp only [hostOps0_9]
  entry_read
  rfl

theorem U8_v40 (c : Dev nD) (r : Fin 16384) : U8 m c (Proc.tc.devRef main_v40) (ix2 r (0 : Fin 1))
    = Cert.Reference4Ideal.Read.val_main_v1 (F := Ideal) (ix2 (pos r) (0 : Fin 1)) := by
  rw [← U7_v40 m c]
  unfold U8
  generalize U7 m c = W at *
  simp only [hostOps0_9]
  entry_read
  rfl

theorem U8_v41 (c : Dev nD) : U8 m c (Proc.tc.devRef main_v41) = Cert.Reference4Ideal.Read.val_main_v45 (F := Ideal) := by
  unfold U8 U7
  generalize U6 m c = W at *
  simp only [hostOps0_9, hostOps0_8]
  entry_read
  simp only [StableHlo.TRef.toBuf, StableHlo.TRef.ofBuf, cast_eq]
  rfl

theorem V_v33 (c : Dev nD) (r : Fin 16384) (k : Fin 64) : V m c main_v33 (ix2 r k)
    = if h : k.val < 33 then Cert.Reference4Ideal.Read.val_main_v19 (F := Ideal) (ix2 (pos r) (⟨k, h⟩ : Fin 33)) else 0 := by
  rw [← U8_v33 m c, V_U8]
  generalize U8 m c = W at *
  simp only [hostOps0_10, hostOps0_11, hostOps0_12]
  entry_read
  rfl

theorem V_v40 (c : Dev nD) (r : Fin 16384) : V m c main_v40 (ix2 r (0 : Fin 1))
    = Cert.Reference4Ideal.Read.val_main_v1 (F := Ideal) (ix2 (pos r) (0 : Fin 1)) := by
  rw [← U8_v40 m c, V_U8]
  generalize U8 m c = W at *
  simp only [hostOps0_10, hostOps0_11, hostOps0_12]
  entry_read
  rfl

theorem V_v44 (c : Dev nD) (k : Fin 1024) : V m c main_v44 (ix2 (0 : Fin 1) k)
    = Cert.Reference4Ideal.Read.val_main_v46 (F := Ideal) (ix1 k) := by
  have h := U8_v41 m c
  rw [V_U8]
  generalize U8 m c = W at *
  simp only [hostOps0_10, hostOps0_11, hostOps0_12]
  entry_read
  unfold Cert.Reference4Ideal.Read.val_main_v46
  rw [← h]
  pointwise

theorem U8_arg (c : Dev nD) : U8 m c (Proc.tc.devRef main_arg0) = m ((c : Thread nD τ).loc main_arg0) ∧
    U8 m c (Proc.tc.devRef main_arg1) = m ((c : Thread nD τ).loc main_arg1) ∧
    U8 m c (Proc.tc.devRef main_arg2) = m ((c : Thread nD τ).loc main_arg2) ∧
    U8 m c (Proc.tc.devRef main_arg4) = m ((c : Thread nD τ).loc main_arg4) ∧
    U8 m c (Proc.tc.devRef main_arg5) = m ((c : Thread nD τ).loc main_arg5) ∧
    U8 m c (Proc.tc.devRef main_arg7) = m ((c : Thread nD τ).loc main_arg7) ∧
    U8 m c (Proc.tc.devRef main_arg8) = m ((c : Thread nD τ).loc main_arg8) := by
  unfold U8 U7 U6 U5 U4 U3 U2 U1
  simp only [hostOps0, hostOps0_1, hostOps0_2, hostOps0_3, hostOps0_4, hostOps0_5, hostOps0_6, hostOps0_7, hostOps0_8, hostOps0_9]
  refine ⟨?_, ?_, ?_, ?_, ?_, ?_, ?_⟩
  all_goals
    entry_read
    rfl

/-- The first layer's weights. -/
abbrev aW1 (c : Dev nD) : FVec Ideal S33x64 .f32 := m ((c : Thread nD τ).loc main_arg0)

theorem V_v43 (c : Dev nD) (k n : Fin 64) : V m c main_v43 (ix2 k n)
    = if h : k.val < 33 then aW1 m c (ix2 (⟨k, h⟩ : Fin 33) n) else 0 := by
  have h := (U8_arg m c).1
  rw [V_U8, aW1, ← h]
  generalize U8 m c = W at *
  simp only [hostOps0_10, hostOps0_11, hostOps0_12]
  entry_read
  simp only [StableHlo.TRef.toBuf, StableHlo.TRef.ofBuf, cast_eq]
  pointwise
  split
  · rfl
  · exact (congrArg (fun z : ℤ => ((z : ℝ) : EReal)) (by decide : (0#32 : BitVec 32).toInt = 0)).trans (by simp)

/-- A layer's bias or frequency, laid out as one row. -/
theorem V_rows (c : Dev nD) (n : Fin 64) :
    V m c main_v45 (ix2 (0 : Fin 1) n) = m ((c : Thread nD τ).loc main_arg1) (ix1 n) ∧
    V m c main_v46 (ix2 (0 : Fin 1) n) = m ((c : Thread nD τ).loc main_arg2) (ix1 n) ∧
    V m c main_v47 (ix2 (0 : Fin 1) n) = m ((c : Thread nD τ).loc main_arg4) (ix1 n) ∧
    V m c main_v48 (ix2 (0 : Fin 1) n) = m ((c : Thread nD τ).loc main_arg5) (ix1 n) ∧
    V m c main_v49 (ix2 (0 : Fin 1) n) = m ((c : Thread nD τ).loc main_arg7) (ix1 n) ∧
    V m c main_v50 (ix2 (0 : Fin 1) n) = m ((c : Thread nD τ).loc main_arg8) (ix1 n) := by
  obtain ⟨-, h1, h2, h4, h5, h7, h8⟩ := U8_arg m c
  rw [← h1, ← h2, ← h4, ← h5, ← h7, ← h8]
  refine ⟨?_, ?_, ?_, ?_, ?_, ?_⟩
  all_goals
    rw [V_U8]
    clear h1 h2 h4 h5 h7 h8
    generalize U8 m c = W
    simp only [hostOps0_10, hostOps0_11, hostOps0_12]
    entry_read
    pointwise

end Cert.Kernel4Ideal.Fm

end
-- ==== Proof.FmSplit.lean ====
/- A product of two matrices whose factors are cut into a leading and a remaining part: over the extended reals the
   remaining part of a number is zero, that of an infinity is not.  What a sine makes of such a product, and the
   product itself short of +∞, are those of the whole product. -/
module

public import Idealize.ShloMosaic.Lib.Pointwise
public import Idealize.ShloMosaic.Lib.Claim

@[expose] public section

noncomputable section

namespace Cert.Filter

open Idealize.ShloMosaic

/-- A real number among the extended ones. -/
def IsR (x : EReal) : Prop := ∃ r : ℝ, x = (r : EReal)

theorem isR_of_add (x y : EReal) (h : IsR (x + y)) : IsR x ∧ IsR y := by
  obtain ⟨r, h⟩ := h
  induction x with
  | bot => rw [EReal.bot_add] at h; exact absurd h.symm (EReal.coe_ne_bot r)
  | top =>
    induction y with
    | bot => rw [EReal.add_bot] at h; exact absurd h.symm (EReal.coe_ne_bot r)
    | top => exact absurd h.symm (EReal.coe_ne_top r)
    | coe b => exact absurd h.symm (EReal.coe_ne_top r)
  | coe a =>
    induction y with
    | bot => rw [EReal.add_bot] at h; exact absurd h.symm (EReal.coe_ne_bot r)
    | top => exact absurd h.symm (EReal.coe_ne_top r)
    | coe b => exact ⟨⟨a, rfl⟩, ⟨b, rfl⟩⟩

theorem isR_of_sum {ι : Type} (s : Finset ι) (f : ι → EReal) (h : IsR (∑ k ∈ s, f k)) : ∀ k ∈ s, IsR (f k) := by
  classical
  induction s using Finset.induction_on with
  | empty => intro k hk; exact absurd hk (Finset.notMem_empty k)
  | insert a s ha ih =>
    rw [Finset.sum_insert ha] at h
    obtain ⟨h1, h2⟩ := isR_of_add _ _ h
    intro k hk
    rcases Finset.mem_insert.1 hk with rfl | hk
    · exact h1
    · exact ih h2 k hk

/-- A factor of a real product is real or meets a zero: what is left of it contributes nothing. -/
theorem rest_mul (a b : EReal) (h : IsR (a * b)) : (a - a) * b = 0 := by
  by_cases hb : b = 0
  · rw [hb, mul_zero]
  obtain ⟨r, h⟩ := h
  have hs : 0 < b ∨ b < 0 := (lt_or_gt_of_ne hb).symm
  induction a with
  | bot =>
    rcases hs with hs | hs
    · rw [EReal.bot_mul_of_pos hs] at h; exact absurd h.symm (EReal.coe_ne_bot r)
    · rw [EReal.bot_mul_of_neg hs] at h; exact absurd h.symm (EReal.coe_ne_top r)
  | top =>
    rcases hs with hs | hs
    · rw [EReal.top_mul_of_pos hs] at h; exact absurd h.symm (EReal.coe_ne_top r)
    · rw [EReal.top_mul_of_neg hs] at h; exact absurd h.symm (EReal.coe_ne_bot r)
  | coe a => rw [← EReal.coe_sub, sub_self, EReal.coe_zero, zero_mul]

/-- The three products of the cut factors. -/
def dots {n : ℕ} (a b : Fin n → EReal) : EReal :=
  (∑ k, a k * b k) + (∑ k, (a k - a k) * b k) + ∑ k, a k * (b k - b k)

theorem dots_cases {n : ℕ} (a b : Fin n → EReal) :
    dots a b = ∑ k, a k * b k ∨ (¬ IsR (dots a b) ∧ ¬ IsR (∑ k, a k * b k)) := by
  by_cases h : ∀ k, IsR (a k * b k)
  · refine Or.inl ?_
    unfold dots
    have h1 : ∑ k, (a k - a k) * b k = 0 := Finset.sum_eq_zero fun k _ => rest_mul (a k) (b k) (h k)
    have h2 : ∑ k, a k * (b k - b k) = 0 := Finset.sum_eq_zero fun k _ => by
      rw [mul_comm]; exact rest_mul (b k) (a k) (by rw [mul_comm]; exact h k)
    rw [h1, h2, add_zero, add_zero]
  · have h2 : ¬ IsR (∑ k, a k * b k) := fun hs => h fun k => isR_of_sum _ _ hs k (Finset.mem_univ k)
    exact Or.inr ⟨fun hs => h2 (isR_of_add _ _ (isR_of_add _ _ hs).1).1, h2⟩

theorem sin_of_not (x : EReal) (h : ¬ IsR x) : Ideal.sin x = ⊥ := by
  induction x with
  | bot => rfl
  | top => rfl
  | coe r => exact absurd ⟨r, rfl⟩ h

/-- The sine of a scaled and shifted infinity does not depend on which it is. -/
theorem sin_inf (f b x y : EReal) (hx : ¬ IsR x) (hy : ¬ IsR y) : Ideal.sin (f * (x + b)) = Ideal.sin (f * (y + b)) := by
  by_cases hf : f = 0
  · rw [hf, zero_mul, zero_mul]
  have key : ∀ z, ¬ IsR z → ¬ IsR (f * (z + b)) := by
    intro z hz h
    have hzb : ¬ IsR (z + b) := fun h => hz (isR_of_add _ _ h).1
    obtain ⟨r, h⟩ := h
    have hs : 0 < f ∨ f < 0 := (lt_or_gt_of_ne hf).symm
    generalize z + b = w at h hzb
    induction w with
    | bot =>
      rcases hs with hs | hs
      · rw [EReal.mul_bot_of_pos hs] at h; exact absurd h.symm (EReal.coe_ne_bot r)
      · rw [EReal.mul_bot_of_neg hs] at h; exact absurd h.symm (EReal.coe_ne_top r)
    | top =>
      rcases hs with hs | hs
      · rw [EReal.mul_top_of_pos hs] at h; exact absurd h.symm (EReal.coe_ne_top r)
      · rw [EReal.mul_top_of_neg hs] at h; exact absurd h.symm (EReal.coe_ne_bot r)
    | coe w => exact hzb ⟨w, rfl⟩
  rw [sin_of_not _ (key x hx), sin_of_not _ (key y hy)]

/-- A hidden layer with the cut product is the layer with the whole product. -/
theorem sin_dots {n : ℕ} (f b : EReal) (x w : Fin n → EReal) :
    Ideal.sin (f * (dots x w + b)) = Ideal.sin (f * ((∑ k, x k * w k) + b)) := by
  rcases dots_cases x w with h | ⟨h1, h2⟩
  · rw [h]
  · exact sin_inf f b _ _ h1 h2

theorem sin_ne_top (x : EReal) : Ideal.sin x ≠ ⊤ := by
  induction x with
  | bot => exact bot_ne_top
  | top => exact bot_ne_top
  | coe r => exact EReal.coe_ne_top _

theorem bot_sub_bot : (⊥ : EReal) - ⊥ = ⊥ := by rw [sub_eq_add_neg, EReal.bot_add]

/-- What is left of a number short of +∞ adds nothing to its product. -/
theorem add_rest (a b : EReal) (ha : a ≠ ⊤) : a * b + (a - a) * b = a * b := by
  induction a with
  | bot =>
    rw [bot_sub_bot]
    rcases lt_trichotomy b 0 with h | h | h
    · rw [EReal.bot_mul_of_neg h, EReal.top_add_top]
    · rw [h, mul_zero, add_zero]
    · rw [EReal.bot_mul_of_pos h, EReal.bot_add]
  | top => exact absurd rfl ha
  | coe a => rw [← EReal.coe_sub, sub_self, EReal.coe_zero, zero_mul, add_zero]

/-- For rows and weights short of +∞ the cut product is the whole one. -/
theorem dots_below {n : ℕ} (x w : Fin n → EReal) (hx : ∀ k, x k ≠ ⊤) (hw : ∀ k, w k ≠ ⊤) : dots x w = ∑ k, x k * w k := by
  unfold dots
  rw [← Finset.sum_add_distrib, ← Finset.sum_add_distrib]
  refine Finset.sum_congr rfl fun k _ => ?_
  rw [add_rest (x k) (w k) (hx k), mul_comm (x k) (w k - w k), mul_comm (x k) (w k)]
  exact add_rest (w k) (x k) (hw k)

end Cert.Filter

end
-- ==== Proof.FmBody.lean ====
/- The filter's network at a block of rows: each layer's row is the sine of the frequency times the shifted product, and the
   value is the last product times the decay, except at the lag that is left empty. -/
module

public import proofs.«01_k».proof.Proof.Gen.Kernel4Ideal.Value
public import proofs.«01_k».proof.Proof.FmSplit
public import Idealize.ShloMosaic.Lib.Pipeline.ValueKit
public import Idealize.ShloMosaic.Lib.Pointwise

@[expose] public section

set_option maxRecDepth 16384

noncomputable section

namespace Cert.Kernel4Ideal.Fm

open Idealize.ShloMosaic Idealize.ShloMosaic.TcCoe Idealize.SL.Sem
open Cert.Kernel4Ideal Cert.Kernel4Ideal.Gen Cert.Filter

/-- A layer of one row `x`, entry `n`. -/
def lay (x : Fin 64 → EReal) (w : FVec Ideal S64x64 .f32) (b f : FVec Ideal S1x64 .f32) (n : Fin 64) : EReal :=
  Ideal.sin (f (ix2 (0 : Fin 1) n) * ((∑ k : Fin 64, x k * w (ix2 k n)) + b (ix2 (0 : Fin 1) n)))

theorem layer1 (f : FVec Ideal S1x64 .f32) (x : FVec Ideal S1024x64 .f32) (w : FVec Ideal S64x64 .f32) (b : FVec Ideal S1x64 .f32)
    (r : Fin 1024) (n : Fin 64) : k0_pay4 (F := Ideal) f x w b (ix2 r n) = lay (fun k => x (ix2 r k)) w b f n := by
  refine Eq.trans ?_ (sin_dots (f (ix2 (0 : Fin 1) n)) (b (ix2 (0 : Fin 1) n)) (fun k : Fin 64 => x (ix2 r k)) fun k => w (ix2 k n))
  pointwise [k0_pay4, dots]

variable (x0 : FVec Ideal S1024x64 .f32) (x1 : FVec Ideal S1024x1 .f32) (x2 : FVec Ideal S1x1024 .f32) (x3 : FVec Ideal S64x64 .f32)
  (x4 x5 : FVec Ideal S1x64 .f32) (x6 : FVec Ideal S64x64 .f32) (x7 x8 : FVec Ideal S1x64 .f32) (x9 : FVec Ideal S64x64 .f32)
  (x10 x11 : FVec Ideal S1x64 .f32) (x12 : FVec Ideal S64x1024 .f32)

/-- The three layers at a block's rows. -/
def h1 (r : Fin 1024) (n : Fin 64) : EReal := lay (fun k => x0 (ix2 r k)) x3 x4 x5 n
def h2 (r : Fin 1024) (n : Fin 64) : EReal := lay (h1 x0 x3 x4 x5 r) x6 x7 x8 n
def h3 (r : Fin 1024) (n : Fin 64) : EReal := lay (h2 x0 x3 x4 x5 x6 x7 x8 r) x9 x10 x11 n

theorem layer2 (r : Fin 1024) (n : Fin 64) :
    Ideal.sin (x8 (ix2 (0 : Fin 1) n) * (dots (fun k : Fin 64 => h1 x0 x3 x4 x5 r k) (fun k => x6 (ix2 k n)) + x7 (ix2 (0 : Fin 1) n)))
      = h2 x0 x3 x4 x5 x6 x7 x8 r n := sin_dots _ _ _ _

theorem layer3 (r : Fin 1024) (n : Fin 64) :
    Ideal.sin (x11 (ix2 (0 : Fin 1) n) * (dots (fun k : Fin 64 => h2 x0 x3 x4 x5 x6 x7 x8 r k) (fun k => x9 (ix2 k n)) + x10 (ix2 (0 : Fin 1) n)))
      = h3 x0 x3 x4 x5 x6 x7 x8 x9 x10 x11 r n := sin_dots _ _ _ _

theorem layers (r : Fin 1024) (n : Fin 64) :
    k0_pay10 (F := Ideal) (k0_pay5 x8) (k0_pay6 x5 x0 x3 x4) (k0_pay8 x6) (k0_pay9 x5 x0 x3 x4 x6) (constant S1024x64 .f32 0x00000000#32)
      x7 x11 x9 x10 (ix2 r n) = h3 x0 x3 x4 x5 x6 x7 x8 x9 x10 x11 r n := by
  rw [← layer3]
  simp only [← layer2]
  simp only [h1, ← layer1]
  pointwise [k0_pay10, k0_pay9, k0_pay8, k0_pay7, k0_pay6, k0_pay5, dots]

/-- The value at row `r` of the block, channel `n`. -/
def val (i : grid0.Coords) (r : Fin 1024) (n : Fin 1024) : EReal :=
  if r.val + (8192 * (i 0).val + 1024 * (i 1).val) = 8192 then 0
  else dots (fun k : Fin 64 => h3 x0 x3 x4 x5 x6 x7 x8 x9 x10 x11 r k) (fun k => x12 (ix2 k n))
    * Ideal.exp ((0 - x1 (ix2 r (0 : Fin 1))) * x2 (ix2 (0 : Fin 1) n))

theorem word_eq (r a b : ℕ) (hr : r < 1024) (ha : a < 2) (hb : b < 8) :
    IntOp.cmpi CmpIPredicate.eq (IntOp.addi (BitVec.ofNat 32 r)
      (Scalar.addi (Scalar.muli (BitVec.ofNat 32 a) 8192#32) (Scalar.muli (BitVec.ofNat 32 b) 1024#32))) 8192#32
      = if r + (8192 * a + 1024 * b) = 8192 then 1#1 else 0#1 := by
  have h : IntOp.addi (BitVec.ofNat 32 r)
      (Scalar.addi (Scalar.muli (BitVec.ofNat 32 a) 8192#32) (Scalar.muli (BitVec.ofNat 32 b) 1024#32))
      = BitVec.ofNat 32 (r + (8192 * a + 1024 * b)) := by
    show BitVec.ofNat 32 r + (BitVec.ofNat 32 a * BitVec.ofNat 32 8192 + BitVec.ofNat 32 b * BitVec.ofNat 32 1024) = _
    rw [← BitVec.ofNat_mul, ← BitVec.ofNat_mul, ← BitVec.ofNat_add, ← BitVec.ofNat_add, Nat.mul_comm a, Nat.mul_comm b]
  rw [h]
  split
  · rename_i e; rw [e]; rfl
  · rename_i e
    have hne : BitVec.ofNat 32 (r + (8192 * a + 1024 * b)) ≠ 8192#32 := fun q => e (by
      have := congrArg BitVec.toNat q
      simp only [BitVec.toNat_ofNat] at this
      omega)
    show BitVec.ofBool (BitVec.ofNat 32 (r + (8192 * a + 1024 * b)) == 8192#32) = 0#1
    rw [beq_false_of_ne hne]; rfl

theorem value (i : grid0.Coords) (r : Fin 1024) (n : Fin 1024) :
    k0_pay15 (F := Ideal) (BitVec.ofNat 32 (i 0).val) (BitVec.ofNat 32 (i 1).val)
      (k0_pay11 (k0_pay5 x8) (k0_pay6 x5 x0 x3 x4) (k0_pay8 x6) (k0_pay9 x5 x0 x3 x4 x6) (constant S1024x64 .f32 0x00000000#32) x7 x11 x9 x10)
      (k0_pay13 x12)
      (k0_pay14 (k0_pay5 x8) (k0_pay6 x5 x0 x3 x4) (k0_pay8 x6) (k0_pay9 x5 x0 x3 x4 x6) (constant S1024x64 .f32 0x00000000#32) x7 x11 x9 x10 x12)
      (constant S1024x1024 .f32 0x00000000#32) x1 x2 (ix2 r n) = val x0 x1 x2 x3 x4 x5 x6 x7 x8 x9 x10 x11 x12 i r n := by
  unfold val
  simp only [← layers]
  pointwise [k0_pay15, k0_pay14, k0_pay13, k0_pay12, k0_pay11, dots]
  rw [word_eq r.val (i 0).val (i 1).val (by omega) (i 0).isLt (i 1).isLt]
  split
  · rfl
  · rfl

section Stores
variable (a0 a1 : BitVec 32) (v73 : FVec Ideal S1024x64 .bf16) (v80 : FVec Ideal S64x1024 .bf16) (v83 z : FVec Ideal S1024x1024 .f32)
  (v86 : FVec Ideal S1024x1 .f32) (v90 : FVec Ideal S1x1024 .f32)

/-- The four stores hold the value's columns, 256 each. -/
theorem store0 (r : Fin 1024) (q : Fin 256) : k0_pay16 (F := Ideal) a0 a1 v73 v80 v83 z v86 v90 (ix3 (0 : Fin 1) r q)
    = k0_pay15 a0 a1 v73 v80 v83 z v86 v90 (ix2 r (⟨q, by omega⟩ : Fin 1024)) := by
  unfold k0_pay16
  generalize k0_pay15 a0 a1 v73 v80 v83 z v86 v90 = v
  pointwise

theorem store1 (r : Fin 1024) (q : Fin 256) : k0_pay17 (F := Ideal) a0 a1 v73 v80 v83 z v86 v90 (ix3 (0 : Fin 1) r q)
    = k0_pay15 a0 a1 v73 v80 v83 z v86 v90 (ix2 r (⟨256 + q, by omega⟩ : Fin 1024)) := by
  unfold k0_pay17
  generalize k0_pay15 a0 a1 v73 v80 v83 z v86 v90 = v
  pointwise

theorem store2 (r : Fin 1024) (q : Fin 256) : k0_pay18 (F := Ideal) a0 a1 v73 v80 v83 z v86 v90 (ix3 (0 : Fin 1) r q)
    = k0_pay15 a0 a1 v73 v80 v83 z v86 v90 (ix2 r (⟨512 + q, by omega⟩ : Fin 1024)) := by
  unfold k0_pay18
  generalize k0_pay15 a0 a1 v73 v80 v83 z v86 v90 = v
  pointwise

theorem store3 (r : Fin 1024) (q : Fin 256) : k0_pay1 (F := Ideal) (k0_pay19 a0 a1 v73 v80 v83 z v86 v90) (ix3 (0 : Fin 1) r q)
    = k0_pay15 a0 a1 v73 v80 v83 z v86 v90 (ix2 r (⟨768 + q, by omega⟩ : Fin 1024)) := by
  unfold k0_pay1 k0_pay19
  generalize k0_pay15 a0 a1 v73 v80 v83 z v86 v90 = v
  pointwise

/-- The sum of the absolute values down a column, added to what was there. -/
theorem addAbs (v : FVec Ideal S1024x1024 .f32) (p : FVec Ideal S1x1024 .f32) (n : Fin 1024) :
    k0_pay3 (F := Ideal) v p (ix2 (0 : Fin 1) n) = p (ix2 (0 : Fin 1) n) + ∑ r : Fin 1024, max (v (ix2 r n)) (-v (ix2 r n)) := by
  pointwise [k0_pay3]
  rfl

theorem zeros (j : S1x1024.Idx) : k0_pay2 (F := Ideal) j = 0 := by
  pointwise [k0_pay2]

end Stores

variable (m : (ℓ : Loc nD τ sig) → Buf (Elt Ideal) ℓ)

/-- The value of point `t`, over the point's blocks. -/
abbrev pval (c : Dev nD) (t : Fin cfg0.N) (r n : Fin 1024) : EReal :=
  val (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (grid0.coords t) r n

theorem first_A (c : Dev nD) (t : Fin cfg0.N) (h0 : t.val % 16 = 0) (ct : Fin 4) (r : Fin 1024) (q : Fin 256) :
    (outsAt0 m c t.val t.isLt).1 (ix3 ct r q) = pval m c t r ⟨ct * 256 + q, by omega⟩ := by
  rw [outsAt0_A m c t h0]
  frame_out
  canon_tiles x h
  all_goals
    idx_vars x
    obtain rfl : x0 = 0 := Subsingleton.elim _ _
  case piece0 =>
    rw [store3, value]
    exact congrArg₂ (pval m c t) (Fin.ext (by simp at h1 ⊢; omega)) (Fin.ext (by simp at h0 h2 ⊢; omega))
  case piece1 =>
    rw [store2, value]
    exact congrArg₂ (pval m c t) (Fin.ext (by simp at h1 ⊢; omega)) (Fin.ext (by simp at h0 h2 ⊢; omega))
  case piece2 =>
    rw [store1, value]
    exact congrArg₂ (pval m c t) (Fin.ext (by simp at h1 ⊢; omega)) (Fin.ext (by simp at h0 h2 ⊢; omega))
  case piece3 =>
    rw [store0, value]
    exact congrArg₂ (pval m c t) (Fin.ext (by simp at h1 ⊢; omega)) (Fin.ext (by simp at h0 h2 ⊢; omega))

theorem first_B (c : Dev nD) (t : Fin cfg0.N) (h0 : ¬ t.val % 16 = 0) (ct : Fin 4) (r : Fin 1024) (q : Fin 256) :
    (outsAt0 m c t.val t.isLt).1 (ix3 ct r q) = pval m c t r ⟨ct * 256 + q, by omega⟩ := by
  rw [outsAt0_B m c t h0]
  frame_out
  canon_tiles x h
  all_goals
    idx_vars x
    obtain rfl : x0 = 0 := Subsingleton.elim _ _
  case piece0 =>
    rw [store3, value]
    exact congrArg₂ (pval m c t) (Fin.ext (by simp at h1 ⊢; omega)) (Fin.ext (by simp at h0 h2 ⊢; omega))
  case piece1 =>
    rw [store2, value]
    exact congrArg₂ (pval m c t) (Fin.ext (by simp at h1 ⊢; omega)) (Fin.ext (by simp at h0 h2 ⊢; omega))
  case piece2 =>
    rw [store1, value]
    exact congrArg₂ (pval m c t) (Fin.ext (by simp at h1 ⊢; omega)) (Fin.ext (by simp at h0 h2 ⊢; omega))
  case piece3 =>
    rw [store0, value]
    exact congrArg₂ (pval m c t) (Fin.ext (by simp at h1 ⊢; omega)) (Fin.ext (by simp at h0 h2 ⊢; omega))

/-- The first output's block after a point. -/
theorem first (c : Dev nD) (t : Fin cfg0.N) (ct : Fin 4) (r : Fin 1024) (q : Fin 256) :
    (outsAt0 m c t.val t.isLt).1 (ix3 ct r q) = pval m c t r ⟨ct * 256 + q, by omega⟩ := by
  by_cases h0 : t.val % 16 = 0
  · exact first_A m c t h0 ct r q
  · exact first_B m c t h0 ct r q

/-- A point's share of the second output. -/
def share (c : Dev nD) (t : Fin cfg0.N) (j : S1x1024.Idx) : EReal :=
  ∑ r : Fin 1024, max (pval m c t r (j 1)) (-pval m c t r (j 1))

/-- The second output after the last point. -/
theorem second (c : Dev nD) (s : Fin cfg0.N) (hs : s.val = 15) (j : S1x1024.Idx) :
    (outsAt0 m c s.val s.isLt).2 j = 0 + ∑ t : Fin cfg0.N, share m c t j := by
  have hN : cfg0.N = 16 := N_0
  refine Pipeline.eq_sum_fin_of_reset_step_apply_last (fun n h => (outsAt0 m c n h).2) 16 (fun _ => (0 : EReal)) (share m c)
    (fun t h j => ?_) (fun t h j => ?_) (le_of_eq N_0) s (by omega) j
  · rw [outsAt0_A m c t h]
    frame_out
    idx_vars j
    obtain rfl : j0 = 0 := Subsingleton.elim _ _
    rw [addAbs, zeros]
    simp only [value]
    rfl
  · rw [outsAt0_B m c t h]
    frame_out
    idx_vars j
    obtain rfl : j0 = 0 := Subsingleton.elim _ _
    rw [addAbs]
    simp only [value]
    rfl

end Cert.Kernel4Ideal.Fm

end
-- ==== Proof.FmBlocks.lean ====
/- What the windows hold at a grid point. -/
module

public import proofs.«01_k».proof.Proof.FmHost
public import proofs.«01_k».proof.Proof.FmBody

@[expose] public section

set_option maxRecDepth 16384

noncomputable section

namespace Cert.Kernel4Ideal.Fm

open Idealize.ShloMosaic Idealize.ShloMosaic.TcCoe Idealize.SL.Sem
open Cert.Kernel4Ideal Cert.Kernel4Ideal.Gen Cert.Filter

variable (m : (ℓ : Loc nD τ sig) → Buf (Elt Ideal) ℓ)

/-- The block every window holds at grid point `t`. -/
theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, t.val / 8] ∧ win0_13.index t = ![0, t.val, 0] ∧ win0_14.index t = ![0, 0] :=
  (by decide +kernel : ∀ t : Fin grid0.N, _)

theorem co0 (t : Fin cfg0.N) : (grid0.coords t 0).val = t.val / 8 :=
  (by decide +kernel : ∀ t : Fin grid0.N, (grid0.coords t 0).val = t.val / 8) t
theorem co1 (t : Fin cfg0.N) : (grid0.coords t 1).val = t.val % 8 :=
  (by decide +kernel : ∀ t : Fin grid0.N, (grid0.coords t 1).val = t.val % 8) t

/-- The lag row of row `r` of point `t`'s blocks, and the half of the last weights the point reads. -/
def lag (t : Fin cfg0.N) (r : Fin 1024) : Fin 16384 :=
  ⟨t.val * 1024 + r.val, by have := lt_of_lt_of_eq t.isLt (show cfg0.N = 16 from N_0); omega⟩
def half (t : Fin cfg0.N) (n : Fin 1024) : Fin 2048 :=
  ⟨t.val / 8 * 1024 + n.val, by have := lt_of_lt_of_eq t.isLt (show cfg0.N = 16 from N_0); omega⟩

theorem blk0 (c : Dev nD) (t : Fin cfg0.N) (r : Fin 1024) (k : Fin 64) : iblk m c 0 t (ix2 r k) = V m c main_v33 (ix2 (lag t r) k) := by
  blk_simp [iblk, idx t]
  generalize V m c main_v33 = y
  blk_ext [idx t] <;> simp only [lag, Nat.add_zero]
theorem blk1 (c : Dev nD) (t : Fin cfg0.N) (r : Fin 1024) :
    iblk m c 1 t (ix2 r (0 : Fin 1)) = V m c main_v40 (ix2 (lag t r) (0 : Fin 1)) := by
  blk_simp [iblk, idx t]
  generalize V m c main_v40 = y
  blk_ext [idx t] <;> simp only [lag, Nat.add_zero]
theorem blk2 (c : Dev nD) (t : Fin cfg0.N) (i) : iblk m c 2 t i = V m c main_v44 i := by
  blk_simp [iblk, idx t]
  blk_ext [idx t]
theorem blk3 (c : Dev nD) (t : Fin cfg0.N) (i) : iblk m c 3 t i = V m c main_v43 i := by
  blk_simp [iblk, idx t]
  blk_ext [idx t]
theorem blk4 (c : Dev nD) (t : Fin cfg0.N) (i) : iblk m c 4 t i = V m c main_v45 i := by
  blk_simp [iblk, idx t]
  blk_ext [idx t]
theorem blk5 (c : Dev nD) (t : Fin cfg0.N) (i) : iblk m c 5 t i = V m c main_v46 i := by
  blk_simp [iblk, idx t]
  blk_ext [idx t]
theorem blk6 (c : Dev nD) (t : Fin cfg0.N) (i) : iblk m c 6 t i = V m c main_arg3 i := by
  blk_simp [iblk, idx t]
  blk_ext [idx t]
theorem blk7 (c : Dev nD) (t : Fin cfg0.N) (i) : iblk m c 7 t i = V m c main_v47 i := by
  blk_simp [iblk, idx t]
  blk_ext [idx t]
theorem blk8 (c : Dev nD) (t : Fin cfg0.N) (i) : iblk m c 8 t i = V m c main_v48 i := by
  blk_simp [iblk, idx t]
  blk_ext [idx t]
theorem blk9 (c : Dev nD) (t : Fin cfg0.N) (i) : iblk m c 9 t i = V m c main_arg6 i := by
  blk_simp [iblk, idx t]
  blk_ext [idx t]
theorem blk10 (c : Dev nD) (t : Fin cfg0.N) (i) : iblk m c 10 t i = V m c main_v49 i := by
  blk_simp [iblk, idx t]
  blk_ext [idx t]
theorem blk11 (c : Dev nD) (t : Fin cfg0.N) (i) : iblk m c 11 t i = V m c main_v50 i := by
  blk_simp [iblk, idx t]
  blk_ext [idx t]
theorem blk12 (c : Dev nD) (t : Fin cfg0.N) (k : Fin 64) (n : Fin 1024) :
    iblk m c 12 t (ix2 k n) = V m c main_arg9 (ix2 k (half t n)) := by
  blk_simp [iblk, idx t]
  blk_ext [idx t] <;> simp only [half, Nat.add_zero]

end Cert.Kernel4Ideal.Fm

end
-- ==== Proof.FmRef.lean ====
/- The reference's filters at an index: three layers of the network at a time's features, the last product, the decay, and the
   layout of the two-sided filter over the lags. -/
module

public import proofs.«01_k».proof.Proof.Gen.Reference4Ideal.Read
public import proofs.«01_k».proof.Proof.FmSplit
public import Idealize.ShloMosaic.Lib.Pipeline.ValueKit
public import Idealize.ShloMosaic.Lib.Pointwise

@[expose] public section

set_option maxRecDepth 16384

noncomputable section

namespace Cert.Reference4Ideal.Fm

open Idealize.ShloMosaic Idealize.ShloMosaic.TcCoe Idealize.SL.Sem
open Cert.Reference4Ideal Cert.Reference4Ideal.Gen Cert.Reference4Ideal.Read Cert.Filter

variable (x0 : FVec Ideal S33x64 .f32) (x1 x2 : FVec Ideal S64 .f32) (x3 : FVec Ideal S64x64 .f32) (x4 x5 : FVec Ideal S64 .f32)
  (x6 : FVec Ideal S64x64 .f32) (x7 x8 : FVec Ideal S64 .f32) (x9 : FVec Ideal S64x2048 .f32)

theorem layer1 (l : Fin 8192) (n : Fin 64) : val_main_v27 (F := Ideal) x0 x1 x2 (ix2 l n)
    = Ideal.sin (x2 (ix1 n) * ((∑ k : Fin 33, val_main_v19 (F := Ideal) (ix2 l k) * x0 (ix2 k n)) + x1 (ix1 n))) := by
  unfold val_main_v27 val_main_v26 val_main_v25 val_main_v24 val_main_v23 val_main_v22 val_main_v21 val_main_v20
  generalize val_main_v19 (F := Ideal) = z
  pointwise

theorem layer2 (l : Fin 8192) (n : Fin 64) : val_main_v35 (F := Ideal) x0 x1 x2 x3 x4 x5 (ix2 l n)
    = Ideal.sin (x5 (ix1 n) * ((∑ k : Fin 64, val_main_v27 (F := Ideal) x0 x1 x2 (ix2 l k) * x3 (ix2 k n)) + x4 (ix1 n))) := by
  unfold val_main_v35 val_main_v34 val_main_v33 val_main_v32 val_main_v31 val_main_v30 val_main_v29 val_main_v28
  generalize val_main_v27 (F := Ideal) x0 x1 x2 = z
  pointwise

theorem layer3 (l : Fin 8192) (n : Fin 64) : val_main_v43 (F := Ideal) x0 x1 x2 x3 x4 x5 x6 x7 x8 (ix2 l n)
    = Ideal.sin (x8 (ix1 n) * ((∑ k : Fin 64, val_main_v35 (F := Ideal) x0 x1 x2 x3 x4 x5 (ix2 l k) * x6 (ix2 k n)) + x7 (ix1 n))) := by
  unfold val_main_v43 val_main_v42 val_main_v41 val_main_v40 val_main_v39 val_main_v38 val_main_v37 val_main_v36
  generalize val_main_v35 (F := Ideal) x0 x1 x2 x3 x4 x5 = z
  pointwise

/-- The decay at time `l`, channel `n`. -/
def decay (l : Fin 8192) (n : Fin 1024) : EReal :=
  Ideal.exp (-val_main_v1 (F := Ideal) (ix2 l (0 : Fin 1)) * val_main_v46 (F := Ideal) (ix1 n))

theorem decay_at (l : Fin 8192) (n : Fin 1024) : val_main_v52 (F := Ideal) (ix2 l n) = decay l n := by
  unfold val_main_v52 val_main_v51 val_main_v50 val_main_v49 val_main_v48 val_main_v47 decay
  generalize val_main_v1 (F := Ideal) = s
  generalize val_main_v46 (F := Ideal) = d
  pointwise

theorem fwd (l : Fin 8192) (n : Fin 1024) : val_main_v54 (F := Ideal) x0 x1 x2 x3 x4 x5 x6 x7 x8 x9 (ix2 l n)
    = (∑ k : Fin 64, val_main_v43 (F := Ideal) x0 x1 x2 x3 x4 x5 x6 x7 x8 (ix2 l k) * x9 (ix2 k (⟨n, by omega⟩ : Fin 2048))) * decay l n := by
  rw [← decay_at]
  unfold val_main_v54 val_main_v53 val_main_v44
  generalize val_main_v43 (F := Ideal) x0 x1 x2 x3 x4 x5 x6 x7 x8 = z
  generalize val_main_v52 (F := Ideal) = d
  pointwise

theorem bwd (l : Fin 8192) (n : Fin 1024) : val_main_v56 (F := Ideal) x0 x1 x2 x3 x4 x5 x6 x7 x8 x9 (ix2 l n)
    = (∑ k : Fin 64, val_main_v43 (F := Ideal) x0 x1 x2 x3 x4 x5 x6 x7 x8 (ix2 l k) * x9 (ix2 k (⟨1024 + n, by omega⟩ : Fin 2048))) * decay l n := by
  rw [← decay_at]
  unfold val_main_v56 val_main_v55 val_main_v44
  generalize val_main_v43 (F := Ideal) x0 x1 x2 x3 x4 x5 x6 x7 x8 = z
  generalize val_main_v52 (F := Ideal) = d
  pointwise

/-- The two-sided filter at lag row `R`: the forward one, an empty row, the backward one from its last row down. -/
def two (R : Fin 16384) (n : Fin 1024) : EReal :=
  if h : R.val < 8192 then val_main_v54 (F := Ideal) x0 x1 x2 x3 x4 x5 x6 x7 x8 x9 (ix2 (⟨R, h⟩ : Fin 8192) n)
  else if h' : R.val = 8192 then 0
  else val_main_v56 (F := Ideal) x0 x1 x2 x3 x4 x5 x6 x7 x8 x9 (ix2 (⟨16384 - R, by omega⟩ : Fin 8192) n)

theorem back_row (k : Fin 8191) (n : Fin 1024) : val_main_v65 (F := Ideal) x0 x1 x2 x3 x4 x5 x6 x7 x8 x9 (ix2 k n)
    = val_main_v56 (F := Ideal) x0 x1 x2 x3 x4 x5 x6 x7 x8 x9 (ix2 (⟨8191 - k, by omega⟩ : Fin 8192) n) := by
  have e : val_main_v65 (F := Ideal) x0 x1 x2 x3 x4 x5 x6 x7 x8 x9 (ix2 k n)
      = val_main_v64 (F := Ideal) x0 x1 x2 x3 x4 x5 x6 x7 x8 x9 (ix2 k.rev n) := by
    unfold val_main_v65
    generalize val_main_v64 (F := Ideal) x0 x1 x2 x3 x4 x5 x6 x7 x8 x9 = y
    refine congrArg y (funext fun a => ?_)
    match a with
    | ⟨0, _⟩ => rfl
    | ⟨1, _⟩ => rfl
  rw [e, val_main_v64_apply]
  generalize val_main_v56 (F := Ideal) x0 x1 x2 x3 x4 x5 x6 x7 x8 x9 = y
  refine congrArg y (funext fun a => Fin.ext ?_)
  match a with
  | ⟨0, _⟩ => show 1 + k.rev.val = 8191 - k.val; rw [Fin.val_rev]; omega
  | ⟨1, _⟩ => rfl

theorem joined (R : Fin 16384) (n : Fin 1024) : val_main_v66 (F := Ideal) x0 x1 x2 x3 x4 x5 x6 x7 x8 x9 (ix2 R n)
    = two x0 x1 x2 x3 x4 x5 x6 x7 x8 x9 R n := by
  have hb := back_row x0 x1 x2 x3 x4 x5 x6 x7 x8 x9
  have hz : ∀ i, val_main_v63 (F := Ideal) i = 0 := fun i => by
    rw [val_main_v63_apply, val_main_cst_8_apply]; exact Ideal.ofBits_zero_f32
  unfold val_main_v66 two
  generalize val_main_v54 (F := Ideal) x0 x1 x2 x3 x4 x5 x6 x7 x8 x9 = f
  generalize val_main_v56 (F := Ideal) x0 x1 x2 x3 x4 x5 x6 x7 x8 x9 = g at hb ⊢
  generalize val_main_v65 (F := Ideal) x0 x1 x2 x3 x4 x5 x6 x7 x8 x9 = b at hb ⊢
  generalize val_main_v63 (F := Ideal) = z at hz ⊢
  let xs : List ((s : Shape) × (s.Idx → EReal)) := [⟨S8192x1024, f⟩, ⟨S1x1024, z⟩, ⟨S8191x1024, b⟩]
  by_cases h : R.val < 8192
  · rw [dif_pos h]
    refine concatenate_apply_piece (t := S16384x1024) (0 : Fin 2) xs _ _ 0 (by show 0 < 3; omega) S8192x1024 f rfl rfl 0 rfl (ix2 (⟨R, h⟩ : Fin 8192) n) (fun a ha => ?_) ?_
    · match a with
      | ⟨0, _⟩ => exact absurd rfl ha
      | ⟨1, _⟩ => rfl
    · show 0 + R.val = R.val
      omega
  · rw [dif_neg h]
    by_cases h' : R.val = 8192
    · rw [dif_pos h', ← hz (ix2 (0 : Fin 1) n)]
      refine concatenate_apply_piece (t := S16384x1024) (0 : Fin 2) xs _ _ 1 (by show 1 < 3; omega) S1x1024 z rfl rfl 8192 rfl (ix2 (0 : Fin 1) n) (fun a ha => ?_) ?_
      · match a with
        | ⟨0, _⟩ => exact absurd rfl ha
        | ⟨1, _⟩ => rfl
      · show 8192 + 0 = R.val
        omega
    · rw [dif_neg h']
      have e : (⟨16384 - R.val, by omega⟩ : Fin 8192) = ⟨8191 - (⟨R.val - 8193, by omega⟩ : Fin 8191).val, by omega⟩ :=
        Fin.ext (by show 16384 - R.val = 8191 - (R.val - 8193); omega)
      rw [e, ← hb]
      refine concatenate_apply_piece (t := S16384x1024) (0 : Fin 2) xs _ _ 2 (by show 2 < 3; omega) S8191x1024 b rfl rfl 8193 rfl
        (ix2 (⟨R.val - 8193, by omega⟩ : Fin 8191) n) (fun a ha => ?_) ?_
      · match a with
        | ⟨0, _⟩ => exact absurd rfl ha
        | ⟨1, _⟩ => rfl
      · show 8193 + (R.val - 8193) = R.val
        omega

theorem result1 (ct : Fin 4) (R : Fin 16384) (q : Fin 256) : val_main_v71 (F := Ideal) x0 x1 x2 x3 x4 x5 x6 x7 x8 x9 (ix3 ct R q)
    = two x0 x1 x2 x3 x4 x5 x6 x7 x8 x9 R ⟨ct * 256 + q, by omega⟩ := by
  rw [← joined, val_main_v71_apply, val_main_v70_apply, val_main_v69_apply, val_main_v68_apply, val_main_v67_apply]
  generalize val_main_v66 (F := Ideal) x0 x1 x2 x3 x4 x5 x6 x7 x8 x9 = f
  refine congrArg f (funext fun a => Fin.ext ?_)
  have hc := ct.isLt
  have hR := R.isLt
  have hq := q.isLt
  have u : ((ct.val * 16384 + R.val) * 256 + q.val) / 4194304 % 4 = ct.val := by omega
  have v : ((ct.val * 16384 + R.val) * 256 + q.val) / 256 % 16384 = R.val := by omega
  have w : ((ct.val * 16384 + R.val) * 256 + q.val) % 256 = q.val := by omega
  match a with
  | ⟨0, _⟩ =>
    show (((0 * 16384 + ((ct.val * 16384 + R.val) * 256 + q.val) / 256 % 16384) * 4
      + ((ct.val * 16384 + R.val) * 256 + q.val) / 4194304 % 4) * 256 + ((ct.val * 16384 + R.val) * 256 + q.val) % 256) / 1024 % 16384 = R.val
    rw [u, v, w]; clear u v w; omega
  | ⟨1, _⟩ =>
    show (((0 * 16384 + ((ct.val * 16384 + R.val) * 256 + q.val) / 256 % 16384) * 4
      + ((ct.val * 16384 + R.val) * 256 + q.val) / 4194304 % 4) * 256 + ((ct.val * 16384 + R.val) * 256 + q.val) % 256) % 1024 = ct.val * 256 + q.val
    rw [u, v, w]; clear u v w; omega

/-- A sum over the lags is the forward filter's and the backward one's past its first row, whichever way the rows run. -/
theorem sum_lags (f g : Fin 8192 → EReal) (T : Fin 16384 → EReal)
    (hf : ∀ k : Fin 8192, T ⟨k, by omega⟩ = f k) (h0 : T ⟨8192, by omega⟩ = 0)
    (hg : ∀ k : Fin 8191, T ⟨8193 + k, by omega⟩ = g ⟨8191 - k, by omega⟩) :
    ∑ R, T R = ∑ k, f k + ∑ k : Fin 8191, g ⟨1 + k, by omega⟩ := by
  have e := Fin.sum_univ_add (a := 8192) (b := 8192) T
  refine e.trans (congrArg₂ (· + ·) (Finset.sum_congr rfl fun k _ => hf k) ?_)
  rw [Fin.sum_univ_succ (n := 8191), ← Equiv.sum_comp Fin.revPerm fun k : Fin 8191 => g ⟨1 + k, by omega⟩]
  refine (congrArg₂ (· + ·) (show _ = (0 : EReal) from h0) (Finset.sum_congr rfl fun k _ => ?_)).trans (zero_add _)
  refine Eq.trans (congrArg T (Fin.ext ?_)) ((hg k).trans (congrArg g (Fin.ext ?_)))
  · show 8192 + (k.val + 1) = 8193 + k.val
    omega
  · show 8191 - k.val = 1 + k.rev.val
    rw [Fin.val_rev]; omega

theorem result2 (n : Fin 1024) : val_main_v72 (F := Ideal) x0 x1 x2 x3 x4 x5 x6 x7 x8 x9 (ix2 (0 : Fin 1) n)
    = 0 + ∑ R : Fin 16384, max (two x0 x1 x2 x3 x4 x5 x6 x7 x8 x9 R n) (-two x0 x1 x2 x3 x4 x5 x6 x7 x8 x9 R n) := by
  rw [sum_lags (fun k => max (val_main_v54 (F := Ideal) x0 x1 x2 x3 x4 x5 x6 x7 x8 x9 (ix2 k n))
        (-val_main_v54 (F := Ideal) x0 x1 x2 x3 x4 x5 x6 x7 x8 x9 (ix2 k n)))
      (fun k => max (val_main_v56 (F := Ideal) x0 x1 x2 x3 x4 x5 x6 x7 x8 x9 (ix2 k n))
        (-val_main_v56 (F := Ideal) x0 x1 x2 x3 x4 x5 x6 x7 x8 x9 (ix2 k n))) _ (fun k => ?_) ?_ fun k => ?_]
  · have z6 : val_main_cst_6 (F := Ideal) (Shape.Idx.first h_S_) = 0 := Ideal.ofBits_zero_f32
    have z7 : val_main_cst_7 (F := Ideal) (Shape.Idx.first h_S_) = 0 := Ideal.ofBits_zero_f32
    unfold val_main_v72 val_main_v62 val_main_v61 val_main_v60 val_main_v59 val_main_v58 val_main_v57
    generalize val_main_v54 (F := Ideal) x0 x1 x2 x3 x4 x5 x6 x7 x8 x9 = f
    generalize val_main_v56 (F := Ideal) x0 x1 x2 x3 x4 x5 x6 x7 x8 x9 = g
    pointwise
    rw [z6, z7, zero_add, zero_add]
    rfl
  · have e : two x0 x1 x2 x3 x4 x5 x6 x7 x8 x9 ⟨8192, by omega⟩ n = 0 :=
      (dif_neg (by decide)).trans (dif_pos rfl)
    rw [e, neg_zero, max_self]
  · have e : two x0 x1 x2 x3 x4 x5 x6 x7 x8 x9 ⟨k, by omega⟩ n = val_main_v54 (F := Ideal) x0 x1 x2 x3 x4 x5 x6 x7 x8 x9 (ix2 k n) :=
      dif_pos k.isLt
    rw [e]
  · have e : two x0 x1 x2 x3 x4 x5 x6 x7 x8 x9 ⟨8193 + k, by omega⟩ n
        = val_main_v56 (F := Ideal) x0 x1 x2 x3 x4 x5 x6 x7 x8 x9 (ix2 (⟨8191 - k, by omega⟩ : Fin 8192) n) := by
      unfold two
      rw [dif_neg (by show ¬ 8193 + k.val < 8192; omega), dif_neg (by show ¬ 8193 + k.val = 8192; omega)]
      exact congrArg _ (congrArg (fun l : Fin 8192 => ix2 l n) (Fin.ext (by show 16384 - (8193 + k.val) = 8191 - k.val; omega)))
    rw [e]

end Cert.Reference4Ideal.Fm

end
-- ==== Proof.FmFinal.lean ====
/- The filters at the ideal instance are the reference's: a point's value at its lag row, the two result arrays. -/
module

public import proofs.«01_k».proof.Proof.FmBlocks
public import proofs.«01_k».proof.Proof.FmRef

@[expose] public section

set_option maxRecDepth 16384

noncomputable section

namespace Cert.Kernel4Ideal.Fm

open Idealize.ShloMosaic Idealize.ShloMosaic.TcCoe Idealize.SL.Sem
open Cert.Kernel4Ideal Cert.Kernel4Ideal.Gen Cert.Filter
open Cert.Reference4Ideal.Read (val_main_v1 val_main_v19 val_main_v27 val_main_v35 val_main_v43 val_main_v46 val_main_v71 val_main_v72)

/-- A sum whose factors are zero past the first 33 terms. -/
theorem sum_pad (f g : Fin 33 → EReal) :
    ∑ k : Fin 64, (if h : k.val < 33 then f ⟨k, h⟩ else 0) * (if h : k.val < 33 then g ⟨k, h⟩ else 0) = ∑ k, f k * g k := by
  refine (Fin.sum_univ_add (a := 33) (b := 31) fun k : Fin 64 =>
    (if h : k.val < 33 then f ⟨k, h⟩ else 0) * (if h : k.val < 33 then g ⟨k, h⟩ else 0)).trans ?_
  refine (congrArg₂ (· + ·) (Finset.sum_congr rfl fun k _ => ?_) (Finset.sum_eq_zero fun k _ => ?_)).trans (add_zero _)
  · exact congrArg₂ (· * ·) (dif_pos k.isLt) (dif_pos k.isLt)
  · have h : ¬ (Fin.natAdd 33 k).val < 33 := by rw [Fin.val_natAdd]; omega
    rw [dif_neg h, zero_mul]

/-- A layer of equal rows, weights, shifts and frequencies. -/
theorem lay_eq (x y : Fin 64 → EReal) (w v : FVec Ideal S64x64 .f32) (b f : FVec Ideal S1x64 .f32) (n : Fin 64) (b' f' : EReal)
    (hx : ∀ k, x k = y k) (hw : ∀ k, w (ix2 k n) = v (ix2 k n)) (hb : b (ix2 (0 : Fin 1) n) = b') (hf : f (ix2 (0 : Fin 1) n) = f') :
    lay x w b f n = Ideal.sin (f' * ((∑ k : Fin 64, y k * v (ix2 k n)) + b')) := by
  unfold lay
  rw [hb, hf]
  exact congrArg (fun s => Ideal.sin (f' * (s + b'))) (Finset.sum_congr rfl fun k _ => congrArg₂ (· * ·) (hx k) (hw k))

variable (m : (ℓ : Loc nD τ sig) → Buf (Elt Ideal) ℓ) (c : Dev nD)

/-- The arguments before the run. -/
abbrev aB1 : FVec Ideal S64 .f32 := m ((c : Thread nD τ).loc main_arg1)
abbrev aF1 : FVec Ideal S64 .f32 := m ((c : Thread nD τ).loc main_arg2)
abbrev aW2 : FVec Ideal S64x64 .f32 := m ((c : Thread nD τ).loc main_arg3)
abbrev aB2 : FVec Ideal S64 .f32 := m ((c : Thread nD τ).loc main_arg4)
abbrev aF2 : FVec Ideal S64 .f32 := m ((c : Thread nD τ).loc main_arg5)
abbrev aW3 : FVec Ideal S64x64 .f32 := m ((c : Thread nD τ).loc main_arg6)
abbrev aB3 : FVec Ideal S64 .f32 := m ((c : Thread nD τ).loc main_arg7)
abbrev aF3 : FVec Ideal S64 .f32 := m ((c : Thread nD τ).loc main_arg8)
abbrev aWo : FVec Ideal S64x2048 .f32 := m ((c : Thread nD τ).loc main_arg9)

theorem row1 (t : Fin cfg0.N) (r : Fin 1024) (n : Fin 64) :
    h1 (iblk m c 0 t) (iblk m c 3 t) (iblk m c 4 t) (iblk m c 5 t) r n
      = val_main_v27 (F := Ideal) (aW1 m c) (aB1 m c) (aF1 m c) (ix2 (pos (lag t r)) n) := by
  rw [Cert.Reference4Ideal.Fm.layer1]
  obtain ⟨hb, hf, -⟩ := V_rows m c n
  refine (lay_eq _ (fun k => V m c main_v33 (ix2 (lag t r) k)) _ (V m c main_v43) _ _ n _ _ (fun k => blk0 m c t r k)
    (fun k => blk3 m c t _) ((blk4 m c t _).trans hb) ((blk5 m c t _).trans hf)).trans ?_
  refine congrArg (fun s => Ideal.sin (aF1 m c (ix1 n) * (s + aB1 m c (ix1 n)))) ?_
  refine Eq.trans (Finset.sum_congr rfl fun k _ => congrArg₂ (· * ·) (V_v33 m c (lag t r) k) (V_v43 m c k n)) ?_
  exact sum_pad (fun k => val_main_v19 (F := Ideal) (ix2 (pos (lag t r)) k)) fun k => aW1 m c (ix2 k n)

theorem row2 (t : Fin cfg0.N) (r : Fin 1024) (n : Fin 64) :
    h2 (iblk m c 0 t) (iblk m c 3 t) (iblk m c 4 t) (iblk m c 5 t) (iblk m c 6 t) (iblk m c 7 t) (iblk m c 8 t) r n
      = val_main_v35 (F := Ideal) (aW1 m c) (aB1 m c) (aF1 m c) (aW2 m c) (aB2 m c) (aF2 m c) (ix2 (pos (lag t r)) n) := by
  rw [Cert.Reference4Ideal.Fm.layer2]
  obtain ⟨-, -, hb, hf, -⟩ := V_rows m c n
  exact lay_eq _ (fun k => val_main_v27 (F := Ideal) (aW1 m c) (aB1 m c) (aF1 m c) (ix2 (pos (lag t r)) k)) _ (aW2 m c) _ _ n _ _
    (fun k => row1 m c t r k) (fun k => (blk6 m c t _).trans (congrFun (V_main_arg3 m c) _))
    ((blk7 m c t _).trans hb) ((blk8 m c t _).trans hf)

theorem row3 (t : Fin cfg0.N) (r : Fin 1024) (n : Fin 64) :
    h3 (iblk m c 0 t) (iblk m c 3 t) (iblk m c 4 t) (iblk m c 5 t) (iblk m c 6 t) (iblk m c 7 t) (iblk m c 8 t) (iblk m c 9 t)
      (iblk m c 10 t) (iblk m c 11 t) r n
      = val_main_v43 (F := Ideal) (aW1 m c) (aB1 m c) (aF1 m c) (aW2 m c) (aB2 m c) (aF2 m c) (aW3 m c) (aB3 m c) (aF3 m c)
          (ix2 (pos (lag t r)) n) := by
  rw [Cert.Reference4Ideal.Fm.layer3]
  obtain ⟨-, -, -, -, hb, hf⟩ := V_rows m c n
  exact lay_eq _ (fun k => val_main_v35 (F := Ideal) (aW1 m c) (aB1 m c) (aF1 m c) (aW2 m c) (aB2 m c) (aF2 m c) (ix2 (pos (lag t r)) k))
    _ (aW3 m c) _ _ n _ _
    (fun k => row2 m c t r k) (fun k => (blk9 m c t _).trans (congrFun (V_main_arg6 m c) _))
    ((blk10 m c t _).trans hb) ((blk11 m c t _).trans hf)

/-- The two-sided filter over the arguments. -/
abbrev filt (R : Fin 16384) (n : Fin 1024) : EReal :=
  Cert.Reference4Ideal.Fm.two (aW1 m c) (aB1 m c) (aF1 m c) (aW2 m c) (aB2 m c) (aF2 m c) (aW3 m c) (aB3 m c) (aF3 m c) (aWo m c) R n

variable (hw : ∀ i, aWo m c i ≠ ⊤)

include hw in
/-- The last product at a row, for last weights short of +∞. -/
theorem prod (t : Fin cfg0.N) (r : Fin 1024) (n : Fin 1024) :
    dots (fun k : Fin 64 => h3 (iblk m c 0 t) (iblk m c 3 t) (iblk m c 4 t) (iblk m c 5 t) (iblk m c 6 t) (iblk m c 7 t) (iblk m c 8 t)
      (iblk m c 9 t) (iblk m c 10 t) (iblk m c 11 t) r k) (fun k => (iblk m c 12 t) (ix2 k n))
      = ∑ k : Fin 64, val_main_v43 (F := Ideal) (aW1 m c) (aB1 m c) (aF1 m c) (aW2 m c) (aB2 m c) (aF2 m c) (aW3 m c) (aB3 m c) (aF3 m c)
          (ix2 (pos (lag t r)) k) * aWo m c (ix2 k (half t n)) := by
  have e : ∀ k : Fin 64, (iblk m c 12 t) (ix2 k n) = aWo m c (ix2 k (half t n)) :=
    fun k => (blk12 m c t k n).trans (congrFun (V_main_arg9 m c) _)
  refine (dots_below _ _ (fun k => sin_ne_top _) (fun k => ?_)).trans ?_
  · exact (e k).trans_ne (hw _)
  · exact Finset.sum_congr rfl fun k _ => congrArg₂ (· * ·) (row3 m c t r k) (e k)

theorem fade (t : Fin cfg0.N) (r : Fin 1024) (n : Fin 1024) :
    Ideal.exp ((0 - (iblk m c 1 t) (ix2 r (0 : Fin 1))) * (iblk m c 2 t) (ix2 (0 : Fin 1) n))
      = Cert.Reference4Ideal.Fm.decay (pos (lag t r)) n := by
  unfold Cert.Reference4Ideal.Fm.decay
  refine congrArg Ideal.exp (congrArg₂ (· * ·) ((congrArg (fun x : EReal => 0 - x) ((blk1 m c t r).trans (V_v40 m c (lag t r)))).trans
    (zero_sub _)) ((blk2 m c t _).trans (V_v44 m c n)))

include hw in
/-- A point's value is the filter at its lag row. -/
theorem pval_eq (t : Fin cfg0.N) (r n : Fin 1024) : pval m c t r n = filt m c (lag t r) n := by
  have ht := lt_of_lt_of_eq t.isLt (show cfg0.N = 16 from N_0)
  have hp := prod m c hw t r n
  have hd := fade m c t r n
  unfold pval val filt Cert.Reference4Ideal.Fm.two
  rw [hp, hd, co0, co1]
  by_cases h8 : t.val < 8
  · have hl : (lag t r).val < 8192 := by show t.val * 1024 + r.val < 8192; omega
    have hh : half t n = (⟨n, by omega⟩ : Fin 2048) := Fin.ext (by show t.val / 8 * 1024 + n.val = n.val; omega)
    have hpos : pos (lag t r) = ⟨lag t r, hl⟩ := dif_pos hl
    rw [if_neg (by omega), dif_pos hl, hh, hpos, Cert.Reference4Ideal.Fm.fwd]
  · have hl : ¬ (lag t r).val < 8192 := by show ¬ t.val * 1024 + r.val < 8192; omega
    rw [dif_neg hl]
    by_cases h0 : (lag t r).val = 8192
    · have h0' : t.val * 1024 + r.val = 8192 := h0
      rw [dif_pos h0, if_pos (by omega)]
    · have h0' : ¬ t.val * 1024 + r.val = 8192 := h0
      have hh : half t n = (⟨1024 + n, by omega⟩ : Fin 2048) := Fin.ext (by show t.val / 8 * 1024 + n.val = 1024 + n.val; omega)
      have hpos : pos (lag t r) = ⟨16384 - lag t r, by omega⟩ := (dif_neg hl).trans (Fin.ext (by
        show (8192 - (t.val * 1024 + r.val - 8192)) % 8192 = 16384 - (t.val * 1024 + r.val); omega))
      rw [dif_neg h0, if_neg (by omega), hh, hpos, Cert.Reference4Ideal.Fm.bwd]

set_option maxHeartbeats 1600000 in
include hw in
/-- The first result is the reference's. -/
theorem final1 : (dats m 0 c).arrAt 13 cfg0.N
    = val_main_v71 (F := Ideal) (aW1 m c) (aB1 m c) (aF1 m c) (aW2 m c) (aB2 m c) (aF2 m c) (aW3 m c) (aB3 m c) (aF3 m c) (aWo m c) := by
  refine (dats m 0 c).arrAt_eq_of_covers 13 _ (by decide +kernel) fun t _ y => ?_
  blk_simp
  rw [after0_13]
  have h0 : (y 0).val < 4 := (y 0).isLt
  have h1 : (y 1).val < 1024 := (y 1).isLt
  have h2 : (y 2).val < 256 := (y 2).isLt
  have e : y = ix3 (⟨(y 0).val, h0⟩ : Fin 4) (⟨(y 1).val, h1⟩ : Fin 1024) (⟨(y 2).val, h2⟩ : Fin 256) := by
    refine funext fun j => ?_
    match j with
    | 0 => rfl
    | 1 => rfl
    | 2 => rfl
  rw [e]
  generalize (⟨(y 0).val, h0⟩ : Fin 4) = ct
  generalize (⟨(y 1).val, h1⟩ : Fin 1024) = r
  generalize (⟨(y 2).val, h2⟩ : Fin 256) = q
  refine (first m c t ct r q).trans ((pval_eq m c hw t r _).trans ?_)
  refine (Cert.Reference4Ideal.Fm.result1 (aW1 m c) (aB1 m c) (aF1 m c) (aW2 m c) (aB2 m c) (aF2 m c) (aW3 m c) (aB3 m c) (aF3 m c) (aWo m c)
    ct (lag t r) q).symm.trans ?_
  generalize val_main_v71 (F := Ideal) (aW1 m c) (aB1 m c) (aF1 m c) (aW2 m c) (aB2 m c) (aF2 m c) (aW3 m c) (aB3 m c) (aF3 m c) (aWo m c) = v
  blk_ext [idx t] <;> simp only [lag, Nat.add_zero]

include hw in
/-- The points' shares are the sum over the lags. -/
theorem shares (n : Fin 1024) :
    ∑ t : Fin cfg0.N, share m c t (ix2 (0 : Fin 1) n) = ∑ R : Fin 16384, max (filt m c R n) (-filt m c R n) := by
  have e : ∀ t : Fin cfg0.N, share m c t (ix2 (0 : Fin 1) n)
      = ∑ r : Fin 1024, max (filt m c (lag t r) n) (-filt m c (lag t r) n) := fun t =>
    Finset.sum_congr rfl fun r _ => congrArg (fun x : EReal => max x (-x)) (pval_eq m c hw t r n)
  rw [Finset.sum_congr rfl fun t _ => e t]
  generalize filt m c = f
  exact Fin.sum_mul_add_congr (fun t r hl => rfl) (show 16384 = cfg0.N * 1024 by rw [show cfg0.N = 16 from N_0])

set_option maxHeartbeats 1600000 in
include hw in
/-- The second result is the reference's. -/
theorem final2 : (dats m 0 c).arrAt 14 cfg0.N
    = val_main_v72 (F := Ideal) (aW1 m c) (aB1 m c) (aF1 m c) (aW2 m c) (aB2 m c) (aF2 m c) (aW3 m c) (aB3 m c) (aF3 m c) (aWo m c) := by
  refine (dats m 0 c).arrAt_eq_of_covers 14 _ (by decide +kernel) fun t hf y => ?_
  have ht := lt_of_lt_of_eq t.isLt (show cfg0.N = 16 from N_0)
  have h15 : t.val = 15 := by have := (flush0_14 t).mp hf; omega
  blk_simp
  rw [after0_14]
  have h1 : (y 1).val < 1024 := (y 1).isLt
  have h0 : (y 0).val < 1 := (y 0).isLt
  have e : y = ix2 (0 : Fin 1) (⟨(y 1).val, h1⟩ : Fin 1024) := by
    refine funext fun j => ?_
    match j with
    | 0 => exact Fin.ext (by show (y 0).val = 0; omega)
    | 1 => rfl
  rw [e]
  generalize (⟨(y 1).val, h1⟩ : Fin 1024) = n
  refine (second m c t h15 _).trans ((congrArg (fun x : EReal => 0 + x) (shares m c hw n)).trans ?_)
  refine (Cert.Reference4Ideal.Fm.result2 (aW1 m c) (aB1 m c) (aF1 m c) (aW2 m c) (aB2 m c) (aF2 m c) (aW3 m c) (aB3 m c) (aF3 m c) (aWo m c)
    n).symm.trans ?_
  generalize val_main_v72 (F := Ideal) (aW1 m c) (aB1 m c) (aF1 m c) (aW2 m c) (aB2 m c) (aF2 m c) (aW3 m c) (aB3 m c) (aF3 m c) (aWo m c) = v
  blk_ext [idx t]

end Cert.Kernel4Ideal.Fm

end
-- ==== Proof.ClaimFm.lean ====
/- The claims about the filters: the reference's frame, and that the results are the reference's. -/
module

public import proofs.«01_k».proof.Defs
public import proofs.«01_k».proof.Proof.FmFinal
public import proofs.«01_k».proof.Proof.Gen.Pre_below_inf
public import proofs.«01_k».proof.Proof.Gen.Reference4Ideal.Run
public import proofs.«01_k».proof.Proof.Gen.Reference4Ideal.Read
public import Idealize.ShloMosaic.Lib.Claim
public import Idealize.ShloMosaic.Lib.Quiescent

@[expose] public section

set_option maxRecDepth 65536

noncomputable section

open Idealize.ShloMosaic Idealize.ShloMosaic.TcCoe Idealize.SL.Sem

namespace Cert.Proof

/-- The fourth reference's frame. -/
theorem frame_ref4 : @Cert.quiescent_Reference4Ideal Cert.Reference4Ideal.Gen.facts := by
  intro m g _
  refine θ_run_mono (Cert.Reference4Ideal.Value.run m g) fun r h => ⟨fun c => (h c).2.2, ?_⟩
  exact sem_eq_zero_of_no_sems (by decide) _

/-- An extended real below infinity, as the precondition compares them. -/
theorem below_of_mask (x : EReal) (h : Ideal.cmp .olt x (Ideal.ofBits .f32 0x7F800000#32) = 1#1) : x ≠ ⊤ := by
  have ht : Ideal.ofBits .f32 0x7F800000#32 = ⊤ := by simp [Ideal.ofBits, Ideal.ieee]
  rw [ht] at h
  have hb : ∀ p : Bool, BitVec.ofBool p = 1#1 → p = true := by decide
  exact ne_of_lt (of_decide_eq_true (hb _ h))

/-- The last weights are short of +∞ under the precondition. -/
theorem below_out (m : (ℓ : Loc Cert.Kernel4Ideal.nD Cert.Kernel4Ideal.τ Cert.Kernel4Ideal.sig) → Buf (Elt Ideal) ℓ)
    (hpre : @Cert.Pre_Kernel4Ideal_below_inf Cert.Pre_below_inf.Gen.facts m) (c : Dev Cert.Kernel4Ideal.nD)
    (i : Cert.Kernel4Ideal.S64x2048.Idx) : Cert.Kernel4Ideal.Fm.aWo m c i ≠ ⊤ :=
  below_of_mask _ (congrFun (hpre c) i)

set_option maxHeartbeats 1600000 in
/-- The fourth value claim. -/
theorem value_fm : @Cert.algebraic_Kernel4Ideal_Reference4Ideal_pre_below_inf Cert.Kernel4Ideal.Gen.facts
    Cert.Reference4Ideal.Gen.facts Cert.Pre_below_inf.Gen.facts := by
  pair_intro
  · run_from Cert.Kernel4Ideal.Value.run_blocks m g
  · run_from Cert.Reference4Ideal.Value.run m' g'
    · rw [Cert.Reference4Ideal.Read.val_main_v71_eq]
      obtain ⟨h0, h1, h2, h3, h4, h5, h6, h7, h8, h9⟩ := hagree c
      rw [h0, h1, h2, h3, h4, h5, h6, h7, h8, h9]
      exact (Cert.Kernel4Ideal.Fm.final1 m c (below_out m hpre c)).symm
    · rw [Cert.Reference4Ideal.Read.val_main_v72_eq]
      obtain ⟨h0, h1, h2, h3, h4, h5, h6, h7, h8, h9⟩ := hagree c
      rw [h0, h1, h2, h3, h4, h5, h6, h7, h8, h9]
      exact (Cert.Kernel4Ideal.Fm.final2 m c (below_out m hpre c)).symm

end Cert.Proof

end
-- ==== Proof.lean ====
/- The proof of the certificate: each program's frame, and for the four kernels that the results are the reference's.
   The mathematics is in the modules imported below; here the claims are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Launch
public import proofs.«01_k».proof.Proof.Gen.Kernel3.Skeleton
public import proofs.«01_k».proof.Proof.Gen.Kernel3.Loops
public import proofs.«01_k».proof.Proof.Gen.Kernel3.Points
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_below_inf
public import proofs.«01_k».proof.Proof.ClaimRef
public import proofs.«01_k».proof.Proof.ClaimRef2
public import proofs.«01_k».proof.Proof.ClaimIn
public import proofs.«01_k».proof.Proof.ClaimOut
public import proofs.«01_k».proof.Proof.LcBits
public import proofs.«01_k».proof.Proof.ClaimLc
public import proofs.«01_k».proof.Proof.ClaimFm
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_below_inf.Gen.facts, by
  exact ⟨fun m ρ _ => Cert.Kernel.Gen.frame m ρ, fun m ρ _ => Cert.KernelIdeal.Gen.frame m ρ, frame_ref,
    fun m ρ _ => Cert.Kernel2.Gen.frame m ρ, fun m ρ _ => Cert.Kernel2Ideal.Gen.frame m ρ, frame_ref2,
    frame_lc, fun m ρ _ => Cert.Kernel3Ideal.Conv.frame m ρ, fun m ρ _ => Cert.Kernel3Ideal.Conv.frame m ρ,
    frame_ref3, fun m ρ _ => frame_ref3 m ρ trivial,
    fun m ρ _ => Cert.Kernel4.Gen.frame m ρ, fun m ρ _ => Cert.Kernel4Ideal.Gen.frame m ρ, fun m ρ _ => Cert.Kernel4Ideal.Gen.frame m ρ,
    frame_ref4, fun m ρ _ => frame_ref4 m ρ trivial,
    trivial, value_in, trivial, value_out, trivial, value_lc, trivial, value_fm⟩⟩

end Cert.Proof

end
